-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_positions_pre_finite [hKernelIdeal : Cert.KernelIdeal.Facts] [hReferenceIdeal : Cert.ReferenceIdeal.Facts] [hPre_finite : Cert.Pre_finite.Facts] [hOn_positions : Cert.On_positions.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![16896, 2048]⟩ : Shape).Idx, (Cert.On_positions.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.KernelIdeal.nD Cert.KernelIdeal.τ).loc Cert.KernelIdeal.main_v9) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![16896, 2048]⟩ : Shape).Idx, (Cert.On_positions.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.ReferenceIdeal.nD Cert.ReferenceIdeal.τ).loc Cert.ReferenceIdeal.main_v36) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_on_columns [hKernel8Ideal : Cert.Kernel8Ideal.Facts] [hReference8Ideal : Cert.Reference8Ideal.Facts] [hOn_columns : Cert.On_columns.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v10)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          (∀ i : (⟨2, ![16896, 2304]⟩ : Shape).Idx, (Cert.On_columns.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))) i = 1#1 → r.2.mem ((c.tc : Thread Cert.Kernel8Ideal.nD Cert.Kernel8Ideal.τ).loc Cert.Kernel8Ideal.main_v10) i = v0 c i)
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          (∀ i : (⟨2, ![16896, 2304]⟩ : Shape).Idx, (Cert.On_columns.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))) i = 1#1 → r.2.mem ((c.tc : Thread Cert.Reference8Ideal.nD Cert.Reference8Ideal.τ).loc Cert.Reference8Ideal.main_v14) i = v0 c i)
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v16) = v0 c
          ∧ r.2.mem ((c.tc : Thread Cert.Reference10Ideal.nD Cert.Reference10Ideal.τ).loc Cert.Reference10Ideal.main_v30) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v16) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v9_0)) (v1 : (c : Dev Cert.Kernel12Ideal.nD) → Buf (Elt Ideal) ((c.tc : Thread Cert.Kernel12Ideal.nD Cert.Kernel12Ideal.τ).loc Cert.Kernel12Ideal.main_v9_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v9_0) = v0 c
          ∧ r.2.mem ((c.tc : Thread Cert.Kernel12Ideal.nD Cert.Kernel12Ideal.τ).loc Cert.Kernel12Ideal.main_v9_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v36) = v0 c
          ∧ r.2.mem ((c.tc : Thread Cert.Reference12Ideal.nD Cert.Reference12Ideal.τ).loc Cert.Reference12Ideal.main_v37) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hOn_positions : Cert.On_positions.Facts) (hOn_columns : Cert.On_columns.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_on_positions_pre_finite (hKernelIdeal := hKernelIdeal) (hReferenceIdeal := hReferenceIdeal) (hPre_finite := hPre_finite) (hOn_positions := hOn_positions)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_on_columns (hKernel8Ideal := hKernel8Ideal) (hReference8Ideal := hReference8Ideal) (hOn_columns := hOn_columns)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== On_columns.lean ====
abbrev S16896x4096 : Shape := ⟨2, ![16896, 4096]⟩
abbrev S4096x8264 : Shape := ⟨2, ![4096, 8264]⟩
abbrev S16896x2304 : Shape := ⟨2, ![16896, 2304]⟩
abbrev S_ : Shape := ⟨0, ![]⟩

class Facts : Prop where
  bcast_S_S16896x2304 : S_.BroadcastsInDim S16896x2304 (![] : Fin 0 → Fin S16896x2304.rank)

variable [Facts]

def fn {F : FTy → Type} [FloatOps F] (main_arg0 : FVec F S16896x4096 .bf16) (main_arg1 : FVec F S4096x8264 .bf16) : IVec S16896x2304 1 :=
  let main_v0 : IVec S16896x2304 32 := iotaInDim S16896x2304 32 1
  let main_c : IVec S_ 32 := constantI S_ 32 2240#32
  let main_v1 : IVec S16896x2304 32 := broadcastInDim S16896x2304 ![] bcast_S_S16896x2304 main_c
  let main_v2 : IVec S16896x2304 1 := cmpi .slt main_v0 main_v1
  main_v2
-- ==== On_positions.lean ====
abbrev S4096x16896 : Shape := ⟨2, ![4096, 16896]⟩
abbrev S16896x4096 : Shape := ⟨2, ![16896, 4096]⟩
abbrev S16x22x128x768 : Shape := ⟨4, ![16, 22, 128, 768]⟩
abbrev S16896x2048 : Shape := ⟨2, ![16896, 2048]⟩
abbrev S_ : Shape := ⟨0, ![]⟩

class Facts : Prop where
  bcast_S_S16896x2048 : S_.BroadcastsInDim S16896x2048 (![] : Fin 0 → Fin S16896x2048.rank)

variable [Facts]

def fn {F : FTy → Type} [FloatOps F] (main_arg0 : FVec F S4096x16896 .f32) (main_arg1 : FVec F S16896x4096 .bf16) (main_arg2 : FVec F S16x22x128x768 .bf16) : IVec S16896x2048 1 :=
  let main_v0 : IVec S16896x2048 32 := iotaInDim S16896x2048 32 0
  let main_c : IVec S_ 32 := constantI S_ 32 496#32
  let main_v1 : IVec S16896x2048 32 := broadcastInDim S16896x2048 ![] bcast_S_S16896x2048 main_c
  let main_v2 : IVec S16896x2048 1 := cmpi .sge main_v0 main_v1
  main_v2
-- ==== Pre_finite.lean ====
abbrev S4096x16896 : Shape := ⟨2, ![4096, 16896]⟩
abbrev S16896x4096 : Shape := ⟨2, ![16896, 4096]⟩
abbrev S16x22x128x768 : Shape := ⟨4, ![16, 22, 128, 768]⟩
abbrev S_ : Shape := ⟨0, ![]⟩

class Facts : Prop where
  bitsLt_bf16_f32 : FTy.bits .bf16 < FTy.bits .f32
  bcast_S_S4096x16896 : S_.BroadcastsInDim S4096x16896 (![] : Fin 0 → Fin S4096x16896.rank)
  reducesTo_S4096x16896_S_d0_1 : S4096x16896.ReducesTo [0, 1] S_
  h_S_ : 0 < S_.numel
  bcast_S_S16896x4096 : S_.BroadcastsInDim S16896x4096 (![] : Fin 0 → Fin S16896x4096.rank)
  reducesTo_S16896x4096_S_d0_1 : S16896x4096.ReducesTo [0, 1] S_

variable [Facts]

def fn {F : FTy → Type} [FloatOps F] (main_arg0 : FVec F S4096x16896 .f32) (main_arg1 : FVec F S16896x4096 .bf16) (main_arg2 : FVec F S16x22x128x768 .bf16) : IVec S_ 1 :=
  let main_v0 : FVec F S16896x4096 .f32 := (extf .f32 · bitsLt_bf16_f32) main_arg1
  let main_cst : FVec F S_ .f32 := constant S_ .f32 0x7F800000#32
  let main_v1 : FVec F S4096x16896 .f32 := broadcastInDim S4096x16896 ![] bcast_S_S4096x16896 main_cst
  let main_v2 : IVec S4096x16896 1 := cmpf .olt main_arg0 main_v1
  let main_cst_0 : FVec F S_ .f32 := constant S_ .f32 0xFF800000#32
  let main_v3 : FVec F S4096x16896 .f32 := broadcastInDim S4096x16896 ![] bcast_S_S4096x16896 main_cst_0
  let main_v4 : IVec S4096x16896 1 := cmpf .ogt main_arg0 main_v3
  let main_v5 : IVec S4096x16896 1 := andi main_v2 main_v4
  let main_c : IVec S_ 1 := constantI S_ 1 1#1
  let main_v6 : IVec S_ 1 := (fun x v => Host.reduce IntOp.andi x v reducesTo_S4096x16896_S_d0_1 h_S_) main_v5 main_c
  let main_cst_1 : FVec F S_ .f32 := constant S_ .f32 0x7F800000#32
  let main_v7 : FVec F S16896x4096 .f32 := broadcastInDim S16896x4096 ![] bcast_S_S16896x4096 main_cst_1
  let main_v8 : IVec S16896x4096 1 := cmpf .olt main_v0 main_v7
  let main_cst_2 : FVec F S_ .f32 := constant S_ .f32 0xFF800000#32
  let main_v9 : FVec F S16896x4096 .f32 := broadcastInDim S16896x4096 ![] bcast_S_S16896x4096 main_cst_2
  let main_v10 : IVec S16896x4096 1 := cmpf .ogt main_v0 main_v9
  let main_v11 : IVec S16896x4096 1 := andi main_v8 main_v10
  let main_c_3 : IVec S_ 1 := constantI S_ 1 1#1
  let main_v12 : IVec S_ 1 := (fun x v => Host.reduce IntOp.andi x v reducesTo_S16896x4096_S_d0_1 h_S_) main_v11 main_c_3
  let main_v13 : IVec S_ 1 := andi main_v6 main_v12
  main_v13
-- ==== Kernel.lean ====
abbrev S4096x16896 : Shape := ⟨2, ![4096, 16896]⟩
abbrev S16896x4096 : Shape := ⟨2, ![16896, 4096]⟩
abbrev S16x22x128x768 : Shape := ⟨4, ![16, 22, 128, 768]⟩
abbrev S_ : Shape := ⟨0, ![]⟩
abbrev S16x22x16x768 : Shape := ⟨4, ![16, 22, 16, 768]⟩
abbrev S16x22x144x768 : Shape := ⟨4, ![16, 22, 144, 768]⟩
abbrev S16896x2048 : Shape := ⟨2, ![16896, 2048]⟩
abbrev S256x1536 : Shape := ⟨2, ![256, 1536]⟩
abbrev S16896x256 : Shape := ⟨2, ![16896, 256]⟩
abbrev S1x22x144x768 : Shape := ⟨4, ![1, 22, 144, 768]⟩
abbrev S1536x128 : Shape := ⟨2, ![1536, 128]⟩
abbrev S3x1x512 : Shape := ⟨3, ![3, 1, 512]⟩
abbrev S3x144x512 : Shape := ⟨3, ![3, 144, 512]⟩
abbrev S3x768x512 : Shape := ⟨3, ![3, 768, 512]⟩
abbrev S768x256 : Shape := ⟨2, ![768, 256]⟩
abbrev S256x512 : Shape := ⟨2, ![256, 512]⟩
abbrev S768x512 : Shape := ⟨2, ![768, 512]⟩
abbrev S1x768x512 : Shape := ⟨3, ![1, 768, 512]⟩
abbrev S512 : Shape := ⟨1, ![512]⟩
abbrev S1x512 : Shape := ⟨2, ![1, 512]⟩
abbrev S1x1x512 : Shape := ⟨3, ![1, 1, 512]⟩
abbrev S1x144x512 : Shape := ⟨3, ![1, 144, 512]⟩
abbrev S144x512 : Shape := ⟨2, ![144, 512]⟩
abbrev S1x1x144x768 : Shape := ⟨4, ![1, 1, 144, 768]⟩
abbrev S144x768 : Shape := ⟨2, ![144, 768]⟩
abbrev S256x256 : Shape := ⟨2, ![256, 256]⟩
abbrev S1x256x512 : Shape := ⟨3, ![1, 256, 512]⟩
abbrev S1x1x144x256 : Shape := ⟨4, ![1, 1, 144, 256]⟩
abbrev S144x256 : Shape := ⟨2, ![144, 256]⟩
abbrev S1x128x512 : Shape := ⟨3, ![1, 128, 512]⟩
abbrev S128x512 : Shape := ⟨2, ![128, 512]⟩
abbrev S512x128 : Shape := ⟨2, ![512, 128]⟩

abbrev nBuf : Space → Nat
  | .hbm => 17
  | .vmem => 14
  | .smem => 0
  | _ => 0

abbrev bufTy : (tb : Table) → Fin (tcTables nBuf tb) → BufTy
  | .hbm, ⟨0, _⟩ => ⟨S4096x16896, .f32⟩
  | .hbm, ⟨1, _⟩ => ⟨S16896x4096, .bf16⟩
  | .hbm, ⟨2, _⟩ => ⟨S16x22x128x768, .bf16⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x16896, .f32⟩
  | .hbm, ⟨11, _⟩ => ⟨S4096x16896, .f32⟩
  | .hbm, ⟨12, _⟩ => ⟨S4096x16896, .bf16⟩
  | .hbm, ⟨13, _⟩ => ⟨S_, .bf16⟩
  | .hbm, ⟨14, _⟩ => ⟨S16x22x16x768, .bf16⟩
  | .hbm, ⟨15, _⟩ => ⟨S16x22x144x768, .bf16⟩
  | .hbm, ⟨16, _⟩ => ⟨S16896x2048, .bf16⟩
  | .local _ .vmem, ⟨0, _⟩ => ⟨S256x1536, .bf16⟩
  | .local _ .vmem, ⟨1, _⟩ => ⟨S256x1536, .bf16⟩
  | .local _ .vmem, ⟨2, _⟩ => ⟨S16896x256, .bf16⟩
  | .local _ .vmem, ⟨3, _⟩ => ⟨S16896x256, .bf16⟩
  | .local _ .vmem, ⟨4, _⟩ => ⟨S1x22x144x768, .bf16⟩
  | .local _ .vmem, ⟨5, _⟩ => ⟨S1x22x144x768, .bf16⟩
  | .local _ .vmem, ⟨6, _⟩ => ⟨S1536x128, .bf16⟩
  | .local _ .vmem, ⟨7, _⟩ => ⟨S1536x128, .bf16⟩
  | .local _ .vmem, ⟨8, _⟩ => ⟨S3x1x512, .f32⟩
  | .local _ .vmem, ⟨9, _⟩ => ⟨S3x144x512, .f32⟩
  | .local _ .vmem, ⟨10, _⟩ => ⟨S3x768x512, .f32⟩
  | .local _ .vmem, ⟨11, _⟩ => ⟨S3x768x512, .f32⟩
  | .local _ .vmem, ⟨12, _⟩ => ⟨S3x1x512, .f32⟩
  | .local _ .vmem, ⟨13, _⟩ => ⟨S3x1x512, .f32⟩
  | _, _ => ⟨S4096x16896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c1_i32_49 : BitVec 32 := 1#32
  let v89 : BitVec 1 := Scalar.cmpi .sgt arg1 c1_i32_49
  let v90 : BitVec 32 := Scalar.extui v89
  let c0_i32_50 : BitVec 32 := 0#32
  let v91 : BitVec 1 := Scalar.cmpi .ne v90 c0_i32_50
  v91

@[reducible] def k0_t1_loop (i : grid0.Coords) : Scf.Loop 32 :=
  let c1_i32_430 : BitVec 32 := 1#32
  let arg1 : BitVec 32 := BitVec.ofNat 32 (i 1).val
  let c1_i32_428 : BitVec 32 := 1#32
  let v556 : BitVec 32 := Scalar.subi arg1 c1_i32_428
  let v557 : BitVec 32 := Scalar.subi v556 c1_i32_430
  let c1_i32_431 : BitVec 32 := 1#32
  let v559 : BitVec 32 := Scalar.divsi v557 c1_i32_431
  let v560 : BitVec 32 := Scalar.muli v559 c1_i32_431
  let v561 : BitVec 32 := Scalar.addi c1_i32_430 v560
  let c1_i32_432 : BitVec 32 := 1#32
  ⟨c1_i32_430, v561, c1_i32_432⟩
def k0_mult1 (i : grid0.Coords) (k0_t1 : Fin (k0_t1_loop i).trips) : BitVec 32 :=
  let c2_i32_657 : BitVec 32 := 2#32
  let c1_i32_430 : BitVec 32 := 1#32
  let c1_i32_432 : BitVec 32 := 1#32
  let arg12 : BitVec 32 := Scf.iv c1_i32_430 c1_i32_432 k0_t1
  let v865 : BitVec 32 := Scalar.muli c2_i32_657 arg12
  let c1_i32_658 : BitVec 32 := 1#32
  let v866 : BitVec 32 := Scalar.addi v865 c1_i32_658
  let c768_i32_659 : BitVec 32 := 768#32
  let v867 : BitVec 32 := Scalar.muli v866 c768_i32_659
  v867
def k0_off1 (i : grid0.Coords) (k0_t1 : Fin (k0_t1_loop i).trips) (c1_i32_658 : BitVec 32) : Fin 2 → Nat :=
  let c2_i32_657 : BitVec 32 := 2#32
  let c1_i32_430 : BitVec 32 := 1#32
  let c1_i32_432 : BitVec 32 := 1#32
  let arg12 : BitVec 32 := Scf.iv c1_i32_430 c1_i32_432 k0_t1
  let v865 : BitVec 32 := Scalar.muli c2_i32_657 arg12
  let v866 : BitVec 32 := Scalar.addi v865 c1_i32_658
  let c768_i32_659 : BitVec 32 := 768#32
  let v867 : BitVec 32 := Scalar.muli v866 c768_i32_659
  let v868 : BitVec 32 := v867
  let v869 : Index := Scalar.indexCast v868
  let c0_660 : Index := 0#32
  ![v869.toNat, 0]
def k0_off2 (i : grid0.Coords) (k0_t1 : Fin (k0_t1_loop i).trips) : Fin 4 → Nat :=
  let c0_706 : Index := 0#32
  let c2_i32_693 : BitVec 32 := 2#32
  let c1_i32_430 : BitVec 32 := 1#32
  let c1_i32_432 : BitVec 32 := 1#32
  let arg12 : BitVec 32 := Scf.iv c1_i32_430 c1_i32_432 k0_t1
  let v908 : BitVec 32 := Scalar.muli c2_i32_693 arg12
  let v925 : Index := Scalar.indexCast v908
  let c0_707 : Index := 0#32
  let c0_708 : Index := 0#32
  ![0, v925.toNat, 0, 0]
def k0_mult2 (i : grid0.Coords) (k0_t1 : Fin (k0_t1_loop i).trips) : BitVec 32 :=
  let c2_i32_760 : BitVec 32 := 2#32
  let c1_i32_430 : BitVec 32 := 1#32
  let c1_i32_432 : BitVec 32 := 1#32
  let arg12 : BitVec 32 := Scf.iv c1_i32_430 c1_i32_432 k0_t1
  let v993 : BitVec 32 := Scalar.muli c2_i32_760 arg12
  let c2_i32_761 : BitVec 32 := 2#32
  let v994 : BitVec 32 := Scalar.addi v993 c2_i32_761
  let c768_i32_762 : BitVec 32 := 768#32
  let v995 : BitVec 32 := Scalar.muli v994 c768_i32_762
  v995
def k0_off3 (i : grid0.Coords) (k0_t1 : Fin (k0_t1_loop i).trips) : Fin 4 → Nat :=
  let c0_810 : Index := 0#32
  let c2_i32_796 : BitVec 32 := 2#32
  let c1_i32_430 : BitVec 32 := 1#32
  let c1_i32_432 : BitVec 32 := 1#32
  let arg12 : BitVec 32 := Scf.iv c1_i32_430 c1_i32_432 k0_t1
  let v1036 : BitVec 32 := Scalar.muli c2_i32_796 arg12
  let c1_i32_797 : BitVec 32 := 1#32
  let v1037 : BitVec 32 := Scalar.addi v1036 c1_i32_797
  let v1054 : Index := Scalar.indexCast v1037
  let c0_811 : Index := 0#32
  let c0_812 : Index := 0#32
  ![0, v1054.toNat, 0, 0]
@[reducible] def k0_t2_loop (i : grid0.Coords) : Scf.Loop 32 :=
  let c1_i32_430 : BitVec 32 := 1#32
  let arg1 : BitVec 32 := BitVec.ofNat 32 (i 1).val
  let c1_i32_428 : BitVec 32 := 1#32
  let v556 : BitVec 32 := Scalar.subi arg1 c1_i32_428
  let v557 : BitVec 32 := Scalar.subi v556 c1_i32_430
  let c1_i32_431 : BitVec 32 := 1#32
  let v559 : BitVec 32 := Scalar.divsi v557 c1_i32_431
  let v560 : BitVec 32 := Scalar.muli v559 c1_i32_431
  let v561 : BitVec 32 := Scalar.addi c1_i32_430 v560
  let v558 : BitVec 32 := Scalar.addi c1_i32_430 v557
  let c1_i32_433 : BitVec 32 := 1#32
  ⟨v561, v558, c1_i32_433⟩
def k0_mult3 (i : grid0.Coords) (k0_t2 : Fin (k0_t2_loop i).trips) : BitVec 32 :=
  let c2_i32_657 : BitVec 32 := 2#32
  let c1_i32_430 : BitVec 32 := 1#32
  let arg1 : BitVec 32 := BitVec.ofNat 32 (i 1).val
  let c1_i32_428 : BitVec 32 := 1#32
  let v556 : BitVec 32 := Scalar.subi arg1 c1_i32_428
  let v557 : BitVec 32 := Scalar.subi v556 c1_i32_430
  let c1_i32_431 : BitVec 32 := 1#32
  let v559 : BitVec 32 := Scalar.divsi v557 c1_i32_431
  let v560 : BitVec 32 := Scalar.muli v559 c1_i32_431
  let v561 : BitVec 32 := Scalar.addi c1_i32_430 v560
  let c1_i32_433 : BitVec 32 := 1#32
  let arg12 : BitVec 32 := Scf.iv v561 c1_i32_433 k0_t2
  let v865 : BitVec 32 := Scalar.muli c2_i32_657 arg12
  let c1_i32_658 : BitVec 32 := 1#32
  let v866 : BitVec 32 := Scalar.addi v865 c1_i32_658
  let c768_i32_659 : BitVec 32 := 768#32
  let v867 : BitVec 32 := Scalar.muli v866 c768_i32_659
  v867
def k0_off4 (i : grid0.Coords) (k0_t2 : Fin (k0_t2_loop i).trips) (c1_i32_658 : BitVec 32) : Fin 2 → Nat :=
  let c2_i32_657 : BitVec 32 := 2#32
  let c1_i32_430 : BitVec 32 := 1#32
  let arg1 : BitVec 32 := BitVec.ofNat 32 (i 1).val
  let c1_i32_428 : BitVec 32 := 1#32
  let v556 : BitVec 32 := Scalar.subi arg1 c1_i32_428
  let v557 : BitVec 32 := Scalar.subi v556 c1_i32_430
  let c1_i32_431 : BitVec 32 := 1#32
  let v559 : BitVec 32 := Scalar.divsi v557 c1_i32_431
  let v560 : BitVec 32 := Scalar.muli v559 c1_i32_431
  let v561 : BitVec 32 := Scalar.addi c1_i32_430 v560
  let c1_i32_433 : BitVec 32 := 1#32
  let arg12 : BitVec 32 := Scf.iv v561 c1_i32_433 k0_t2
  let v865 : BitVec 32 := Scalar.muli c2_i32_657 arg12
  let v866 : BitVec 32 := Scalar.addi v865 c1_i32_658
  let c768_i32_659 : BitVec 32 := 768#32
  let v867 : BitVec 32 := Scalar.muli v866 c768_i32_659
  let v868 : BitVec 32 := v867
  let v869 : Index := Scalar.indexCast v868
  let c0_660 : Index := 0#32
  ![v869.toNat, 0]
def k0_off5 (i : grid0.Coords) (k0_t2 : Fin (k0_t2_loop i).trips) : Fin 4 → Nat :=
  let c0_706 : Index := 0#32
  let c2_i32_693 : BitVec 32 := 2#32
  let c1_i32_430 : BitVec 32 := 1#32
  let arg1 : BitVec 32 := BitVec.ofNat 32 (i 1).val
  let c1_i32_428 : BitVec 32 := 1#32
  let v556 : BitVec 32 := Scalar.subi arg1 c1_i32_428
  let v557 : BitVec 32 := Scalar.subi v556 c1_i32_430
  let c1_i32_431 : BitVec 32 := 1#32
  let v559 : BitVec 32 := Scalar.divsi v557 c1_i32_431
  let v560 : BitVec 32 := Scalar.muli v559 c1_i32_431
  let v561 : BitVec 32 := Scalar.addi c1_i32_430 v560
  let c1_i32_433 : BitVec 32 := 1#32
  let arg12 : BitVec 32 := Scf.iv v561 c1_i32_433 k0_t2
  let v908 : BitVec 32 := Scalar.muli c2_i32_693 arg12
  let v925 : Index := Scalar.indexCast v908
  let c0_707 : Index := 0#32
  let c0_708 : Index := 0#32
  ![0, v925.toNat, 0, 0]
def k0_mult4 (i : grid0.Coords) (k0_t2 : Fin (k0_t2_loop i).trips) : BitVec 32 :=
  let c2_i32_760 : BitVec 32 := 2#32
  let c1_i32_430 : BitVec 32 := 1#32
  let arg1 : BitVec 32 := BitVec.ofNat 32 (i 1).val
  let c1_i32_428 : BitVec 32 := 1#32
  let v556 : BitVec 32 := Scalar.subi arg1 c1_i32_428
  let v557 : BitVec 32 := Scalar.subi v556 c1_i32_430
  let c1_i32_431 : BitVec 32 := 1#32
  let v559 : BitVec 32 := Scalar.divsi v557 c1_i32_431
  let v560 : BitVec 32 := Scalar.muli v559 c1_i32_431
  let v561 : BitVec 32 := Scalar.addi c1_i32_430 v560
  let c1_i32_433 : BitVec 32 := 1#32
  let arg12 : BitVec 32 := Scf.iv v561 c1_i32_433 k0_t2
  let v993 : BitVec 32 := Scalar.muli c2_i32_760 arg12
  let c2_i32_761 : BitVec 32 := 2#32
  let v994 : BitVec 32 := Scalar.addi v993 c2_i32_761
  let c768_i32_762 : BitVec 32 := 768#32
  let v995 : BitVec 32 := Scalar.muli v994 c768_i32_762
  v995
def k0_off6 (i : grid0.Coords) (k0_t2 : Fin (k0_t2_loop i).trips) : Fin 4 → Nat :=
  let c0_810 : Index := 0#32
  let c2_i32_796 : BitVec 32 := 2#32
  let c1_i32_430 : BitVec 32 := 1#32
  let arg1 : BitVec 32 := BitVec.ofNat 32 (i 1).val
  let c1_i32_428 : BitVec 32 := 1#32
  let v556 : BitVec 32 := Scalar.subi arg1 c1_i32_428
  let v557 : BitVec 32 := Scalar.subi v556 c1_i32_430
  let c1_i32_431 : BitVec 32 := 1#32
  let v559 : BitVec 32 := Scalar.divsi v557 c1_i32_431
  let v560 : BitVec 32 := Scalar.muli v559 c1_i32_431
  let v561 : BitVec 32 := Scalar.addi c1_i32_430 v560
  let c1_i32_433 : BitVec 32 := 1#32
  let arg12 : BitVec 32 := Scf.iv v561 c1_i32_433 k0_t2
  let v1036 : BitVec 32 := Scalar.muli c2_i32_796 arg12
  let c1_i32_797 : BitVec 32 := 1#32
  let v1037 : BitVec 32 := Scalar.addi v1036 c1_i32_797
  let v1054 : Index := Scalar.indexCast v1037
  let c0_811 : Index := 0#32
  let c0_812 : Index := 0#32
  ![0, v1054.toNat, 0, 0]
def k0_mult5 (i : grid0.Coords) : BitVec 32 :=
  let c2_i32_435 : BitVec 32 := 2#32
  let arg1 : BitVec 32 := BitVec.ofNat 32 (i 1).val
  let c1_i32_434 : BitVec 32 := 1#32
  let v562 : BitVec 32 := Scalar.subi arg1 c1_i32_434
  let v563 : BitVec 32 := Scalar.muli c2_i32_435 v562
  let c1_i32_436 : BitVec 32 := 1#32
  let v564 : BitVec 32 := Scalar.addi v563 c1_i32_436
  let c768_i32_437 : BitVec 32 := 768#32
  let v565 : BitVec 32 := Scalar.muli v564 c768_i32_437
  v565
def k0_off7 (i : grid0.Coords) (c1_i32_436 : BitVec 32) : Fin 2 → Nat :=
  let c2_i32_435 : BitVec 32 := 2#32
  let arg1 : BitVec 32 := BitVec.ofNat 32 (i 1).val
  let c1_i32_434 : BitVec 32 := 1#32
  let v562 : BitVec 32 := Scalar.subi arg1 c1_i32_434
  let v563 : BitVec 32 := Scalar.muli c2_i32_435 v562
  let v564 : BitVec 32 := Scalar.addi v563 c1_i32_436
  let c768_i32_437 : BitVec 32 := 768#32
  let v565 : BitVec 32 := Scalar.muli v564 c768_i32_437
  let v566 : BitVec 32 := v565
  let v567 : Index := Scalar.indexCast v566
  let c0_438 : Index := 0#32
  ![v567.toNat, 0]
def k0_off8 (i : grid0.Coords) : Fin 4 → Nat :=
  let c0_484 : Index := 0#32
  let c2_i32_471 : BitVec 32 := 2#32
  let arg1 : BitVec 32 := BitVec.ofNat 32 (i 1).val
  let c1_i32_434 : BitVec 32 := 1#32
  let v562 : BitVec 32 := Scalar.subi arg1 c1_i32_434
  let v606 : BitVec 32 := Scalar.muli c2_i32_471 v562
  let v623 : Index := Scalar.indexCast v606
  let c0_485 : Index := 0#32
  let c0_486 : Index := 0#32
  ![0, v623.toNat, 0, 0]
def k0_mult6 (i : grid0.Coords) : BitVec 32 :=
  let c2_i32_538 : BitVec 32 := 2#32
  let arg1 : BitVec 32 := BitVec.ofNat 32 (i 1).val
  let c1_i32_434 : BitVec 32 := 1#32
  let v562 : BitVec 32 := Scalar.subi arg1 c1_i32_434
  let v691 : BitVec 32 := Scalar.muli c2_i32_538 v562
  let c2_i32_539 : BitVec 32 := 2#32
  let v692 : BitVec 32 := Scalar.addi v691 c2_i32_539
  let c768_i32_540 : BitVec 32 := 768#32
  let v693 : BitVec 32 := Scalar.muli v692 c768_i32_540
  v693
def k0_off9 (i : grid0.Coords) : Fin 4 → Nat :=
  let c0_603 : Index := 0#32
  let c2_i32_589 : BitVec 32 := 2#32
  let arg1 : BitVec 32 := BitVec.ofNat 32 (i 1).val
  let c1_i32_434 : BitVec 32 := 1#32
  let v562 : BitVec 32 := Scalar.subi arg1 c1_i32_434
  let v779 : BitVec 32 := Scalar.muli c2_i32_589 v562
  let c1_i32_590 : BitVec 32 := 1#32
  let v780 : BitVec 32 := Scalar.addi v779 c1_i32_590
  let v797 : Index := Scalar.indexCast v780
  let c0_604 : Index := 0#32
  let c0_605 : Index := 0#32
  ![0, v797.toNat, 0, 0]
def k0_mult7 (i : grid0.Coords) : BitVec 32 :=
  let c2_i32 : BitVec 32 := 2#32
  let arg1 : BitVec 32 := BitVec.ofNat 32 (i 1).val
  let v92 : BitVec 32 := Scalar.muli c2_i32 arg1
  let c1_i32_51 : BitVec 32 := 1#32
  let v93 : BitVec 32 := Scalar.addi v92 c1_i32_51
  let c768_i32 : BitVec 32 := 768#32
  let v94 : BitVec 32 := Scalar.muli v93 c768_i32
  v94
def k0_off10 (i : grid0.Coords) : Fin 2 → Nat :=
  let c2_i32 : BitVec 32 := 2#32
  let arg1 : BitVec 32 := BitVec.ofNat 32 (i 1).val
  let v92 : BitVec 32 := Scalar.muli c2_i32 arg1
  let c1_i32_51 : BitVec 32 := 1#32
  let v93 : BitVec 32 := Scalar.addi v92 c1_i32_51
  let c768_i32 : BitVec 32 := 768#32
  let v94 : BitVec 32 := Scalar.muli v93 c768_i32
  let v95 : BitVec 32 := v94
  let v96 : Index := Scalar.indexCast v95
  let c0_52 : Index := 0#32
  ![v96.toNat, 0]
def k0_off11 (i : grid0.Coords) : Fin 2 → Nat :=
  let c2_i32 : BitVec 32 := 2#32
  let arg1 : BitVec 32 := BitVec.ofNat 32 (i 1).val
  let v92 : BitVec 32 := Scalar.muli c2_i32 arg1
  let c1_i32_51 : BitVec 32 := 1#32
  let v93 : BitVec 32 := Scalar.addi v92 c1_i32_51
  let c768_i32 : BitVec 32 := 768#32
  let v94 : BitVec 32 := Scalar.muli v93 c768_i32
  let v95 : BitVec 32 := v94
  let v124 : Index := Scalar.indexCast v95
  let c0_68 : Index := 0#32
  ![v124.toNat, 0]
def k0_off12 (i : grid0.Coords) : Fin 4 → Nat :=
  let c0_97 : Index := 0#32
  let c2_i32_84 : BitVec 32 := 2#32
  let arg1 : BitVec 32 := BitVec.ofNat 32 (i 1).val
  let v152 : BitVec 32 := Scalar.muli c2_i32_84 arg1
  let v169 : Index := Scalar.indexCast v152
  let c0_98 : Index := 0#32
  let c0_99 : Index := 0#32
  ![0, v169.toNat, 0, 0]
def k0_off13 (i : grid0.Coords) : Fin 4 → Nat :=
  let c0_165 : Index := 0#32
  let c2_i32_151 : BitVec 32 := 2#32
  let arg1 : BitVec 32 := BitVec.ofNat 32 (i 1).val
  let v237 : BitVec 32 := Scalar.muli c2_i32_151 arg1
  let c1_i32_152 : BitVec 32 := 1#32
  let v238 : BitVec 32 := Scalar.addi v237 c1_i32_152
  let v255 : Index := Scalar.indexCast v238
  let c0_166 : Index := 0#32
  let c0_167 : Index := 0#32
  ![0, v255.toNat, 0, 0]
def k0_off14 (i : grid0.Coords) : Fin 4 → Nat :=
  let c0_187 : Index := 0#32
  let c2_i32_151 : BitVec 32 := 2#32
  let arg1 : BitVec 32 := BitVec.ofNat 32 (i 1).val
  let v237 : BitVec 32 := Scalar.muli c2_i32_151 arg1
  let c1_i32_152 : BitVec 32 := 1#32
  let v238 : BitVec 32 := Scalar.addi v237 c1_i32_152
  let v283 : Index := Scalar.indexCast v238
  let c0_188 : Index := 0#32
  let c0_189 : Index := 0#32
  ![0, v283.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16896x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x22x144x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1536x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x16896 : Shape := ⟨2, ![4096, 16896]⟩
abbrev S16896x4096 : Shape := ⟨2, ![16896, 4096]⟩
abbrev S16x22x128x768 : Shape := ⟨4, ![16, 22, 128, 768]⟩
abbrev S16x256x16896 : Shape := ⟨3, ![16, 256, 16896]⟩
abbrev S16896x16x256 : Shape := ⟨3, ![16896, 16, 256]⟩
abbrev S16x22x768x128 : Shape := ⟨4, ![16, 22, 768, 128]⟩
abbrev S16x16896x128 : Shape := ⟨3, ![16, 16896, 128]⟩
abbrev S16x16896x16896 : Shape := ⟨3, ![16, 16896, 16896]⟩
abbrev S_ : Shape := ⟨0, ![]⟩
abbrev S16896 : Shape := ⟨1, ![16896]⟩
abbrev S1x16896 : Shape := ⟨2, ![1, 16896]⟩
abbrev S16896x1 : Shape := ⟨2, ![16896, 1]⟩
abbrev S16896x16896 : Shape := ⟨2, ![16896, 16896]⟩
abbrev S16x16896 : Shape := ⟨2, ![16, 16896]⟩
abbrev S16x16896x1 : Shape := ⟨3, ![16, 16896, 1]⟩
abbrev S16896x16x128 : Shape := ⟨3, ![16896, 16, 128]⟩
abbrev S16896x2048 : Shape := ⟨2, ![16896, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4096x16896, .f32⟩
  | .hbm, ⟨1, _⟩ => ⟨S16896x4096, .bf16⟩
  | .hbm, ⟨2, _⟩ => ⟨S16x22x128x768, .bf16⟩
  | .hbm, ⟨3, _⟩ => ⟨S16x256x16896, .f32⟩
  | .hbm, ⟨4, _⟩ => ⟨S16896x4096, .f32⟩
  | .hbm, ⟨5, _⟩ => ⟨S16896x16x256, .f32⟩
  | .hbm, ⟨6, _⟩ => ⟨S16x22x128x768, .f32⟩
  | .hbm, ⟨7, _⟩ => ⟨S16x22x768x128, .f32⟩
  | .hbm, ⟨8, _⟩ => ⟨S16x16896x128, .f32⟩
  | .hbm, ⟨9, _⟩ => ⟨S16x16896x16896, .f32⟩
  | .hbm, ⟨10, _⟩ => ⟨S_, .f32⟩
  | .hbm, ⟨11, _⟩ => ⟨S_, .f32⟩
  | .hbm, ⟨12, _⟩ => ⟨S16x16896x16896, .f32⟩
  | .hbm, ⟨13, _⟩ => ⟨S16x16896x16896, .f32⟩
  | .hbm, ⟨14, _⟩ => ⟨S16896, .i32⟩
  | .hbm, ⟨15, _⟩ => ⟨S1x16896, .i32⟩
  | .hbm, ⟨16, _⟩ => ⟨S16896x1, .i32⟩
  | .hbm, ⟨17, _⟩ => ⟨S16896x16896, .i32⟩
  | .hbm, ⟨18, _⟩ => ⟨S16896x16896, .i32⟩
  | .hbm, ⟨19, _⟩ => ⟨S16896x16896, .i1⟩
  | .hbm, ⟨20, _⟩ => ⟨S_, .i32⟩
  | .hbm, ⟨21, _⟩ => ⟨S16896, .i32⟩
  | .hbm, ⟨22, _⟩ => ⟨S16896, .i1⟩
  | .hbm, ⟨23, _⟩ => ⟨S1x16896, .i1⟩
  | .hbm, ⟨24, _⟩ => ⟨S16896x16896, .i1⟩
  | .hbm, ⟨25, _⟩ => ⟨S16896x16896, .i1⟩
  | .hbm, ⟨26, _⟩ => ⟨S_, .f32⟩
  | .hbm, ⟨27, _⟩ => ⟨S_, .f32⟩
  | .hbm, ⟨28, _⟩ => ⟨S16x16896x16896, .i1⟩
  | .hbm, ⟨29, _⟩ => ⟨S16x16896x16896, .f32⟩
  | .hbm, ⟨30, _⟩ => ⟨S16x16896x16896, .f32⟩
  | .hbm, ⟨31, _⟩ => ⟨S_, .f32⟩
  | .hbm, ⟨32, _⟩ => ⟨S16x16896, .f32⟩
  | .hbm, ⟨33, _⟩ => ⟨S_, .f32⟩
  | .hbm, ⟨34, _⟩ => ⟨S16x16896, .f32⟩
  | .hbm, ⟨35, _⟩ => ⟨S16x16896, .f32⟩
  | .hbm, ⟨36, _⟩ => ⟨S16x16896x1, .f32⟩
  | .hbm, ⟨37, _⟩ => ⟨S16x16896x16896, .f32⟩
  | .hbm, ⟨38, _⟩ => ⟨S16x16896x16896, .f32⟩
  | .hbm, ⟨39, _⟩ => ⟨S16x16896x16896, .f32⟩
  | .hbm, ⟨40, _⟩ => ⟨S_, .f32⟩
  | .hbm, ⟨41, _⟩ => ⟨S16x16896, .f32⟩
  | .hbm, ⟨42, _⟩ => ⟨S16x16896x1, .f32⟩
  | .hbm, ⟨43, _⟩ => ⟨S16x16896x16896, .f32⟩
  | .hbm, ⟨44, _⟩ => ⟨S16x16896x16896, .f32⟩
  | .hbm, ⟨45, _⟩ => ⟨S16x16896x128, .f32⟩
  | .hbm, ⟨46, _⟩ => ⟨S16896x16x128, .f32⟩
  | .hbm, ⟨47, _⟩ => ⟨S16896x2048, .f32⟩
  | .hbm, ⟨48, _⟩ => ⟨S16896x2048, .bf16⟩
  | _, _ => ⟨S4096x16896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel2.lean ====
abbrev S16896x4096 : Shape := ⟨2, ![16896, 4096]⟩
abbrev S4096x11264 : Shape := ⟨2, ![4096, 11264]⟩
abbrev S16896x11264 : Shape := ⟨2, ![16896, 11264]⟩
abbrev S1536x4096 : Shape := ⟨2, ![1536, 4096]⟩
abbrev S4096x512 : Shape := ⟨2, ![4096, 512]⟩
abbrev S1536x512 : Shape := ⟨2, ![1536, 512]⟩
abbrev S512x4096 : Shape := ⟨2, ![512, 4096]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S16896x4096, .bf16⟩
  | .hbm, ⟨1, _⟩ => ⟨S4096x11264, .bf16⟩
  | .hbm, ⟨2, _⟩ => ⟨S4096x11264, .bf16⟩
  | .hbm, ⟨3, _⟩ => ⟨S16896x11264, .bf16⟩
  | .local _ .vmem, ⟨0, _⟩ => ⟨S1536x4096, .bf16⟩
  | .local _ .vmem, ⟨1, _⟩ => ⟨S1536x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1536x512, .bf16⟩
  | .local _ .vmem, ⟨7, _⟩ => ⟨S1536x512, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![11, 22, 1], ![false, false, false]⟩

def k0_mult1 : BitVec 32 :=
  let c0_i32 : BitVec 32 := 0#32
  let c512_i32 : BitVec 32 := 512#32
  let v0 : BitVec 32 := Scalar.muli c0_i32 c512_i32
  v0
def k0_off1 (c0_i32 : BitVec 32) : Fin 2 → Nat :=
  let c512_i32 : BitVec 32 := 512#32
  let v0 : BitVec 32 := Scalar.muli c0_i32 c512_i32
  let v1 : BitVec 32 := v0
  let v2 : Index := Scalar.indexCast v1
  let c0 : Index := 0#32
  ![v2.toNat, 0]
def k0_off2 (c0_i32 : BitVec 32) : Fin 2 → Nat :=
  let c512_i32 : BitVec 32 := 512#32
  let v0 : BitVec 32 := Scalar.muli c0_i32 c512_i32
  let v1 : BitVec 32 := v0
  let v14 : Index := Scalar.indexCast v1
  let c0_6 : Index := 0#32
  ![v14.toNat, 0]
def k0_mult2 : BitVec 32 :=
  let c1_i32 : BitVec 32 := 1#32
  let c512_i32_7 : BitVec 32 := 512#32
  let v16 : BitVec 32 := Scalar.muli c1_i32 c512_i32_7
  v16
def k0_mult3 : BitVec 32 :=
  let c2_i32 : BitVec 32 := 2#32
  let c512_i32_17 : BitVec 32 := 512#32
  let v32 : BitVec 32 := Scalar.muli c2_i32 c512_i32_17
  v32
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1536x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S16896x4096 : Shape := ⟨2, ![16896, 4096]⟩
abbrev S4096x11264 : Shape := ⟨2, ![4096, 11264]⟩
abbrev S16896x11264 : Shape := ⟨2, ![16896, 11264]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x11264, .bf16⟩
  | .hbm, ⟨2, _⟩ => ⟨S4096x11264, .bf16⟩
  | .hbm, ⟨3, _⟩ => ⟨S16896x4096, .f32⟩
  | .hbm, ⟨4, _⟩ => ⟨S4096x11264, .f32⟩
  | .hbm, ⟨5, _⟩ => ⟨S16896x11264, .f32⟩
  | .hbm, ⟨6, _⟩ => ⟨S16896x4096, .f32⟩
  | .hbm, ⟨7, _⟩ => ⟨S4096x11264, .f32⟩
  | .hbm, ⟨8, _⟩ => ⟨S16896x11264, .f32⟩
  | .hbm, ⟨9, _⟩ => ⟨S16896x11264, .f32⟩
  | .hbm, ⟨10, _⟩ => ⟨S16896x11264, .f32⟩
  | .hbm, ⟨11, _⟩ => ⟨S_, .f32⟩
  | .hbm, ⟨12, _⟩ => ⟨S16896x11264, .f32⟩
  | .hbm, ⟨13, _⟩ => ⟨S16896x11264, .f32⟩
  | .hbm, ⟨14, _⟩ => ⟨S_, .f32⟩
  | .hbm, ⟨15, _⟩ => ⟨S16896x11264, .f32⟩
  | .hbm, ⟨16, _⟩ => ⟨S16896x11264, .f32⟩
  | .hbm, ⟨17, _⟩ => ⟨S16896x11264, .f32⟩
  | .hbm, ⟨18, _⟩ => ⟨S16896x11264, .f32⟩
  | .hbm, ⟨19, _⟩ => ⟨S16896x11264, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel3.lean ====
abbrev S16896x11264 : Shape := ⟨2, ![16896, 11264]⟩
abbrev S11264x4096 : Shape := ⟨2, ![11264, 4096]⟩
abbrev S16896x4096 : Shape := ⟨2, ![16896, 4096]⟩
abbrev S1536x2816 : Shape := ⟨2, ![1536, 2816]⟩
abbrev S2816x1024 : Shape := ⟨2, ![2816, 1024]⟩
abbrev S1536x1024 : Shape := ⟨2, ![1536, 1024]⟩
abbrev S512x2816 : Shape := ⟨2, ![512, 2816]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16896x11264, .bf16⟩
  | .hbm, ⟨1, _⟩ => ⟨S11264x4096, .bf16⟩
  | .hbm, ⟨2, _⟩ => ⟨S16896x4096, .f32⟩
  | .local _ .vmem, ⟨0, _⟩ => ⟨S1536x2816, .bf16⟩
  | .local _ .vmem, ⟨1, _⟩ => ⟨S1536x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1536x1024, .f32⟩
  | .local _ .vmem, ⟨5, _⟩ => ⟨S1536x1024, .f32⟩
  | _, _ => ⟨S16896x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_mult1 : BitVec 32 :=
  let c0_i32_3 : BitVec 32 := 0#32
  let c512_i32 : BitVec 32 := 512#32
  let v6 : BitVec 32 := Scalar.muli c0_i32_3 c512_i32
  v6
def k0_off1 (c0_i32_3 : BitVec 32) : Fin 2 → Nat :=
  let c512_i32 : BitVec 32 := 512#32
  let v6 : BitVec 32 := Scalar.muli c0_i32_3 c512_i32
  let v7 : BitVec 32 := v6
  let v8 : Index := Scalar.indexCast v7
  let c0 : Index := 0#32
  ![v8.toNat, 0]
def k0_off2 (c0_i32_3 : BitVec 32) : Fin 2 → Nat :=
  let c512_i32 : BitVec 32 := 512#32
  let v6 : BitVec 32 := Scalar.muli c0_i32_3 c512_i32
  let v7 : BitVec 32 := v6
  let v12 : Index := Scalar.indexCast v7
  let c0_6 : Index := 0#32
  ![v12.toNat, 0]
def k0_mult2 : BitVec 32 :=
  let c1_i32 : BitVec 32 := 1#32
  let c512_i32_7 : BitVec 32 := 512#32
  let v14 : BitVec 32 := Scalar.muli c1_i32 c512_i32_7
  v14
def k0_mult3 : BitVec 32 :=
  let c2_i32 : BitVec 32 := 2#32
  let c512_i32_13 : BitVec 32 := 512#32
  let v22 : BitVec 32 := Scalar.muli c2_i32 c512_i32_13
  v22
def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def k0_mult4 : BitVec 32 :=
  let c0_i32_3 : BitVec 32 := 0#32
  let c512_i32 : BitVec 32 := 512#32
  let v6 : BitVec 32 := Scalar.muli c0_i32_3 c512_i32
  v6
def k0_off3 (c0_i32_3 : BitVec 32) : Fin 2 → Nat :=
  let c512_i32 : BitVec 32 := 512#32
  let v6 : BitVec 32 := Scalar.muli c0_i32_3 c512_i32
  let v7 : BitVec 32 := v6
  let v8 : Index := Scalar.indexCast v7
  let c0 : Index := 0#32
  ![v8.toNat, 0]
def k0_off4 (c0_i32_3 : BitVec 32) : Fin 2 → Nat :=
  let c512_i32 : BitVec 32 := 512#32
  let v6 : BitVec 32 := Scalar.muli c0_i32_3 c512_i32
  let v7 : BitVec 32 := v6
  let v11 : Index := Scalar.indexCast v7
  let c0_4 : Index := 0#32
  ![v11.toNat, 0]
def k0_mult5 : BitVec 32 :=
  let c1_i32 : BitVec 32 := 1#32
  let c512_i32_8 : BitVec 32 := 512#32
  let v18 : BitVec 32 := Scalar.muli c1_i32 c512_i32_8
  v18
def k0_mult6 : BitVec 32 :=
  let c2_i32 : BitVec 32 := 2#32
  let c512_i32_15 : BitVec 32 := 512#32
  let v30 : BitVec 32 := Scalar.muli c2_i32 c512_i32_15
  v30
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S16896x11264 : Shape := ⟨2, ![16896, 11264]⟩
abbrev S11264x4096 : Shape := ⟨2, ![11264, 4096]⟩
abbrev S16896x4096 : Shape := ⟨2, ![16896, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16896x11264, .bf16⟩
  | .hbm, ⟨1, _⟩ => ⟨S11264x4096, .bf16⟩
  | .hbm, ⟨2, _⟩ => ⟨S16896x11264, .f32⟩
  | .hbm, ⟨3, _⟩ => ⟨S11264x4096, .f32⟩
  | .hbm, ⟨4, _⟩ => ⟨S16896x4096, .f32⟩
  | _, _ => ⟨S16896x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S16896x2048 : Shape := ⟨2, ![16896, 2048]⟩
abbrev S4096x4096 : Shape := ⟨2, ![4096, 4096]⟩
abbrev S16896x4096 : Shape := ⟨2, ![16896, 4096]⟩
abbrev S1536x2048 : Shape := ⟨2, ![1536, 2048]⟩
abbrev S2048x512 : Shape := ⟨2, ![2048, 512]⟩
abbrev S1536x512 : Shape := ⟨2, ![1536, 512]⟩
abbrev S512x2048 : Shape := ⟨2, ![512, 2048]⟩
abbrev S512x512 : Shape := ⟨2, ![512, 512]⟩

abbrev nBuf : Space → Nat
  | .hbm => 4
  | .vmem => 10
  | .smem => 0
  | _ => 0

abbrev bufTy : (tb : Table) → Fin (tcTables nBuf tb) → BufTy
  | .hbm, ⟨0, _⟩ => ⟨S16896x2048, .bf16⟩
  | .hbm, ⟨1, _⟩ => ⟨S16896x2048, .bf16⟩
  | .hbm, ⟨2, _⟩ => ⟨S4096x4096, .bf16⟩
  | .hbm, ⟨3, _⟩ => ⟨S16896x4096, .f32⟩
  | .local _ .vmem, ⟨0, _⟩ => ⟨S1536x2048, .bf16⟩
  | .local _ .vmem, ⟨1, _⟩ => ⟨S1536x2048, .bf16⟩
  | .local _ .vmem, ⟨2, _⟩ => ⟨S1536x2048, .bf16⟩
  | .local _ .vmem, ⟨3, _⟩ => ⟨S1536x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1536x512, .f32⟩
  | .local _ .vmem, ⟨9, _⟩ => ⟨S1536x512, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![11, 8, 1], ![false, false, false]⟩

def k0_mult1 : BitVec 32 :=
  let c0_i32 : BitVec 32 := 0#32
  let c512_i32 : BitVec 32 := 512#32
  let v0 : BitVec 32 := Scalar.muli c0_i32 c512_i32
  v0
def k0_off1 (c0_i32 : BitVec 32) : Fin 2 → Nat :=
  let c512_i32 : BitVec 32 := 512#32
  let v0 : BitVec 32 := Scalar.muli c0_i32 c512_i32
  let v1 : BitVec 32 := v0
  let v2 : Index := Scalar.indexCast v1
  let c0 : Index := 0#32
  ![v2.toNat, 0]
def k0_off2 (c0_i32 : BitVec 32) : Fin 2 → Nat :=
  let c512_i32 : BitVec 32 := 512#32
  let v0 : BitVec 32 := Scalar.muli c0_i32 c512_i32
  let v1 : BitVec 32 := v0
  let v11 : Index := Scalar.indexCast v1
  let c0_6 : Index := 0#32
  ![v11.toNat, 0]
def k0_mult2 : BitVec 32 :=
  let c1_i32 : BitVec 32 := 1#32
  let c512_i32_7 : BitVec 32 := 512#32
  let v13 : BitVec 32 := Scalar.muli c1_i32 c512_i32_7
  v13
def k0_mult3 : BitVec 32 :=
  let c2_i32 : BitVec 32 := 2#32
  let c512_i32_17 : BitVec 32 := 512#32
  let v26 : BitVec 32 := Scalar.muli c2_i32 c512_i32_17
  v26
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let v1 : BitVec 32 := Scalar.addi arg1 c0_i32
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1536x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S16896x2048 : Shape := ⟨2, ![16896, 2048]⟩
abbrev S4096x4096 : Shape := ⟨2, ![4096, 4096]⟩
abbrev S16896x4096 : Shape := ⟨2, ![16896, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S16896x2048, .bf16⟩
  | .hbm, ⟨2, _⟩ => ⟨S4096x4096, .bf16⟩
  | .hbm, ⟨3, _⟩ => ⟨S16896x2048, .f32⟩
  | .hbm, ⟨4, _⟩ => ⟨S16896x2048, .f32⟩
  | .hbm, ⟨5, _⟩ => ⟨S16896x4096, .f32⟩
  | .hbm, ⟨6, _⟩ => ⟨S4096x4096, .f32⟩
  | .hbm, ⟨7, _⟩ => ⟨S16896x4096, .f32⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S16896x4096 : Shape := ⟨2, ![16896, 4096]⟩
abbrev S4096x8264 : Shape := ⟨2, ![4096, 8264]⟩
abbrev S16896x2048 : Shape := ⟨2, ![16896, 2048]⟩
abbrev S1536x4096 : Shape := ⟨2, ![1536, 4096]⟩
abbrev S4096x512 : Shape := ⟨2, ![4096, 512]⟩
abbrev S1536x512 : Shape := ⟨2, ![1536, 512]⟩
abbrev S512x4096 : Shape := ⟨2, ![512, 4096]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S4096x8264, .bf16⟩
  | .hbm, ⟨2, _⟩ => ⟨S16896x2048, .f32⟩
  | .local _ .vmem, ⟨0, _⟩ => ⟨S1536x4096, .bf16⟩
  | .local _ .vmem, ⟨1, _⟩ => ⟨S1536x4096, .bf16⟩
  | .local _ .vmem, ⟨2, _⟩ => ⟨S4096x512, .bf16⟩
  | .local _ .vmem, ⟨3, _⟩ => ⟨S4096x512, .bf16⟩
  | .local _ .vmem, ⟨4, _⟩ => ⟨S1536x512, .f32⟩
  | .local _ .vmem, ⟨5, _⟩ => ⟨S1536x512, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 1], ![false, false, false]⟩

def k0_mult1 : BitVec 32 :=
  let c0_i32 : BitVec 32 := 0#32
  let c512_i32 : BitVec 32 := 512#32
  let v0 : BitVec 32 := Scalar.muli c0_i32 c512_i32
  v0
def k0_off1 (c0_i32 : BitVec 32) : Fin 2 → Nat :=
  let c512_i32 : BitVec 32 := 512#32
  let v0 : BitVec 32 := Scalar.muli c0_i32 c512_i32
  let v1 : BitVec 32 := v0
  let v2 : Index := Scalar.indexCast v1
  let c0 : Index := 0#32
  ![v2.toNat, 0]
def k0_off2 (c0_i32 : BitVec 32) : Fin 2 → Nat :=
  let c512_i32 : BitVec 32 := 512#32
  let v0 : BitVec 32 := Scalar.muli c0_i32 c512_i32
  let v1 : BitVec 32 := v0
  let v6 : Index := Scalar.indexCast v1
  let c0_2 : Index := 0#32
  ![v6.toNat, 0]
def k0_mult2 : BitVec 32 :=
  let c1_i32 : BitVec 32 := 1#32
  let c512_i32_3 : BitVec 32 := 512#32
  let v8 : BitVec 32 := Scalar.muli c1_i32 c512_i32_3
  v8
def k0_mult3 : BitVec 32 :=
  let c2_i32 : BitVec 32 := 2#32
  let c512_i32_9 : BitVec 32 := 512#32
  let v16 : BitVec 32 := Scalar.muli c2_i32 c512_i32_9
  v16
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16896x4096 : Shape := ⟨2, ![16896, 4096]⟩
abbrev S4096x8264 : Shape := ⟨2, ![4096, 8264]⟩
abbrev S16896x8264 : Shape := ⟨2, ![16896, 8264]⟩
abbrev S16896x1024 : Shape := ⟨2, ![16896, 1024]⟩
abbrev S16896x2048 : Shape := ⟨2, ![16896, 2048]⟩
abbrev S16896x4 : Shape := ⟨2, ![16896, 4]⟩
abbrev S16896x1536 : Shape := ⟨2, ![16896, 1536]⟩
abbrev S16896x512 : Shape := ⟨2, ![16896, 512]⟩
abbrev S16896x64 : Shape := ⟨2, ![16896, 64]⟩

abbrev nBuf : Space → Nat
  | .hbm => 15
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x8264, .bf16⟩
  | .hbm, ⟨2, _⟩ => ⟨S16896x4096, .f32⟩
  | .hbm, ⟨3, _⟩ => ⟨S4096x8264, .f32⟩
  | .hbm, ⟨4, _⟩ => ⟨S16896x8264, .f32⟩
  | .hbm, ⟨5, _⟩ => ⟨S16896x1024, .f32⟩
  | .hbm, ⟨6, _⟩ => ⟨S16896x1024, .f32⟩
  | .hbm, ⟨7, _⟩ => ⟨S16896x2048, .f32⟩
  | .hbm, ⟨8, _⟩ => ⟨S16896x2048, .f32⟩
  | .hbm, ⟨9, _⟩ => ⟨S16896x4, .f32⟩
  | .hbm, ⟨10, _⟩ => ⟨S16896x4, .f32⟩
  | .hbm, ⟨11, _⟩ => ⟨S16896x1536, .f32⟩
  | .hbm, ⟨12, _⟩ => ⟨S16896x512, .f32⟩
  | .hbm, ⟨13, _⟩ => ⟨S16896x64, .f32⟩
  | .hbm, ⟨14, _⟩ => ⟨S16896x2048, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Kernel6.lean ====
abbrev S16896x4096 : Shape := ⟨2, ![16896, 4096]⟩
abbrev S4096x8264 : Shape := ⟨2, ![4096, 8264]⟩
abbrev S16896x2048 : Shape := ⟨2, ![16896, 2048]⟩
abbrev S1536x4096 : Shape := ⟨2, ![1536, 4096]⟩
abbrev S4096x512 : Shape := ⟨2, ![4096, 512]⟩
abbrev S1536x512 : Shape := ⟨2, ![1536, 512]⟩
abbrev S512x4096 : Shape := ⟨2, ![512, 4096]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S4096x8264, .bf16⟩
  | .hbm, ⟨2, _⟩ => ⟨S16896x2048, .bf16⟩
  | .local _ .vmem, ⟨0, _⟩ => ⟨S1536x4096, .bf16⟩
  | .local _ .vmem, ⟨1, _⟩ => ⟨S1536x4096, .bf16⟩
  | .local _ .vmem, ⟨2, _⟩ => ⟨S4096x512, .bf16⟩
  | .local _ .vmem, ⟨3, _⟩ => ⟨S4096x512, .bf16⟩
  | .local _ .vmem, ⟨4, _⟩ => ⟨S1536x512, .bf16⟩
  | .local _ .vmem, ⟨5, _⟩ => ⟨S1536x512, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 1], ![false, false, false]⟩

def k0_mult1 : BitVec 32 :=
  let c0_i32 : BitVec 32 := 0#32
  let c512_i32 : BitVec 32 := 512#32
  let v0 : BitVec 32 := Scalar.muli c0_i32 c512_i32
  v0
def k0_off1 (c0_i32 : BitVec 32) : Fin 2 → Nat :=
  let c512_i32 : BitVec 32 := 512#32
  let v0 : BitVec 32 := Scalar.muli c0_i32 c512_i32
  let v1 : BitVec 32 := v0
  let v2 : Index := Scalar.indexCast v1
  let c0 : Index := 0#32
  ![v2.toNat, 0]
def k0_off2 (c0_i32 : BitVec 32) : Fin 2 → Nat :=
  let c512_i32 : BitVec 32 := 512#32
  let v0 : BitVec 32 := Scalar.muli c0_i32 c512_i32
  let v1 : BitVec 32 := v0
  let v7 : Index := Scalar.indexCast v1
  let c0_2 : Index := 0#32
  ![v7.toNat, 0]
def k0_mult2 : BitVec 32 :=
  let c1_i32 : BitVec 32 := 1#32
  let c512_i32_3 : BitVec 32 := 512#32
  let v9 : BitVec 32 := Scalar.muli c1_i32 c512_i32_3
  v9
def k0_mult3 : BitVec 32 :=
  let c2_i32 : BitVec 32 := 2#32
  let c512_i32_9 : BitVec 32 := 512#32
  let v18 : BitVec 32 := Scalar.muli c2_i32 c512_i32_9
  v18
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c4_i32 : BitVec 32 := 4#32
  let v1 : BitVec 32 := Scalar.addi arg1 c4_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S16896x4096 : Shape := ⟨2, ![16896, 4096]⟩
abbrev S4096x8264 : Shape := ⟨2, ![4096, 8264]⟩
abbrev S16896x8264 : Shape := ⟨2, ![16896, 8264]⟩
abbrev S16896x1024 : Shape := ⟨2, ![16896, 1024]⟩
abbrev S16896x2048 : Shape := ⟨2, ![16896, 2048]⟩
abbrev S16896x4 : Shape := ⟨2, ![16896, 4]⟩
abbrev S16896x1536 : Shape := ⟨2, ![16896, 1536]⟩
abbrev S16896x512 : Shape := ⟨2, ![16896, 512]⟩
abbrev S16896x64 : Shape := ⟨2, ![16896, 64]⟩

abbrev nBuf : Space → Nat
  | .hbm => 15
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x8264, .bf16⟩
  | .hbm, ⟨2, _⟩ => ⟨S16896x4096, .f32⟩
  | .hbm, ⟨3, _⟩ => ⟨S4096x8264, .f32⟩
  | .hbm, ⟨4, _⟩ => ⟨S16896x8264, .f32⟩
  | .hbm, ⟨5, _⟩ => ⟨S16896x1024, .f32⟩
  | .hbm, ⟨6, _⟩ => ⟨S16896x1024, .f32⟩
  | .hbm, ⟨7, _⟩ => ⟨S16896x2048, .f32⟩
  | .hbm, ⟨8, _⟩ => ⟨S16896x2048, .f32⟩
  | .hbm, ⟨9, _⟩ => ⟨S16896x4, .f32⟩
  | .hbm, ⟨10, _⟩ => ⟨S16896x4, .f32⟩
  | .hbm, ⟨11, _⟩ => ⟨S16896x1536, .f32⟩
  | .hbm, ⟨12, _⟩ => ⟨S16896x512, .f32⟩
  | .hbm, ⟨13, _⟩ => ⟨S16896x64, .f32⟩
  | .hbm, ⟨14, _⟩ => ⟨S16896x2048, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Kernel7.lean ====
abbrev S16896x4096 : Shape := ⟨2, ![16896, 4096]⟩
abbrev S4096x8264 : Shape := ⟨2, ![4096, 8264]⟩
abbrev S16896x2048 : Shape := ⟨2, ![16896, 2048]⟩
abbrev S1536x4096 : Shape := ⟨2, ![1536, 4096]⟩
abbrev S4096x512 : Shape := ⟨2, ![4096, 512]⟩
abbrev S1536x512 : Shape := ⟨2, ![1536, 512]⟩
abbrev S512x4096 : Shape := ⟨2, ![512, 4096]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S4096x8264, .bf16⟩
  | .hbm, ⟨2, _⟩ => ⟨S16896x2048, .f32⟩
  | .local _ .vmem, ⟨0, _⟩ => ⟨S1536x4096, .bf16⟩
  | .local _ .vmem, ⟨1, _⟩ => ⟨S1536x4096, .bf16⟩
  | .local _ .vmem, ⟨2, _⟩ => ⟨S4096x512, .bf16⟩
  | .local _ .vmem, ⟨3, _⟩ => ⟨S4096x512, .bf16⟩
  | .local _ .vmem, ⟨4, _⟩ => ⟨S1536x512, .f32⟩
  | .local _ .vmem, ⟨5, _⟩ => ⟨S1536x512, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 1], ![false, false, false]⟩

def k0_mult1 : BitVec 32 :=
  let c0_i32 : BitVec 32 := 0#32
  let c512_i32 : BitVec 32 := 512#32
  let v0 : BitVec 32 := Scalar.muli c0_i32 c512_i32
  v0
def k0_off1 (c0_i32 : BitVec 32) : Fin 2 → Nat :=
  let c512_i32 : BitVec 32 := 512#32
  let v0 : BitVec 32 := Scalar.muli c0_i32 c512_i32
  let v1 : BitVec 32 := v0
  let v2 : Index := Scalar.indexCast v1
  let c0 : Index := 0#32
  ![v2.toNat, 0]
def k0_off2 (c0_i32 : BitVec 32) : Fin 2 → Nat :=
  let c512_i32 : BitVec 32 := 512#32
  let v0 : BitVec 32 := Scalar.muli c0_i32 c512_i32
  let v1 : BitVec 32 := v0
  let v6 : Index := Scalar.indexCast v1
  let c0_2 : Index := 0#32
  ![v6.toNat, 0]
def k0_mult2 : BitVec 32 :=
  let c1_i32 : BitVec 32 := 1#32
  let c512_i32_3 : BitVec 32 := 512#32
  let v8 : BitVec 32 := Scalar.muli c1_i32 c512_i32_3
  v8
def k0_mult3 : BitVec 32 :=
  let c2_i32 : BitVec 32 := 2#32
  let c512_i32_9 : BitVec 32 := 512#32
  let v16 : BitVec 32 := Scalar.muli c2_i32 c512_i32_9
  v16
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c8_i32 : BitVec 32 := 8#32
  let v1 : BitVec 32 := Scalar.addi arg1 c8_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S16896x4096 : Shape := ⟨2, ![16896, 4096]⟩
abbrev S4096x8264 : Shape := ⟨2, ![4096, 8264]⟩
abbrev S16896x8264 : Shape := ⟨2, ![16896, 8264]⟩
abbrev S16896x1024 : Shape := ⟨2, ![16896, 1024]⟩
abbrev S16896x2048 : Shape := ⟨2, ![16896, 2048]⟩
abbrev S16896x4 : Shape := ⟨2, ![16896, 4]⟩
abbrev S16896x1536 : Shape := ⟨2, ![16896, 1536]⟩
abbrev S16896x512 : Shape := ⟨2, ![16896, 512]⟩
abbrev S16896x64 : Shape := ⟨2, ![16896, 64]⟩

abbrev nBuf : Space → Nat
  | .hbm => 14
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x8264, .bf16⟩
  | .hbm, ⟨2, _⟩ => ⟨S16896x4096, .f32⟩
  | .hbm, ⟨3, _⟩ => ⟨S4096x8264, .f32⟩
  | .hbm, ⟨4, _⟩ => ⟨S16896x8264, .f32⟩
  | .hbm, ⟨5, _⟩ => ⟨S16896x1024, .f32⟩
  | .hbm, ⟨6, _⟩ => ⟨S16896x1024, .f32⟩
  | .hbm, ⟨7, _⟩ => ⟨S16896x2048, .f32⟩
  | .hbm, ⟨8, _⟩ => ⟨S16896x2048, .f32⟩
  | .hbm, ⟨9, _⟩ => ⟨S16896x4, .f32⟩
  | .hbm, ⟨10, _⟩ => ⟨S16896x4, .f32⟩
  | .hbm, ⟨11, _⟩ => ⟨S16896x1536, .f32⟩
  | .hbm, ⟨12, _⟩ => ⟨S16896x512, .f32⟩
  | .hbm, ⟨13, _⟩ => ⟨S16896x64, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Kernel8.lean ====
abbrev S16896x4096 : Shape := ⟨2, ![16896, 4096]⟩
abbrev S4096x8264 : Shape := ⟨2, ![4096, 8264]⟩
abbrev S4096x2120 : Shape := ⟨2, ![4096, 2120]⟩
abbrev S4096x64 : Shape := ⟨2, ![4096, 64]⟩
abbrev S_ : Shape := ⟨0, ![]⟩
abbrev S4096x120 : Shape := ⟨2, ![4096, 120]⟩
abbrev S4096x2048 : Shape := ⟨2, ![4096, 2048]⟩
abbrev S4096x8 : Shape := ⟨2, ![4096, 8]⟩
abbrev S4096x32 : Shape := ⟨2, ![4096, 32]⟩
abbrev S4096x2304 : Shape := ⟨2, ![4096, 2304]⟩
abbrev S16896x2304 : Shape := ⟨2, ![16896, 2304]⟩
abbrev S1536x4096 : Shape := ⟨2, ![1536, 4096]⟩
abbrev S4096x768 : Shape := ⟨2, ![4096, 768]⟩
abbrev S1536x768 : Shape := ⟨2, ![1536, 768]⟩
abbrev S512x4096 : Shape := ⟨2, ![512, 4096]⟩
abbrev S512x768 : Shape := ⟨2, ![512, 768]⟩

abbrev nBuf : Space → Nat
  | .hbm => 14
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S4096x8264, .bf16⟩
  | .hbm, ⟨2, _⟩ => ⟨S4096x2120, .bf16⟩
  | .hbm, ⟨3, _⟩ => ⟨S4096x64, .bf16⟩
  | .hbm, ⟨4, _⟩ => ⟨S_, .bf16⟩
  | .hbm, ⟨5, _⟩ => ⟨S4096x120, .bf16⟩
  | .hbm, ⟨6, _⟩ => ⟨S4096x2048, .bf16⟩
  | .hbm, ⟨7, _⟩ => ⟨S4096x8, .bf16⟩
  | .hbm, ⟨8, _⟩ => ⟨S4096x32, .bf16⟩
  | .hbm, ⟨9, _⟩ => ⟨S4096x32, .bf16⟩
  | .hbm, ⟨10, _⟩ => ⟨S4096x32, .bf16⟩
  | .hbm, ⟨11, _⟩ => ⟨S4096x64, .bf16⟩
  | .hbm, ⟨12, _⟩ => ⟨S4096x2304, .bf16⟩
  | .hbm, ⟨13, _⟩ => ⟨S16896x2304, .f32⟩
  | .local _ .vmem, ⟨0, _⟩ => ⟨S1536x4096, .bf16⟩
  | .local _ .vmem, ⟨1, _⟩ => ⟨S1536x4096, .bf16⟩
  | .local _ .vmem, ⟨2, _⟩ => ⟨S4096x768, .bf16⟩
  | .local _ .vmem, ⟨3, _⟩ => ⟨S4096x768, .bf16⟩
  | .local _ .vmem, ⟨4, _⟩ => ⟨S1536x768, .f32⟩
  | .local _ .vmem, ⟨5, _⟩ => ⟨S1536x768, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 3, 1], ![false, false, false]⟩

def k0_mult1 : BitVec 32 :=
  let c0_i32 : BitVec 32 := 0#32
  let c512_i32 : BitVec 32 := 512#32
  let v0 : BitVec 32 := Scalar.muli c0_i32 c512_i32
  v0
def k0_off1 (c0_i32 : BitVec 32) : Fin 2 → Nat :=
  let c512_i32 : BitVec 32 := 512#32
  let v0 : BitVec 32 := Scalar.muli c0_i32 c512_i32
  let v1 : BitVec 32 := v0
  let v2 : Index := Scalar.indexCast v1
  let c0 : Index := 0#32
  ![v2.toNat, 0]
def k0_off2 (c0_i32 : BitVec 32) : Fin 2 → Nat :=
  let c512_i32 : BitVec 32 := 512#32
  let v0 : BitVec 32 := Scalar.muli c0_i32 c512_i32
  let v1 : BitVec 32 := v0
  let v7 : Index := Scalar.indexCast v1
  let c0_2 : Index := 0#32
  ![v7.toNat, 0]
def k0_mult2 : BitVec 32 :=
  let c1_i32 : BitVec 32 := 1#32
  let c512_i32_3 : BitVec 32 := 512#32
  let v9 : BitVec 32 := Scalar.muli c1_i32 c512_i32_3
  v9
def k0_mult3 : BitVec 32 :=
  let c2_i32 : BitVec 32 := 2#32
  let c512_i32_9 : BitVec 32 := 512#32
  let v18 : BitVec 32 := Scalar.muli c2_i32 c512_i32_9
  v18
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S16896x4096 : Shape := ⟨2, ![16896, 4096]⟩
abbrev S4096x8264 : Shape := ⟨2, ![4096, 8264]⟩
abbrev S16896x8264 : Shape := ⟨2, ![16896, 8264]⟩
abbrev S16896x1024 : Shape := ⟨2, ![16896, 1024]⟩
abbrev S16896x2048 : Shape := ⟨2, ![16896, 2048]⟩
abbrev S16896x4 : Shape := ⟨2, ![16896, 4]⟩
abbrev S16896x1536 : Shape := ⟨2, ![16896, 1536]⟩
abbrev S16896x512 : Shape := ⟨2, ![16896, 512]⟩
abbrev S16896x64 : Shape := ⟨2, ![16896, 64]⟩
abbrev S_ : Shape := ⟨0, ![]⟩
abbrev S16896x120 : Shape := ⟨2, ![16896, 120]⟩
abbrev S16896x2304 : Shape := ⟨2, ![16896, 2304]⟩

abbrev nBuf : Space → Nat
  | .hbm => 19
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x8264, .bf16⟩
  | .hbm, ⟨2, _⟩ => ⟨S16896x4096, .f32⟩
  | .hbm, ⟨3, _⟩ => ⟨S4096x8264, .f32⟩
  | .hbm, ⟨4, _⟩ => ⟨S16896x8264, .f32⟩
  | .hbm, ⟨5, _⟩ => ⟨S16896x1024, .f32⟩
  | .hbm, ⟨6, _⟩ => ⟨S16896x1024, .f32⟩
  | .hbm, ⟨7, _⟩ => ⟨S16896x2048, .f32⟩
  | .hbm, ⟨8, _⟩ => ⟨S16896x2048, .f32⟩
  | .hbm, ⟨9, _⟩ => ⟨S16896x4, .f32⟩
  | .hbm, ⟨10, _⟩ => ⟨S16896x4, .f32⟩
  | .hbm, ⟨11, _⟩ => ⟨S16896x1536, .f32⟩
  | .hbm, ⟨12, _⟩ => ⟨S16896x512, .f32⟩
  | .hbm, ⟨13, _⟩ => ⟨S16896x64, .f32⟩
  | .hbm, ⟨14, _⟩ => ⟨S_, .f32⟩
  | .hbm, ⟨15, _⟩ => ⟨S16896x120, .f32⟩
  | .hbm, ⟨16, _⟩ => ⟨S_, .f32⟩
  | .hbm, ⟨17, _⟩ => ⟨S16896x64, .f32⟩
  | .hbm, ⟨18, _⟩ => ⟨S16896x2304, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel9.lean ====
abbrev S16896x4096 : Shape := ⟨2, ![16896, 4096]⟩
abbrev S4096 : Shape := ⟨1, ![4096]⟩
abbrev S1x4096 : Shape := ⟨2, ![1, 4096]⟩
abbrev S16384x4096 : Shape := ⟨2, ![16384, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S16896x4096, .f32⟩
  | .hbm, ⟨1, _⟩ => ⟨S16896x4096, .f32⟩
  | .hbm, ⟨2, _⟩ => ⟨S4096, .f32⟩
  | .hbm, ⟨3, _⟩ => ⟨S1x4096, .f32⟩
  | .hbm, ⟨4, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S16896x4096 : Shape := ⟨2, ![16896, 4096]⟩
abbrev S4096 : Shape := ⟨1, ![4096]⟩
abbrev S_ : Shape := ⟨0, ![]⟩
abbrev S16896 : Shape := ⟨1, ![16896]⟩
abbrev S16896x1 : Shape := ⟨2, ![16896, 1]⟩
abbrev S1x4096 : Shape := ⟨2, ![1, 4096]⟩
abbrev S16384x4096 : Shape := ⟨2, ![16384, 4096]⟩

abbrev nBuf : Space → Nat
  | .hbm => 21
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S16896x4096, .f32⟩
  | .hbm, ⟨2, _⟩ => ⟨S4096, .f32⟩
  | .hbm, ⟨3, _⟩ => ⟨S16896x4096, .f32⟩
  | .hbm, ⟨4, _⟩ => ⟨S_, .f32⟩
  | .hbm, ⟨5, _⟩ => ⟨S16896, .f32⟩
  | .hbm, ⟨6, _⟩ => ⟨S16896x1, .f32⟩
  | .hbm, ⟨7, _⟩ => ⟨S_, .f32⟩
  | .hbm, ⟨8, _⟩ => ⟨S16896x1, .f32⟩
  | .hbm, ⟨9, _⟩ => ⟨S16896x1, .f32⟩
  | .hbm, ⟨10, _⟩ => ⟨S_, .f32⟩
  | .hbm, ⟨11, _⟩ => ⟨S16896x1, .f32⟩
  | .hbm, ⟨12, _⟩ => ⟨S16896x1, .f32⟩
  | .hbm, ⟨13, _⟩ => ⟨S16896x1, .f32⟩
  | .hbm, ⟨14, _⟩ => ⟨S16896x4096, .f32⟩
  | .hbm, ⟨15, _⟩ => ⟨S16896x4096, .f32⟩
  | .hbm, ⟨16, _⟩ => ⟨S1x4096, .f32⟩
  | .hbm, ⟨17, _⟩ => ⟨S16896x4096, .f32⟩
  | .hbm, ⟨18, _⟩ => ⟨S16896x4096, .f32⟩
  | .hbm, ⟨19, _⟩ => ⟨S16896x4096, .f32⟩
  | .hbm, ⟨20, _⟩ => ⟨S16384x4096, .f32⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel10.lean ====
abbrev S16896x4096 : Shape := ⟨2, ![16896, 4096]⟩
abbrev S4096 : Shape := ⟨1, ![4096]⟩
abbrev S1x4096 : Shape := ⟨2, ![1, 4096]⟩
abbrev S256x4096 : Shape := ⟨2, ![256, 4096]⟩
abbrev S256x1 : Shape := ⟨2, ![256, 1]⟩
abbrev S256 : Shape := ⟨1, ![256]⟩

abbrev nBuf : Space → Nat
  | .hbm => 8
  | .vmem => 10
  | .smem => 0
  | _ => 0

abbrev bufTy : (tb : Table) → Fin (tcTables nBuf tb) → BufTy
  | .hbm, ⟨0, _⟩ => ⟨S16896x4096, .f32⟩
  | .hbm, ⟨1, _⟩ => ⟨S16896x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S16896x4096, .f32⟩
  | .hbm, ⟨7, _⟩ => ⟨S16896x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S16896x4096 : Shape := ⟨2, ![16896, 4096]⟩
abbrev S4096 : Shape := ⟨1, ![4096]⟩
abbrev S_ : Shape := ⟨0, ![]⟩
abbrev S496x4096 : Shape := ⟨2, ![496, 4096]⟩
abbrev S16896 : Shape := ⟨1, ![16896]⟩
abbrev S16896x1 : Shape := ⟨2, ![16896, 1]⟩
abbrev S1x4096 : Shape := ⟨2, ![1, 4096]⟩
abbrev S16400x4096 : Shape := ⟨2, ![16400, 4096]⟩

abbrev nBuf : Space → Nat
  | .hbm => 42
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S16896x4096, .f32⟩
  | .hbm, ⟨2, _⟩ => ⟨S4096, .f32⟩
  | .hbm, ⟨3, _⟩ => ⟨S4096, .f32⟩
  | .hbm, ⟨4, _⟩ => ⟨S_, .f32⟩
  | .hbm, ⟨5, _⟩ => ⟨S496x4096, .f32⟩
  | .hbm, ⟨6, _⟩ => ⟨S16896x4096, .f32⟩
  | .hbm, ⟨7, _⟩ => ⟨S_, .f32⟩
  | .hbm, ⟨8, _⟩ => ⟨S16896, .f32⟩
  | .hbm, ⟨9, _⟩ => ⟨S16896x1, .f32⟩
  | .hbm, ⟨10, _⟩ => ⟨S_, .f32⟩
  | .hbm, ⟨11, _⟩ => ⟨S16896x1, .f32⟩
  | .hbm, ⟨12, _⟩ => ⟨S16896x1, .f32⟩
  | .hbm, ⟨13, _⟩ => ⟨S_, .f32⟩
  | .hbm, ⟨14, _⟩ => ⟨S16896x1, .f32⟩
  | .hbm, ⟨15, _⟩ => ⟨S16896x1, .f32⟩
  | .hbm, ⟨16, _⟩ => ⟨S16896x1, .f32⟩
  | .hbm, ⟨17, _⟩ => ⟨S16896x4096, .f32⟩
  | .hbm, ⟨18, _⟩ => ⟨S16896x4096, .f32⟩
  | .hbm, ⟨19, _⟩ => ⟨S1x4096, .f32⟩
  | .hbm, ⟨20, _⟩ => ⟨S16896x4096, .f32⟩
  | .hbm, ⟨21, _⟩ => ⟨S16896x4096, .f32⟩
  | .hbm, ⟨22, _⟩ => ⟨S16896x4096, .f32⟩
  | .hbm, ⟨23, _⟩ => ⟨S16400x4096, .f32⟩
  | .hbm, ⟨24, _⟩ => ⟨S16896x4096, .f32⟩
  | .hbm, ⟨25, _⟩ => ⟨S16896x4096, .f32⟩
  | .hbm, ⟨26, _⟩ => ⟨S_, .f32⟩
  | .hbm, ⟨27, _⟩ => ⟨S16896, .f32⟩
  | .hbm, ⟨28, _⟩ => ⟨S16896x1, .f32⟩
  | .hbm, ⟨29, _⟩ => ⟨S_, .f32⟩
  | .hbm, ⟨30, _⟩ => ⟨S16896x1, .f32⟩
  | .hbm, ⟨31, _⟩ => ⟨S16896x1, .f32⟩
  | .hbm, ⟨32, _⟩ => ⟨S_, .f32⟩
  | .hbm, ⟨33, _⟩ => ⟨S16896x1, .f32⟩
  | .hbm, ⟨34, _⟩ => ⟨S16896x1, .f32⟩
  | .hbm, ⟨35, _⟩ => ⟨S16896x1, .f32⟩
  | .hbm, ⟨36, _⟩ => ⟨S16896x4096, .f32⟩
  | .hbm, ⟨37, _⟩ => ⟨S16896x4096, .f32⟩
  | .hbm, ⟨38, _⟩ => ⟨S1x4096, .f32⟩
  | .hbm, ⟨39, _⟩ => ⟨S16896x4096, .f32⟩
  | .hbm, ⟨40, _⟩ => ⟨S16896x4096, .f32⟩
  | .hbm, ⟨41, _⟩ => ⟨S16896x4096, .bf16⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel11.lean ====
abbrev S1x16384x4096 : Shape := ⟨3, ![1, 16384, 4096]⟩
abbrev S16x4096 : Shape := ⟨2, ![16, 4096]⟩
abbrev S4096 : Shape := ⟨1, ![4096]⟩
abbrev S16384x4096 : Shape := ⟨2, ![16384, 4096]⟩
abbrev S1x4096 : Shape := ⟨2, ![1, 4096]⟩
abbrev S16896x4096 : Shape := ⟨2, ![16896, 4096]⟩
abbrev S512x4096 : Shape := ⟨2, ![512, 4096]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S1x16384x4096, .f32⟩
  | .hbm, ⟨1, _⟩ => ⟨S16x4096, .f32⟩
  | .hbm, ⟨2, _⟩ => ⟨S4096, .f32⟩
  | .hbm, ⟨3, _⟩ => ⟨S16384x4096, .f32⟩
  | .hbm, ⟨4, _⟩ => ⟨S1x4096, .f32⟩
  | .hbm, ⟨5, _⟩ => ⟨S16896x4096, .f32⟩
  | .hbm, ⟨6, _⟩ => ⟨S16896x4096, .bf16⟩
  | .local _ .vmem, ⟨0, _⟩ => ⟨S512x4096, .f32⟩
  | .local _ .vmem, ⟨1, _⟩ => ⟨S512x4096, .f32⟩
  | .local _ .vmem, ⟨2, _⟩ => ⟨S16x4096, .f32⟩
  | .local _ .vmem, ⟨3, _⟩ => ⟨S1x4096, .f32⟩
  | .local _ .vmem, ⟨4, _⟩ => ⟨S512x4096, .f32⟩
  | .local _ .vmem, ⟨5, _⟩ => ⟨S512x4096, .f32⟩
  | .local _ .vmem, ⟨6, _⟩ => ⟨S512x4096, .bf16⟩
  | .local _ .vmem, ⟨7, _⟩ => ⟨S512x4096, .bf16⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S1x16384x4096 : Shape := ⟨3, ![1, 16384, 4096]⟩
abbrev S16x4096 : Shape := ⟨2, ![16, 4096]⟩
abbrev S4096 : Shape := ⟨1, ![4096]⟩
abbrev S_ : Shape := ⟨0, ![]⟩
abbrev S496x4096 : Shape := ⟨2, ![496, 4096]⟩
abbrev S16384x4096 : Shape := ⟨2, ![16384, 4096]⟩
abbrev S16896x4096 : Shape := ⟨2, ![16896, 4096]⟩
abbrev S16896 : Shape := ⟨1, ![16896]⟩
abbrev S16896x1 : Shape := ⟨2, ![16896, 1]⟩
abbrev S1x4096 : Shape := ⟨2, ![1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S16x4096, .f32⟩
  | .hbm, ⟨2, _⟩ => ⟨S4096, .f32⟩
  | .hbm, ⟨3, _⟩ => ⟨S_, .f32⟩
  | .hbm, ⟨4, _⟩ => ⟨S496x4096, .f32⟩
  | .hbm, ⟨5, _⟩ => ⟨S16384x4096, .f32⟩
  | .hbm, ⟨6, _⟩ => ⟨S16896x4096, .f32⟩
  | .hbm, ⟨7, _⟩ => ⟨S16896x4096, .f32⟩
  | .hbm, ⟨8, _⟩ => ⟨S_, .f32⟩
  | .hbm, ⟨9, _⟩ => ⟨S16896, .f32⟩
  | .hbm, ⟨10, _⟩ => ⟨S16896x1, .f32⟩
  | .hbm, ⟨11, _⟩ => ⟨S_, .f32⟩
  | .hbm, ⟨12, _⟩ => ⟨S16896x1, .f32⟩
  | .hbm, ⟨13, _⟩ => ⟨S16896x1, .f32⟩
  | .hbm, ⟨14, _⟩ => ⟨S_, .f32⟩
  | .hbm, ⟨15, _⟩ => ⟨S16896x1, .f32⟩
  | .hbm, ⟨16, _⟩ => ⟨S16896x1, .f32⟩
  | .hbm, ⟨17, _⟩ => ⟨S16896x1, .f32⟩
  | .hbm, ⟨18, _⟩ => ⟨S16896x4096, .f32⟩
  | .hbm, ⟨19, _⟩ => ⟨S16896x4096, .f32⟩
  | .hbm, ⟨20, _⟩ => ⟨S1x4096, .f32⟩
  | .hbm, ⟨21, _⟩ => ⟨S16896x4096, .f32⟩
  | .hbm, ⟨22, _⟩ => ⟨S16896x4096, .f32⟩
  | .hbm, ⟨23, _⟩ => ⟨S16896x4096, .bf16⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel12.lean ====
abbrev S16896x512 : Shape := ⟨2, ![16896, 512]⟩
abbrev S16896x64 : Shape := ⟨2, ![16896, 64]⟩
abbrev S16896x32 : Shape := ⟨2, ![16896, 32]⟩
abbrev S512 : Shape := ⟨1, ![512]⟩
abbrev S512x4096 : Shape := ⟨2, ![512, 4096]⟩
abbrev S_ : Shape := ⟨0, ![]⟩
abbrev S16896x1536 : Shape := ⟨2, ![16896, 1536]⟩
abbrev S16896x128 : Shape := ⟨2, ![16896, 128]⟩
abbrev S16896x2304 : Shape := ⟨2, ![16896, 2304]⟩
abbrev S1x512 : Shape := ⟨2, ![1, 512]⟩
abbrev S16896x4096 : Shape := ⟨2, ![16896, 4096]⟩
abbrev S16x22x144x768 : Shape := ⟨4, ![16, 22, 144, 768]⟩
abbrev S768x512 : Shape := ⟨2, ![768, 512]⟩
abbrev S512x1024 : Shape := ⟨2, ![512, 1024]⟩
abbrev S768x128 : Shape := ⟨2, ![768, 128]⟩
abbrev S768x1024 : Shape := ⟨2, ![768, 1024]⟩
abbrev S4x1x144x768 : Shape := ⟨4, ![4, 1, 144, 768]⟩
abbrev S768 : Shape := ⟨1, ![768]⟩
abbrev S768x1 : Shape := ⟨2, ![768, 1]⟩
abbrev S128x768 : Shape := ⟨2, ![128, 768]⟩
abbrev S1x1x128x768 : Shape := ⟨4, ![1, 1, 128, 768]⟩
abbrev S16x768 : Shape := ⟨2, ![16, 768]⟩
abbrev S1x1x16x768 : Shape := ⟨4, ![1, 1, 16, 768]⟩

abbrev nBuf : Space → Nat
  | .hbm => 19
  | .vmem => 14
  | .smem => 0
  | _ => 0

abbrev bufTy : (tb : Table) → Fin (tcTables nBuf tb) → BufTy
  | .hbm, ⟨0, _⟩ => ⟨S16896x512, .f32⟩
  | .hbm, ⟨1, _⟩ => ⟨S16896x64, .f32⟩
  | .hbm, ⟨2, _⟩ => ⟨S16896x32, .f32⟩
  | .hbm, ⟨3, _⟩ => ⟨S16896x32, .f32⟩
  | .hbm, ⟨4, _⟩ => ⟨S512, .f32⟩
  | .hbm, ⟨5, _⟩ => ⟨S512x4096, .bf16⟩
  | .hbm, ⟨6, _⟩ => ⟨S_, .f32⟩
  | .hbm, ⟨7, _⟩ => ⟨S16896x1536, .f32⟩
  | .hbm, ⟨8, _⟩ => ⟨S_, .f32⟩
  | .hbm, ⟨9, _⟩ => ⟨S16896x128, .f32⟩
  | .hbm, ⟨10, _⟩ => ⟨S16896x32, .f32⟩
  | .hbm, ⟨11, _⟩ => ⟨S16896x32, .f32⟩
  | .hbm, ⟨12, _⟩ => ⟨S16896x32, .f32⟩
  | .hbm, ⟨13, _⟩ => ⟨S16896x64, .f32⟩
  | .hbm, ⟨14, _⟩ => ⟨S16896x2304, .f32⟩
  | .hbm, ⟨15, _⟩ => ⟨S16896x128, .f32⟩
  | .hbm, ⟨16, _⟩ => ⟨S1x512, .f32⟩
  | .hbm, ⟨17, _⟩ => ⟨S16896x4096, .bf16⟩
  | .hbm, ⟨18, _⟩ => ⟨S16x22x144x768, .bf16⟩
  | .local _ .vmem, ⟨0, _⟩ => ⟨S768x512, .f32⟩
  | .local _ .vmem, ⟨1, _⟩ => ⟨S768x512, .f32⟩
  | .local _ .vmem, ⟨2, _⟩ => ⟨S1x512, .f32⟩
  | .local _ .vmem, ⟨3, _⟩ => ⟨S512x1024, .bf16⟩
  | .local _ .vmem, ⟨4, _⟩ => ⟨S512x1024, .bf16⟩
  | .local _ .vmem, ⟨5, _⟩ => ⟨S768x128, .f32⟩
  | .local _ .vmem, ⟨6, _⟩ => ⟨S768x128, .f32⟩
  | .local _ .vmem, ⟨7, _⟩ => ⟨S768x128, .f32⟩
  | .local _ .vmem, ⟨8, _⟩ => ⟨S768x128, .f32⟩
  | .local _ .vmem, ⟨9, _⟩ => ⟨S768x1024, .bf16⟩
  | .local _ .vmem, ⟨10, _⟩ => ⟨S768x1024, .bf16⟩
  | .local _ .vmem, ⟨11, _⟩ => ⟨S4x1x144x768, .bf16⟩
  | .local _ .vmem, ⟨12, _⟩ => ⟨S4x1x144x768, .bf16⟩
  | .local _ .vmem, ⟨13, _⟩ => ⟨S768x512, .bf16⟩
  | _, _ => ⟨S16896x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![22, 4], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c17_i32 : BitVec 32 := 17#32
  let c0_i32 : BitVec 32 := 0#32
  ![arg0.toNat, c17_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S768x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x1x144x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference12Ideal.lean ====
abbrev S16896x512 : Shape := ⟨2, ![16896, 512]⟩
abbrev S16896x64 : Shape := ⟨2, ![16896, 64]⟩
abbrev S16896x32 : Shape := ⟨2, ![16896, 32]⟩
abbrev S512 : Shape := ⟨1, ![512]⟩
abbrev S512x4096 : Shape := ⟨2, ![512, 4096]⟩
abbrev S_ : Shape := ⟨0, ![]⟩
abbrev S16896 : Shape := ⟨1, ![16896]⟩
abbrev S16896x1 : Shape := ⟨2, ![16896, 1]⟩
abbrev S1x512 : Shape := ⟨2, ![1, 512]⟩
abbrev S16896x4096 : Shape := ⟨2, ![16896, 4096]⟩
abbrev S16896x16x256 : Shape := ⟨3, ![16896, 16, 256]⟩
abbrev S16896x1x64 : Shape := ⟨3, ![16896, 1, 64]⟩
abbrev S16896x16x64 : Shape := ⟨3, ![16896, 16, 64]⟩
abbrev S16896x16x128 : Shape := ⟨3, ![16896, 16, 128]⟩
abbrev S16896x16x16 : Shape := ⟨3, ![16896, 16, 16]⟩
abbrev S16896x16x144 : Shape := ⟨3, ![16896, 16, 144]⟩
abbrev S22x768x16x144 : Shape := ⟨4, ![22, 768, 16, 144]⟩
abbrev S16x22x144x768 : Shape := ⟨4, ![16, 22, 144, 768]⟩

abbrev nBuf : Space → Nat
  | .hbm => 49
  | .vmem => 0
  | .smem => 0
  | _ => 0

abbrev bufTy : (tb : Table) → Fin (tcTables nBuf tb) → BufTy
  | .hbm, ⟨0, _⟩ => ⟨S16896x512, .f32⟩
  | .hbm, ⟨1, _⟩ => ⟨S16896x64, .f32⟩
  | .hbm, ⟨2, _⟩ => ⟨S16896x32, .f32⟩
  | .hbm, ⟨3, _⟩ => ⟨S16896x32, .f32⟩
  | .hbm, ⟨4, _⟩ => ⟨S512, .f32⟩
  | .hbm, ⟨5, _⟩ => ⟨S512x4096, .bf16⟩
  | .hbm, ⟨6, _⟩ => ⟨S16896x512, .f32⟩
  | .hbm, ⟨7, _⟩ => ⟨S_, .f32⟩
  | .hbm, ⟨8, _⟩ => ⟨S16896, .f32⟩
  | .hbm, ⟨9, _⟩ => ⟨S16896x1, .f32⟩
  | .hbm, ⟨10, _⟩ => ⟨S_, .f32⟩
  | .hbm, ⟨11, _⟩ => ⟨S16896x1, .f32⟩
  | .hbm, ⟨12, _⟩ => ⟨S16896x1, .f32⟩
  | .hbm, ⟨13, _⟩ => ⟨S_, .f32⟩
  | .hbm, ⟨14, _⟩ => ⟨S16896x1, .f32⟩
  | .hbm, ⟨15, _⟩ => ⟨S16896x1, .f32⟩
  | .hbm, ⟨16, _⟩ => ⟨S16896x1, .f32⟩
  | .hbm, ⟨17, _⟩ => ⟨S16896x512, .f32⟩
  | .hbm, ⟨18, _⟩ => ⟨S16896x512, .f32⟩
  | .hbm, ⟨19, _⟩ => ⟨S1x512, .f32⟩
  | .hbm, ⟨20, _⟩ => ⟨S16896x512, .f32⟩
  | .hbm, ⟨21, _⟩ => ⟨S16896x512, .f32⟩
  | .hbm, ⟨22, _⟩ => ⟨S512x4096, .f32⟩
  | .hbm, ⟨23, _⟩ => ⟨S16896x4096, .f32⟩
  | .hbm, ⟨24, _⟩ => ⟨S16896x16x256, .f32⟩
  | .hbm, ⟨25, _⟩ => ⟨S16896x32, .f32⟩
  | .hbm, ⟨26, _⟩ => ⟨S16896x32, .f32⟩
  | .hbm, ⟨27, _⟩ => ⟨S16896x32, .f32⟩
  | .hbm, ⟨28, _⟩ => ⟨S16896x32, .f32⟩
  | .hbm, ⟨29, _⟩ => ⟨S16896x32, .f32⟩
  | .hbm, ⟨30, _⟩ => ⟨S16896x32, .f32⟩
  | .hbm, ⟨31, _⟩ => ⟨S16896x32, .f32⟩
  | .hbm, ⟨32, _⟩ => ⟨S16896x32, .f32⟩
  | .hbm, ⟨33, _⟩ => ⟨S16896x64, .f32⟩
  | .hbm, ⟨34, _⟩ => ⟨S16896x1x64, .f32⟩
  | .hbm, ⟨35, _⟩ => ⟨S16896x16x64, .f32⟩
  | .hbm, ⟨36, _⟩ => ⟨S16896x16x128, .f32⟩
  | .hbm, ⟨37, _⟩ => ⟨S_, .f32⟩
  | .hbm, ⟨38, _⟩ => ⟨S16896x16x64, .f32⟩
  | .hbm, ⟨39, _⟩ => ⟨S16896x16x256, .f32⟩
  | .hbm, ⟨40, _⟩ => ⟨S16896x16x128, .f32⟩
  | .hbm, ⟨41, _⟩ => ⟨S_, .f32⟩
  | .hbm, ⟨42, _⟩ => ⟨S16896x16x16, .f32⟩
  | .hbm, ⟨43, _⟩ => ⟨S16896x16x144, .f32⟩
  | .hbm, ⟨44, _⟩ => ⟨S22x768x16x144, .f32⟩
  | .hbm, ⟨45, _⟩ => ⟨S16x22x144x768, .f32⟩
  | .hbm, ⟨46, _⟩ => ⟨S16896x4096, .f32⟩
  | .hbm, ⟨47, _⟩ => ⟨S16896x4096, .bf16⟩
  | .hbm, ⟨48, _⟩ => ⟨S16x22x144x768, .bf16⟩
  | _, _ => ⟨S16896x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Proof.Attn.Steps.lean ====
module

public import proofs.«01_k».proof.Proof.Gen.KernelIdeal.Frame
public import proofs.«01_k».proof.Proof.Gen.KernelIdeal.Loops
public import Idealize.ShloMosaic.Lib.WholeRead

@[expose] public section

set_option maxRecDepth 16384

/-! # What one grid point computes, as functions of its blocks

A grid point holds a block of queries, the head's keys and the head's values. The queries are cut into three slabs of
512 columns, the keys and values into chunks of 768. This file names the pieces of the computation: the scores of a slab
against a chunk, plain (`scoreU`) or masked (`scoreM`), their column maxima, and one step of the running softmax on the
pair (maximum, weighted sum) (`stM`, `stA`). -/

noncomputable section

namespace Cert.KernelIdeal.Attn

open Cert.KernelIdeal Cert.KernelIdeal.Gen
open Idealize.ShloMosaic Idealize.ShloMosaic.TcCoe Idealize.ShloMosaic.Tactic

variable {F : FTy → Type} [FloatOps F] [Named F]

/-! ## Windows of an array, by offsets that are plain numbers -/

/-- The part of `x` at offsets `off`, of sizes `size`; the coordinates wrap around, so that no bound is asked. -/
def win {α : Type} {r : ℕ} {d : Fin r → ℕ} (hd : ∀ a, 0 < d a) (x : (⟨r, d⟩ : Shape).Idx → α) (off size : Fin r → ℕ) :
    (⟨r, size⟩ : Shape).Idx → α :=
  fun y => x fun a => ⟨(off a + (y a).val) % d a, Nat.mod_lt _ (hd a)⟩

theorem pos2 {a b : ℕ} (ha : 0 < a := by decide) (hb : 0 < b := by decide) : ∀ i : Fin 2, 0 < (![a, b] : Fin 2 → ℕ) i := by
  intro i; fin_cases i <;> assumption
theorem pos3 {a b c : ℕ} (ha : 0 < a := by decide) (hb : 0 < b := by decide) (hc : 0 < c := by decide) :
    ∀ i : Fin 3, 0 < (![a, b, c] : Fin 3 → ℕ) i := by
  intro i; fin_cases i <;> assumption
theorem pos4 {a b c d : ℕ} (ha : 0 < a := by decide) (hb : 0 < b := by decide) (hc : 0 < c := by decide) (hd : 0 < d := by decide) :
    ∀ i : Fin 4, 0 < (![a, b, c, d] : Fin 4 → ℕ) i := by
  intro i; fin_cases i <;> assumption

/-- A load at a unit-stride rectangle of a whole buffer holding `x` is the window of `x` at the rectangle's offsets. -/
theorem readAt_win {κ : Kind} {sp : Space} {r : ℕ} {d : Fin r → ℕ} {e : EltTy} {m : Memref sig κ sp ⟨r, d⟩ e} (h : m.IsWhole)
    (hd : ∀ a, 0 < d a) (x : (⟨r, d⟩ : Shape).Idx → Elt F e) (off size : Fin r → ℕ) (inb : ∀ a, off a + size a ≤ (⟨r, d⟩ : Shape).size a) :
    View.readAt (Elt F) m.view (Rect.unit (s := ⟨r, d⟩) off size inb).toLoadRect (h.unread x) = win hd x off size := by
  funext y
  refine (h.readAt_unread x _ y).trans (congrArg x (funext fun a => Fin.ext ?_))
  have := inb a
  have hy := (y a).isLt
  show off a + 1 * (y a).val = (off a + (y a).val) % d a
  rw [Nat.one_mul, Nat.mod_eq_of_lt]
  exact lt_of_lt_of_le (Nat.add_lt_add_left hy _) this

/-- Chunk `n` of the keys: 768 rows of the head's 16896. -/
abbrev kblk (x3 : Vec F S16896x256 .bf16) (n : ℕ) : Vec F S768x256 .bf16 := win pos2 x3 ![768 * n, 0] S768x256.size
/-- The first 256 keys of chunk `n`. -/
abbrev kblk' (x3 : Vec F S16896x256 .bf16) (n : ℕ) : Vec F S256x256 .bf16 := win pos2 x3 ![768 * n, 0] S256x256.size
/-- Slab `s` of the queries. -/
abbrev qslab (x2 : Vec F S256x1536 .bf16) (s : ℕ) : Vec F S256x512 .bf16 := win pos2 x2 ![0, 512 * s] S256x512.size
/-- Chunk `n` of the values. -/
abbrev vblk (x4 : Vec F S1x22x144x768 .bf16) (n : ℕ) : Vec F S1x1x144x768 .bf16 := win pos4 x4 ![0, n, 0, 0] S1x1x144x768.size
/-- The first 256 values of chunk `n`. -/
abbrev vblk' (x4 : Vec F S1x22x144x768 .bf16) (n : ℕ) : Vec F S1x1x144x256 .bf16 := win pos4 x4 ![0, n, 0, 0] S1x1x144x256.size

/-! ## Loads after stores, slab by slab -/

section
variable {κ : Kind} {sp : Space} {e : EltTy} {d : Fin 3 → ℕ} (v : View sig κ sp ⟨3, d⟩ e) (f : v.ty.Contents (Elt F))

/-- A load at the rectangle stored last reads what was stored. -/
theorem readAt_hit (off size : Fin 3 → ℕ) (inb) (w : (⟨3, size⟩ : Shape).Idx → Elt F e) (L : List (View.Piece (Elt F) ⟨3, d⟩ e)) :
    v.readAt (Elt F) (Rect.unit (s := ⟨3, d⟩) off size inb).toLoadRect (v.writes (Elt F) f (⟨Rect.unit off size inb, w⟩ :: L)) = w :=
  funext fun x => View.read_writes_cons_emb v f (Rect.unit (s := ⟨3, d⟩) off size inb) w L x

/-- A load passes over a store to another slab. -/
theorem readAt_miss (o p q o' p' q' : ℕ) (hne : o ≠ o') (size size' : Fin 3 → ℕ) (h1 : size 0 = 1) (h1' : size' 0 = 1) (inb inb')
    (w : (⟨3, size'⟩ : Shape).Idx → Elt F e) (L : List (View.Piece (Elt F) ⟨3, d⟩ e)) :
    v.readAt (Elt F) (Rect.unit (s := ⟨3, d⟩) ![o, p, q] size inb).toLoadRect
        (v.writes (Elt F) f (⟨Rect.unit ![o', p', q'] size' inb', w⟩ :: L))
      = v.readAt (Elt F) (Rect.unit (s := ⟨3, d⟩) ![o, p, q] size inb).toLoadRect (v.writes (Elt F) f L) := by
  funext x
  refine View.read_writes_cons_miss_of_axis v f _ L _ (0 : Fin 3) o' 1 rfl rfl h1' ?_
  have h0 : (x (0 : Fin 3)).val < 1 := lt_of_lt_of_eq (x (0 : Fin 3)).isLt h1
  show o + 1 * (x (0 : Fin 3)).val < o' ∨ o' + 1 ≤ o + 1 * (x (0 : Fin 3)).val
  omega

/-- The same for a load that is covered by the stores listed. -/
theorem readCov_hit [∀ e, Nonempty (Elt F e)] (off size : Fin 3 → ℕ) (inb) (w : (⟨3, size⟩ : Shape).Idx → Elt F e) (L : List (View.Piece (Elt F) ⟨3, d⟩ e)) :
    v.readCov (⟨Rect.unit off size inb, w⟩ :: L) (Rect.unit (s := ⟨3, d⟩) off size inb).toLoadRect = w :=
  readAt_hit v _ off size inb w L

theorem readCov_miss [∀ e, Nonempty (Elt F e)] (o p q o' p' q' : ℕ) (hne : o ≠ o') (size size' : Fin 3 → ℕ) (h1 : size 0 = 1) (h1' : size' 0 = 1) (inb inb')
    (w : (⟨3, size'⟩ : Shape).Idx → Elt F e) (L : List (View.Piece (Elt F) ⟨3, d⟩ e)) :
    v.readCov (⟨Rect.unit ![o', p', q'] size' inb', w⟩ :: L) (Rect.unit (s := ⟨3, d⟩) ![o, p, q] size inb).toLoadRect
      = v.readCov L (Rect.unit (s := ⟨3, d⟩) ![o, p, q] size inb).toLoadRect :=
  readAt_miss v _ o p q o' p' q' hne size size' h1 h1' inb inb' w L

theorem readAt_nil (r : LoadRect ⟨3, d⟩) : v.readAt (Elt F) r (v.writes (Elt F) f []) = v.readAt (Elt F) r f := rfl

/-- A load within the rectangle stored last reads a window of what was stored. -/
theorem readCov_in [∀ e, Nonempty (Elt F e)] (o p q o' : ℕ) (size size' : Fin 3 → ℕ) (hd : ∀ a, 0 < size' a) (ho : o' ≤ o) (h0 : o - o' + size 0 ≤ size' 0)
    (h1 : p + size 1 ≤ size' 1) (h2 : q + size 2 ≤ size' 2) (inb inb') (w : (⟨3, size'⟩ : Shape).Idx → Elt F e) (L : List (View.Piece (Elt F) ⟨3, d⟩ e)) :
    v.readCov (⟨Rect.unit ![o', 0, 0] size' inb', w⟩ :: L) (Rect.unit (s := ⟨3, d⟩) ![o, p, q] size inb).toLoadRect = win hd w ![o - o', p, q] size := by
  funext x
  have hx : ∀ a, (x a).val < size a := fun a => (x a).isLt
  refine View.read_writes_cons_hit_of_coords v _ (Rect.unit (s := ⟨3, d⟩) ![o', 0, 0] size' inb') w L _ _ fun i => ?_
  fin_cases i
  · show o + 1 * (x (0 : Fin 3)).val = o' + 1 * ((o - o' + (x (0 : Fin 3)).val) % size' 0)
    rw [Nat.mod_eq_of_lt (lt_of_lt_of_le (Nat.add_lt_add_left (hx 0) _) h0)]; omega
  · show p + 1 * (x (1 : Fin 3)).val = 0 + 1 * ((p + (x (1 : Fin 3)).val) % size' 1)
    rw [Nat.mod_eq_of_lt (lt_of_lt_of_le (Nat.add_lt_add_left (hx 1) _) h1)]; omega
  · show q + 1 * (x (2 : Fin 3)).val = 0 + 1 * ((q + (x (2 : Fin 3)).val) % size' 2)
    rw [Nat.mod_eq_of_lt (lt_of_lt_of_le (Nat.add_lt_add_left (hx 2) _) h2)]; omega

end

/-! ## The slabs of the scratch buffers -/

theorem inbM {s : ℕ} (hs : s < 3) : ∀ a, (![s, 0, 0] : Fin 3 → ℕ) a + S1x1x512.size a ≤ S3x1x512.size a := by
  intro a; fin_cases a <;> simp [S1x1x512, S3x1x512]; omega
theorem inbA {s : ℕ} (hs : s < 3) : ∀ a, (![s, 0, 0] : Fin 3 → ℕ) a + S1x144x512.size a ≤ S3x144x512.size a := by
  intro a; fin_cases a <;> simp [S1x144x512, S3x144x512]; omega
theorem inbC {s : ℕ} (hs : s < 3) : ∀ a, (![s, 0, 0] : Fin 3 → ℕ) a + S1x768x512.size a ≤ S3x768x512.size a := by
  intro a; fin_cases a <;> simp [S1x768x512, S3x768x512]; omega

/-! ## Scores -/

/-- The number a masked score is given. -/
def maskV : F .f32 := Named.named κ "mask" 0xF149F2CA#32

/-- The scores of a chunk's 768 keys against a slab's 512 queries. -/
def scU (kb : Vec F S768x256 .bf16) (q : Vec F S256x512 .bf16) : FVec F S768x512 .f32 :=
  matmul dot_S768x256_S256x512_S768x512_1_0_0_1_n_n none kb (shapeCast S256x512 q shapeCasts_S256x512_S256x512 : FVec F S256x512 .bf16)
    (constant S768x512 .f32 0x00000000#32)

/-- Which of them are kept: the key's position (`kb` and up) at most the query's (`qb` and up), and at least 496. -/
def keep (kb qb : BitVec 32) : IVec S768x512 1 :=
  andi (cmpi .sle (addi (broadcast S768x512 kb) (iota .tc S768x512 32 [0] iota_S768x512_d0_w32))
      (addi (broadcast S768x512 qb) (iota .tc S768x512 32 [1] iota_S768x512_d1_w32)))
    (cmpi .sge (addi (broadcast S768x512 kb) (iota .tc S768x512 32 [0] iota_S768x512_d0_w32)) (broadcast S768x512 496#32))

/-- The masked scores. -/
def scM (kb qb : BitVec 32) (k : Vec F S768x256 .bf16) (q : Vec F S256x512 .bf16) : FVec F S768x512 .f32 :=
  select (keep kb qb) (scU k q) (broadcast S768x512 maskV)

/-- Scores as a slab of the score buffer holds them. -/
def wrapS (s : FVec F S768x512 .f32) : FVec F S1x768x512 .f32 := shapeCast S1x768x512 s shapeCasts_S768x512_S1x768x512
/-- Their column maxima, as a slab of the maximum buffer holds them. -/
def wrapC (s : FVec F S768x512 .f32) : FVec F S1x1x512 .f32 :=
  shapeCast S1x1x512 (shapeCast S1x512 (multiReduction .maximumf [0] S512 s 0xFF800000#32 reduces_S768x512_S512 (.inl rfl) rfl)
    shapeCasts_S512_S1x512 : FVec F S1x512 .f32) shapeCasts_S1x512_S1x1x512

/-- The same for 256 keys. -/
def scU' (kb : Vec F S256x256 .bf16) (q : Vec F S256x512 .bf16) : FVec F S256x512 .f32 :=
  matmul dot_S256x256_S256x512_S256x512_1_0_0_1_n_n none kb (shapeCast S256x512 q shapeCasts_S256x512_S256x512 : FVec F S256x512 .bf16)
    (constant S256x512 .f32 0x00000000#32)
def keep' (kb qb : BitVec 32) : IVec S256x512 1 :=
  andi (cmpi .sle (addi (broadcast S256x512 kb) (iota .tc S256x512 32 [0] iota_S256x512_d0_w32))
      (addi (broadcast S256x512 qb) (iota .tc S256x512 32 [1] iota_S256x512_d1_w32)))
    (cmpi .sge (addi (broadcast S256x512 kb) (iota .tc S256x512 32 [0] iota_S256x512_d0_w32)) (broadcast S256x512 496#32))
def scM' (kb qb : BitVec 32) (k : Vec F S256x256 .bf16) (q : Vec F S256x512 .bf16) : FVec F S256x512 .f32 :=
  select (keep' kb qb) (scU' k q) (broadcast S256x512 maskV)
def wrapS' (s : FVec F S256x512 .f32) : FVec F S1x256x512 .f32 := shapeCast S1x256x512 s shapeCasts_S256x512_S1x256x512
def wrapC' (s : FVec F S256x512 .f32) : FVec F S1x1x512 .f32 :=
  shapeCast S1x1x512 (shapeCast S1x512 (multiReduction .maximumf [0] S512 s 0xFF800000#32 reduces_S256x512_S512 (.inl rfl) rfl)
    shapeCasts_S512_S1x512 : FVec F S1x512 .f32) shapeCasts_S1x512_S1x1x512

/-! ## One step of the running softmax -/

/-- The new maximum, as a row. -/
def mx (m c : Vec F S1x1x512 .f32) : FVec F S1x512 .f32 :=
  maximumf (shapeCast S1x512 m shapeCasts_S1x1x512_S1x512) (shapeCast S1x512 c shapeCasts_S1x1x512_S1x512)
/-- The new maximum, as a slab of the maximum buffer. -/
def stM (m c : Vec F S1x1x512 .f32) : Vec F S1x1x512 .f32 := shapeCast S1x1x512 (mx m c) shapeCasts_S1x512_S1x1x512
/-- The old weighted sum, scaled to the new maximum. -/
def old (m c : Vec F S1x1x512 .f32) (A : Vec F S1x144x512 .f32) : FVec F S144x512 .f32 :=
  mulf (broadcastTo S144x512 (exp2 (subf (shapeCast S1x512 m shapeCasts_S1x1x512_S1x512) (mx m c)) : FVec F S1x512 .f32) broadcasts_S1x512_S144x512)
    (shapeCast S144x512 A shapeCasts_S1x144x512_S144x512)
/-- The new weighted sum, a chunk of 768 keys taken in. -/
def stA (m c : Vec F S1x1x512 .f32) (S : Vec F S1x768x512 .f32) (A : Vec F S1x144x512 .f32) (v : Vec F S1x1x144x768 .bf16) : Vec F S1x144x512 .f32 :=
  shapeCast S1x144x512 (addf (old m c A)
    (matmul dot_S144x768_S768x512_S144x512_1_0_0_1_n_n none (shapeCast S144x768 v shapeCasts_S1x1x144x768_S144x768 : FVec F S144x768 .bf16)
      (truncf .bf16 (exp2 (subf (shapeCast S768x512 S shapeCasts_S1x768x512_S768x512) (broadcastTo S768x512 (mx m c) broadcasts_S1x512_S768x512)) : FVec F S768x512 .f32) bitsLt_bf16_f32)
      (constant S144x512 .f32 0x00000000#32)) : FVec F S144x512 .f32) shapeCasts_S144x512_S1x144x512
/-- The new weighted sum, 256 keys taken in. -/
def stA' (m c : Vec F S1x1x512 .f32) (S : Vec F S1x256x512 .f32) (A : Vec F S1x144x512 .f32) (v : Vec F S1x1x144x256 .bf16) : Vec F S1x144x512 .f32 :=
  shapeCast S1x144x512 (addf (old m c A)
    (matmul dot_S144x256_S256x512_S144x512_1_0_0_1_n_n none (shapeCast S144x256 v shapeCasts_S1x1x144x256_S144x256 : FVec F S144x256 .bf16)
      (truncf .bf16 (exp2 (subf (shapeCast S256x512 S shapeCasts_S1x256x512_S256x512) (broadcastTo S256x512 (mx m c) broadcasts_S1x512_S256x512)) : FVec F S256x512 .f32) bitsLt_bf16_f32)
      (constant S144x512 .f32 0x00000000#32)) : FVec F S144x512 .f32) shapeCasts_S144x512_S1x144x512

/-! ## The chain of steps -/

/-- The scores of chunk `n` in slab `s` at grid row `i`: chunk 0 and the chunks from `2 i` on are masked. -/
def Sc (i s : ℕ) (x2 : Vec F S256x1536 .bf16) (x3 : Vec F S16896x256 .bf16) (n : ℕ) : FVec F S768x512 .f32 :=
  if n = 0 ∨ 2 * i ≤ n then scM (BitVec.ofNat 32 (768 * n)) (BitVec.ofNat 32 (1536 * i + 512 * s)) (kblk x3 n) (qslab x2 s)
  else scU (kblk x3 n) (qslab x2 s)

/-- The running maximum of slab `s` after `n` chunks. -/
def mN (i s : ℕ) (x2 : Vec F S256x1536 .bf16) (x3 : Vec F S16896x256 .bf16) : ℕ → Vec F S1x1x512 .f32
  | 0 => fun _ => maskV
  | n + 1 => stM (mN i s x2 x3 n) (wrapC (Sc i s x2 x3 n))

/-- The running weighted sum of slab `s` after `n` chunks. -/
def aN (i s : ℕ) (x2 : Vec F S256x1536 .bf16) (x3 : Vec F S16896x256 .bf16) (x4 : Vec F S1x22x144x768 .bf16) : ℕ → Vec F S1x144x512 .f32
  | 0 => fun _ => Scalar.ofBits .f32 0x00000000#32
  | n + 1 => stA (mN i s x2 x3 n) (wrapC (Sc i s x2 x3 n)) (wrapS (Sc i s x2 x3 n)) (aN i s x2 x3 x4 n) (vblk x4 n)

/-! ## The output -/

/-- The weighted sums divided by the sum of the weights, queries along the rows. -/
def fin (A : Vec F S1x144x512 .f32) : FVec F S512x128 .bf16 :=
  k0_pay2 (win (pos3 (a := 1) (b := 144) (c := 512)) A ![0, 0, 0] ![1, 128, 512]) (win (pos3 (a := 1) (b := 144) (c := 512)) A ![0, 128, 0] ![1, 1, 512])

/-- The last sum of slab `0`: the chunks up to `2 i`. -/
def sum0 (i : ℕ) (x2 : Vec F S256x1536 .bf16) (x3 : Vec F S16896x256 .bf16) (x4 : Vec F S1x22x144x768 .bf16) : Vec F S1x144x512 .f32 :=
  aN i 0 x2 x3 x4 (2 * i + 1)
/-- The scores of slab `1` against the first 256 keys of chunk `2 i + 1`. -/
def Sc1 (i : ℕ) (x2 : Vec F S256x1536 .bf16) (x3 : Vec F S16896x256 .bf16) : FVec F S256x512 .f32 :=
  scM' (BitVec.ofNat 32 (768 * (2 * i + 1))) (BitVec.ofNat 32 (1536 * i + 512 * 1)) (kblk' x3 (2 * i + 1)) (qslab x2 1)
/-- The last sum of slab `1`: the chunks up to `2 i`, and 256 keys of the next. -/
def sum1 (i : ℕ) (x2 : Vec F S256x1536 .bf16) (x3 : Vec F S16896x256 .bf16) (x4 : Vec F S1x22x144x768 .bf16) : Vec F S1x144x512 .f32 :=
  stA' (mN i 1 x2 x3 (2 * i + 1)) (wrapC' (Sc1 i x2 x3)) (wrapS' (Sc1 i x2 x3)) (aN i 1 x2 x3 x4 (2 * i + 1)) (vblk' x4 (2 * i + 1))
/-- The last sum of slab `2`: the chunks up to `2 i + 1`. -/
def sum2 (i : ℕ) (x2 : Vec F S256x1536 .bf16) (x3 : Vec F S16896x256 .bf16) (x4 : Vec F S1x22x144x768 .bf16) : Vec F S1x144x512 .f32 :=
  aN i 2 x2 x3 x4 (2 * i + 1 + 1)

/-- What a grid point stores in its output block, the last store first. -/
def pieces (i : ℕ) (x2 : Vec F S256x1536 .bf16) (x3 : Vec F S16896x256 .bf16) (x4 : Vec F S1x22x144x768 .bf16) : List (View.Piece (Elt F) S1536x128 .bf16) :=
  [⟨Rect.unit ![1024, 0] S512x128.size inb_S1536x128_S512x128_1024_0, fin (sum2 i x2 x3 x4)⟩,
    ⟨Rect.unit ![512, 0] S512x128.size inb_S1536x128_S512x128_512_0, fin (sum1 i x2 x3 x4)⟩,
    ⟨Rect.unit ![0, 0] S512x128.size inb_S1536x128_S512x128_0_0, fin (sum0 i x2 x3 x4)⟩]

end Cert.KernelIdeal.Attn

end
-- ==== Proof.Attn.Trip.lean ====
module

public import proofs.«01_k».proof.Proof.Attn.Steps
public import Idealize.ShloMosaic.Lib.Pipeline.Covers

@[expose] public section

set_option maxRecDepth 16384

/-! # One trip of the loop over pairs of chunks, and the loop's invariant -/

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .vmem S256x1536 .bf16) (harg2 : arg2.IsWhole) (arg3 : Memref sig .tc .vmem S16896x256 .bf16) (harg3 : arg3.IsWhole) (arg4 : Memref sig .tc .vmem S1x22x144x768 .bf16) (harg4 : arg4.IsWhole) (arg5 : Memref sig .tc .vmem S1536x128 .bf16) (harg5 : arg5.IsWhole) (arg6 : Memref sig .tc .vmem S3x1x512 .f32) (harg6 : arg6.IsWhole) (arg7 : Memref sig .tc .vmem S3x144x512 .f32) (harg7 : arg7.IsWhole) (arg8 : Memref sig .tc .vmem S3x768x512 .f32) (harg8 : arg8.IsWhole) (arg9 : Memref sig .tc .vmem S3x768x512 .f32) (harg9 : arg9.IsWhole) (arg10 : Memref sig .tc .vmem S3x1x512 .f32) (harg10 : arg10.IsWhole) (arg11 : Memref sig .tc .vmem S3x1x512 .f32) (harg11 : arg11.IsWhole) (k0_h2 : k0_cond2 i = 1#1)
  (x2 : Vec F S256x1536 .bf16) (x3 : Vec F S16896x256 .bf16) (x4 : Vec F S1x22x144x768 .bf16)

/-- A row that the loop's region is given and does not read. -/
def z529 : Vec F S1x1x512 .f32 := fun _ => Scalar.ofBits .f32 0x00000000#32

/-- What a trip touches: the three input blocks, and the six scratch buffers at given contents. -/
abbrev Res (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) : sProp 𝕄 :=
  iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11))

set_option maxHeartbeats 4000000 in
/-- One trip: what it stores into each scratch buffer. -/
noncomputable def trip (k : Fin (k0_t1_loop i).trips) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) :
    Σ' (L6 : List (View.Piece (Elt F) S3x1x512 .f32)), Σ' (L7 : List (View.Piece (Elt F) S3x144x512 .f32)), Σ' (L8 : List (View.Piece (Elt F) S3x768x512 .f32)), Σ' (L9 : List (View.Piece (Elt F) S3x768x512 .f32)), Σ' (L10 : List (View.Piece (Elt F) S3x1x512 .f32)),
    { L11 : List (View.Piece (Elt F) S3x1x512 .f32) //
      ∀ (K : PUnit → sProp 𝕄),
        iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
          ∗ (iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg6.view.loc (c : Thread nD τ) ↦[arg6.view.set]{fullShare} arg6.view.writes (Elt F) f6 L6) ∗ (arg7.view.loc (c : Thread nD τ) ↦[arg7.view.set]{fullShare} arg7.view.writes (Elt F) f7 L7) ∗ (arg8.view.loc (c : Thread nD τ) ↦[arg8.view.set]{fullShare} arg8.view.writes (Elt F) f8 L8) ∗ (arg9.view.loc (c : Thread nD τ) ↦[arg9.view.set]{fullShare} arg9.view.writes (Elt F) f9 L9) ∗ (arg10.view.loc (c : Thread nD τ) ↦[arg10.view.set]{fullShare} arg10.view.writes (Elt F) f10 L10) ∗ (arg11.view.loc (c : Thread nD τ) ↦[arg11.view.set]{fullShare} arg11.view.writes (Elt F) f11 L11)) -∗ K ⟨⟩))
          ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 0#32 k0_h2 z529 k ()) K } := by
  refine ⟨?_, ?_, ?_, ?_, ?_, ?_, fun K => ?run⟩
  case run =>
    unfold Gen.k0_t1_body
    simp only [k0_part9_eq_skeleton, k0_part10_eq_skeleton, k0_part11_eq_skeleton, k0_part12_eq_skeleton, k0_part13_eq_skeleton, k0_part14_eq_skeleton, k0_part15_eq_skeleton, k0_part16_eq_skeleton]
    iintro ⟨H2, H3, H4, H6, H7, H8, H9, H10, H11, Hk⟩
    sl_exec
    sl_step
    iapply Hk
    isplitl [H2]; · iexact H2
    isplitl [H3]; · iexact H3
    isplitl [H4]; · iexact H4
    isplitl [H6]; · iexact H6
    isplitl [H7]; · iexact H7
    isplitl [H8]; · iexact H8
    isplitl [H9]; · iexact H9
    isplitl [H10]; · iexact H10
    iexact H11

/-- The scratch buffers' contents, together. -/
structure St where
  s6 : arg6.view.ty.Contents (Elt F)
  s7 : arg7.view.ty.Contents (Elt F)
  s8 : arg8.view.ty.Contents (Elt F)
  s9 : arg9.view.ty.Contents (Elt F)
  s10 : arg10.view.ty.Contents (Elt F)
  s11 : arg11.view.ty.Contents (Elt F)

/-- The contents after trip `k`, from those before it. -/
@[irreducible] def next (k : Fin (k0_t1_loop i).trips) (p : St (F := F) arg6 arg7 arg8 arg9 arg10 arg11) : St (F := F) arg6 arg7 arg8 arg9 arg10 arg11 :=
  ⟨arg6.view.writes (Elt F) p.s6 (trip c i arg2 harg2 arg3 harg3 arg4 harg4 arg5 harg5 arg6 harg6 arg7 harg7 arg8 harg8 arg9 harg9 arg10 harg10 arg11 harg11 k0_h2 x2 x3 x4 k p.s6 p.s7 p.s8 p.s9 p.s10 p.s11).1,
    arg7.view.writes (Elt F) p.s7 (trip c i arg2 harg2 arg3 harg3 arg4 harg4 arg5 harg5 arg6 harg6 arg7 harg7 arg8 harg8 arg9 harg9 arg10 harg10 arg11 harg11 k0_h2 x2 x3 x4 k p.s6 p.s7 p.s8 p.s9 p.s10 p.s11).2.1,
    arg8.view.writes (Elt F) p.s8 (trip c i arg2 harg2 arg3 harg3 arg4 harg4 arg5 harg5 arg6 harg6 arg7 harg7 arg8 harg8 arg9 harg9 arg10 harg10 arg11 harg11 k0_h2 x2 x3 x4 k p.s6 p.s7 p.s8 p.s9 p.s10 p.s11).2.2.1,
    arg9.view.writes (Elt F) p.s9 (trip c i arg2 harg2 arg3 harg3 arg4 harg4 arg5 harg5 arg6 harg6 arg7 harg7 arg8 harg8 arg9 harg9 arg10 harg10 arg11 harg11 k0_h2 x2 x3 x4 k p.s6 p.s7 p.s8 p.s9 p.s10 p.s11).2.2.2.1,
    arg10.view.writes (Elt F) p.s10 (trip c i arg2 harg2 arg3 harg3 arg4 harg4 arg5 harg5 arg6 harg6 arg7 harg7 arg8 harg8 arg9 harg9 arg10 harg10 arg11 harg11 k0_h2 x2 x3 x4 k p.s6 p.s7 p.s8 p.s9 p.s10 p.s11).2.2.2.2.1,
    arg11.view.writes (Elt F) p.s11 (trip c i arg2 harg2 arg3 harg3 arg4 harg4 arg5 harg5 arg6 harg6 arg7 harg7 arg8 harg8 arg9 harg9 arg10 harg10 arg11 harg11 k0_h2 x2 x3 x4 k p.s6 p.s7 p.s8 p.s9 p.s10 p.s11).2.2.2.2.2.1⟩

/-- The contents before trip `k`, from those at the loop's entry. -/
def st (g : St (F := F) arg6 arg7 arg8 arg9 arg10 arg11) (k : ℕ) : St (F := F) arg6 arg7 arg8 arg9 arg10 arg11 :=
  Nat.rec g (fun k p => if h : k < (k0_t1_loop i).trips then next c i arg2 harg2 arg3 harg3 arg4 harg4 arg5 harg5 arg6 harg6 arg7 harg7 arg8 harg8 arg9 harg9 arg10 harg10 arg11 harg11 k0_h2 x2 x3 x4 ⟨k, h⟩ p else p) k

theorem st_succ (g : St (F := F) arg6 arg7 arg8 arg9 arg10 arg11) (k : Fin (k0_t1_loop i).trips) :
    st c i arg2 harg2 arg3 harg3 arg4 harg4 arg5 harg5 arg6 harg6 arg7 harg7 arg8 harg8 arg9 harg9 arg10 harg10 arg11 harg11 k0_h2 x2 x3 x4 g (k.val + 1) = next c i arg2 harg2 arg3 harg3 arg4 harg4 arg5 harg5 arg6 harg6 arg7 harg7 arg8 harg8 arg9 harg9 arg10 harg10 arg11 harg11 k0_h2 x2 x3 x4 k (st c i arg2 harg2 arg3 harg3 arg4 harg4 arg5 harg5 arg6 harg6 arg7 harg7 arg8 harg8 arg9 harg9 arg10 harg10 arg11 harg11 k0_h2 x2 x3 x4 g k.val) :=
  dif_pos k.isLt

attribute [local irreducible] trip in
/-- A trip, from any contents to those after it. -/
theorem trip_next (k : Fin (k0_t1_loop i).trips) (p : St (F := F) arg6 arg7 arg8 arg9 arg10 arg11) (K : PUnit → sProp 𝕄) :
    iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg6.view.loc (c : Thread nD τ) ↦[arg6.view.set]{fullShare} p.s6) ∗ (arg7.view.loc (c : Thread nD τ) ↦[arg7.view.set]{fullShare} p.s7) ∗ (arg8.view.loc (c : Thread nD τ) ↦[arg8.view.set]{fullShare} p.s8) ∗ (arg9.view.loc (c : Thread nD τ) ↦[arg9.view.set]{fullShare} p.s9) ∗ (arg10.view.loc (c : Thread nD τ) ↦[arg10.view.set]{fullShare} p.s10) ∗ (arg11.view.loc (c : Thread nD τ) ↦[arg11.view.set]{fullShare} p.s11)
      ∗ (iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg6.view.loc (c : Thread nD τ) ↦[arg6.view.set]{fullShare} (next c i arg2 harg2 arg3 harg3 arg4 harg4 arg5 harg5 arg6 harg6 arg7 harg7 arg8 harg8 arg9 harg9 arg10 harg10 arg11 harg11 k0_h2 x2 x3 x4 k p).s6) ∗ (arg7.view.loc (c : Thread nD τ) ↦[arg7.view.set]{fullShare} (next c i arg2 harg2 arg3 harg3 arg4 harg4 arg5 harg5 arg6 harg6 arg7 harg7 arg8 harg8 arg9 harg9 arg10 harg10 arg11 harg11 k0_h2 x2 x3 x4 k p).s7) ∗ (arg8.view.loc (c : Thread nD τ) ↦[arg8.view.set]{fullShare} (next c i arg2 harg2 arg3 harg3 arg4 harg4 arg5 harg5 arg6 harg6 arg7 harg7 arg8 harg8 arg9 harg9 arg10 harg10 arg11 harg11 k0_h2 x2 x3 x4 k p).s8) ∗ (arg9.view.loc (c : Thread nD τ) ↦[arg9.view.set]{fullShare} (next c i arg2 harg2 arg3 harg3 arg4 harg4 arg5 harg5 arg6 harg6 arg7 harg7 arg8 harg8 arg9 harg9 arg10 harg10 arg11 harg11 k0_h2 x2 x3 x4 k p).s9) ∗ (arg10.view.loc (c : Thread nD τ) ↦[arg10.view.set]{fullShare} (next c i arg2 harg2 arg3 harg3 arg4 harg4 arg5 harg5 arg6 harg6 arg7 harg7 arg8 harg8 arg9 harg9 arg10 harg10 arg11 harg11 k0_h2 x2 x3 x4 k p).s10) ∗ (arg11.view.loc (c : Thread nD τ) ↦[arg11.view.set]{fullShare} (next c i arg2 harg2 arg3 harg3 arg4 harg4 arg5 harg5 arg6 harg6 arg7 harg7 arg8 harg8 arg9 harg9 arg10 harg10 arg11 harg11 k0_h2 x2 x3 x4 k p).s11)) -∗ K ⟨⟩))
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 0#32 k0_h2 z529 k ()) K := by
  unfold next
  exact (trip c i arg2 harg2 arg3 harg3 arg4 harg4 arg5 harg5 arg6 harg6 arg7 harg7 arg8 harg8 arg9 harg9 arg10 harg10 arg11 harg11 k0_h2 x2 x3 x4 k p.s6 p.s7 p.s8 p.s9 p.s10 p.s11).2.2.2.2.2.2 K

/-- `a` before the first trip, `b` before a later one. -/
@[reducible] def at0 {α : Type} (k : ℕ) (a b : α) : α := Nat.rec a (fun _ _ => b) k

theorem at0_eq {α : Type} {k : ℕ} {a : α} {f : ℕ → α} (h : a = f 0) : at0 k a (f k) = f k := by
  cases k with
  | zero => exact h
  | succ k => rfl

set_option warn.classDefReducibility false in
/-- The loop over the pairs of chunks: before trip `k` the buffers hold `st k`. -/
@[sl_loop] def loopInv_k0_t1 (g6 : arg6.view.ty.Contents (Elt F)) (g7 : arg7.view.ty.Contents (Elt F)) (g8 : arg8.view.ty.Contents (Elt F)) (g9 : arg9.view.ty.Contents (Elt F)) (g10 : arg10.view.ty.Contents (Elt F)) (g11 : arg11.view.ty.Contents (Elt F)) :
    Gen.LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 0#32 k0_h2 z529 where
  inv k _ := iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg6.view.loc (c : Thread nD τ) ↦[arg6.view.set]{fullShare} at0 k g6 (st c i arg2 harg2 arg3 harg3 arg4 harg4 arg5 harg5 arg6 harg6 arg7 harg7 arg8 harg8 arg9 harg9 arg10 harg10 arg11 harg11 k0_h2 x2 x3 x4 ⟨g6, g7, g8, g9, g10, g11⟩ k).s6) ∗ (arg7.view.loc (c : Thread nD τ) ↦[arg7.view.set]{fullShare} at0 k g7 (st c i arg2 harg2 arg3 harg3 arg4 harg4 arg5 harg5 arg6 harg6 arg7 harg7 arg8 harg8 arg9 harg9 arg10 harg10 arg11 harg11 k0_h2 x2 x3 x4 ⟨g6, g7, g8, g9, g10, g11⟩ k).s7) ∗ (arg8.view.loc (c : Thread nD τ) ↦[arg8.view.set]{fullShare} at0 k g8 (st c i arg2 harg2 arg3 harg3 arg4 harg4 arg5 harg5 arg6 harg6 arg7 harg7 arg8 harg8 arg9 harg9 arg10 harg10 arg11 harg11 k0_h2 x2 x3 x4 ⟨g6, g7, g8, g9, g10, g11⟩ k).s8) ∗ (arg9.view.loc (c : Thread nD τ) ↦[arg9.view.set]{fullShare} at0 k g9 (st c i arg2 harg2 arg3 harg3 arg4 harg4 arg5 harg5 arg6 harg6 arg7 harg7 arg8 harg8 arg9 harg9 arg10 harg10 arg11 harg11 k0_h2 x2 x3 x4 ⟨g6, g7, g8, g9, g10, g11⟩ k).s9) ∗ (arg10.view.loc (c : Thread nD τ) ↦[arg10.view.set]{fullShare} at0 k g10 (st c i arg2 harg2 arg3 harg3 arg4 harg4 arg5 harg5 arg6 harg6 arg7 harg7 arg8 harg8 arg9 harg9 arg10 harg10 arg11 harg11 k0_h2 x2 x3 x4 ⟨g6, g7, g8, g9, g10, g11⟩ k).s10) ∗ (arg11.view.loc (c : Thread nD τ) ↦[arg11.view.set]{fullShare} at0 k g11 (st c i arg2 harg2 arg3 harg3 arg4 harg4 arg5 harg5 arg6 harg6 arg7 harg7 arg8 harg8 arg9 harg9 arg10 harg10 arg11 harg11 k0_h2 x2 x3 x4 ⟨g6, g7, g8, g9, g10, g11⟩ k).s11))
  step k _ := by
    have e : ∀ {α : Type} (f : St (F := F) arg6 arg7 arg8 arg9 arg10 arg11 → α) (a : α), a = f ⟨g6, g7, g8, g9, g10, g11⟩ →
        at0 k.val a (f (st c i arg2 harg2 arg3 harg3 arg4 harg4 arg5 harg5 arg6 harg6 arg7 harg7 arg8 harg8 arg9 harg9 arg10 harg10 arg11 harg11 k0_h2 x2 x3 x4 ⟨g6, g7, g8, g9, g10, g11⟩ k.val)) = f (st c i arg2 harg2 arg3 harg3 arg4 harg4 arg5 harg5 arg6 harg6 arg7 harg7 arg8 harg8 arg9 harg9 arg10 harg10 arg11 harg11 k0_h2 x2 x3 x4 ⟨g6, g7, g8, g9, g10, g11⟩ k.val) :=
      fun f a h => at0_eq (f := fun k => f (st c i arg2 harg2 arg3 harg3 arg4 harg4 arg5 harg5 arg6 harg6 arg7 harg7 arg8 harg8 arg9 harg9 arg10 harg10 arg11 harg11 k0_h2 x2 x3 x4 ⟨g6, g7, g8, g9, g10, g11⟩ k)) h
    simp only [e St.s6 _ rfl, e St.s7 _ rfl, e St.s8 _ rfl, e St.s9 _ rfl, e St.s10 _ rfl, e St.s11 _ rfl]
    dsimp only [at0]
    rw [st_succ]
    iintro ⟨H2, H3, H4, H6, H7, H8, H9, H10, H11⟩
    iapply (trip_next c i arg2 harg2 arg3 harg3 arg4 harg4 arg5 harg5 arg6 harg6 arg7 harg7 arg8 harg8 arg9 harg9 arg10 harg10 arg11 harg11 k0_h2 x2 x3 x4 k _)
    isplitl [H2]; · iexact H2
    isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H11]; · iexact H11
    iintro H
    iexact H

/-- The second loop, over what is left of the first, has no trip. -/
theorem trips2 : ∀ t : Fin grid0.N, (k0_t2_loop (grid0.coords t)).trips = 0 := by decide +kernel
theorem trips2' (i : grid0.Coords) : (k0_t2_loop i).trips = 0 := by
  obtain ⟨t, rfl⟩ := grid0.coords_surjective i
  exact trips2 t

end Cert.KernelIdeal.Attn

end
-- ==== Proof.Attn.Offsets.lean ====
module

public import proofs.«01_k».proof.Proof.Attn.Steps
public import Idealize.ShloMosaic.Lib.Pipeline.Covers

@[expose] public section

set_option maxRecDepth 65536

/-! # The offsets of the loads, as plain numbers -/

namespace Cert.KernelIdeal.Attn

open Cert.KernelIdeal Cert.KernelIdeal.Gen
open Idealize.ShloMosaic

theorem trips1 : ∀ t : Fin grid0.N, k0_cond2 (grid0.coords t) = 1#1 → (k0_t1_loop (grid0.coords t)).trips = (grid0.coords t 1).val - 2 := by decide +kernel
theorem o1 : ∀ t : Fin grid0.N, ∀ k : Fin (k0_t1_loop (grid0.coords t)).trips, k0_off1 (grid0.coords t) k 1#32 = ![768 * (2 * (k.val + 1) + 1), 0] := by decide +kernel
theorem o1' : ∀ t : Fin grid0.N, ∀ k : Fin (k0_t1_loop (grid0.coords t)).trips, k0_off1 (grid0.coords t) k 2#32 = ![768 * (2 * (k.val + 1) + 2), 0] := by decide +kernel
theorem o2 : ∀ t : Fin grid0.N, ∀ k : Fin (k0_t1_loop (grid0.coords t)).trips, k0_off2 (grid0.coords t) k = ![0, 2 * (k.val + 1), 0, 0] := by decide +kernel
theorem o3 : ∀ t : Fin grid0.N, ∀ k : Fin (k0_t1_loop (grid0.coords t)).trips, k0_off3 (grid0.coords t) k = ![0, 2 * (k.val + 1) + 1, 0, 0] := by decide +kernel
theorem o7 : ∀ t : Fin grid0.N, k0_cond2 (grid0.coords t) = 1#1 → k0_off7 (grid0.coords t) 1#32 = ![768 * (2 * ((grid0.coords t 1).val - 1) + 1), 0] := by decide +kernel
theorem o7' : ∀ t : Fin grid0.N, k0_cond2 (grid0.coords t) = 1#1 → k0_off7 (grid0.coords t) 2#32 = ![768 * (2 * ((grid0.coords t 1).val - 1) + 2), 0] := by decide +kernel
theorem o8 : ∀ t : Fin grid0.N, k0_cond2 (grid0.coords t) = 1#1 → k0_off8 (grid0.coords t) = ![0, 2 * ((grid0.coords t 1).val - 1), 0, 0] := by decide +kernel
theorem o9 : ∀ t : Fin grid0.N, k0_cond2 (grid0.coords t) = 1#1 → k0_off9 (grid0.coords t) = ![0, 2 * ((grid0.coords t 1).val - 1) + 1, 0, 0] := by decide +kernel
theorem o10 : ∀ t : Fin grid0.N, k0_off10 (grid0.coords t) = ![768 * (2 * (grid0.coords t 1).val + 1), 0] := by decide +kernel
theorem o11 : ∀ t : Fin grid0.N, k0_off11 (grid0.coords t) = ![768 * (2 * (grid0.coords t 1).val + 1), 0] := by decide +kernel
theorem o12 : ∀ t : Fin grid0.N, k0_off12 (grid0.coords t) = ![0, 2 * (grid0.coords t 1).val, 0, 0] := by decide +kernel
theorem o13 : ∀ t : Fin grid0.N, k0_off13 (grid0.coords t) = ![0, 2 * (grid0.coords t 1).val + 1, 0, 0] := by decide +kernel
theorem o14 : ∀ t : Fin grid0.N, k0_off14 (grid0.coords t) = ![0, 2 * (grid0.coords t 1).val + 1, 0, 0] := by decide +kernel

/-! ## Positions, as the words the masks compare -/

theorem wq0 : ∀ t : Fin grid0.N, Scalar.addi (Scalar.muli (BitVec.ofNat 32 (grid0.coords t 1).val) 1536#32) 0#32 = BitVec.ofNat 32 (1536 * (grid0.coords t 1).val + 512 * 0) := by decide +kernel
theorem wq1 : ∀ t : Fin grid0.N, Scalar.addi (Scalar.muli (BitVec.ofNat 32 (grid0.coords t 1).val) 1536#32) 512#32 = BitVec.ofNat 32 (1536 * (grid0.coords t 1).val + 512 * 1) := by decide +kernel
theorem wq2 : ∀ t : Fin grid0.N, Scalar.addi (Scalar.muli (BitVec.ofNat 32 (grid0.coords t 1).val) 1536#32) 1024#32 = BitVec.ofNat 32 (1536 * (grid0.coords t 1).val + 512 * 2) := by decide +kernel
/-- The first key of the chunk after the diagonal one. -/
theorem wk1 : ∀ t : Fin grid0.N, Scalar.muli (Scalar.addi (Scalar.muli 2#32 (BitVec.ofNat 32 (grid0.coords t 1).val)) 1#32) 768#32 = BitVec.ofNat 32 (768 * (2 * (grid0.coords t 1).val + 1)) := by decide +kernel
/-- The first key of the diagonal chunk, counted from the pair before it. -/
theorem wk0 : ∀ t : Fin grid0.N, Scalar.muli (Scalar.addi (Scalar.muli 2#32 (Scalar.subi (BitVec.ofNat 32 (grid0.coords t 1).val) 1#32)) 2#32) 768#32 = BitVec.ofNat 32 (768 * (2 * (grid0.coords t 1).val)) := by decide +kernel

end Cert.KernelIdeal.Attn
-- ==== Proof.Attn.Held.lean ====
module

public import proofs.«01_k».proof.Proof.Attn.Trip
public import proofs.«01_k».proof.Proof.Attn.Offsets
public import Idealize.ShloMosaic.Lib.Pipeline.Covers

@[expose] public section

set_option maxRecDepth 16384

/-! # What a trip leaves in the scratch buffers -/

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .vmem S256x1536 .bf16) (harg2 : arg2.IsWhole) (arg3 : Memref sig .tc .vmem S16896x256 .bf16) (harg3 : arg3.IsWhole) (arg4 : Memref sig .tc .vmem S1x22x144x768 .bf16) (harg4 : arg4.IsWhole) (arg5 : Memref sig .tc .vmem S1536x128 .bf16) (harg5 : arg5.IsWhole) (arg6 : Memref sig .tc .vmem S3x1x512 .f32) (harg6 : arg6.IsWhole) (arg7 : Memref sig .tc .vmem S3x144x512 .f32) (harg7 : arg7.IsWhole) (arg8 : Memref sig .tc .vmem S3x768x512 .f32) (harg8 : arg8.IsWhole) (arg9 : Memref sig .tc .vmem S3x768x512 .f32) (harg9 : arg9.IsWhole) (arg10 : Memref sig .tc .vmem S3x1x512 .f32) (harg10 : arg10.IsWhole) (arg11 : Memref sig .tc .vmem S3x1x512 .f32) (harg11 : arg11.IsWhole) (k0_h2 : k0_cond2 i = 1#1)
  (x2 : Vec F S256x1536 .bf16) (x3 : Vec F S16896x256 .bf16) (x4 : Vec F S1x22x144x768 .bf16)

/-- Slab `s` of the scratch buffers after `n` chunks: the running maximum and sum, and chunk `n`'s scores with their maxima. -/
structure Held (b s : ℕ) (hs : s < 3) (n : ℕ) (p : St (F := F) arg6 arg7 arg8 arg9 arg10 arg11) : Prop where
  hm : arg6.view.readAt (Elt F) (Rect.unit (s := S3x1x512) ![s, 0, 0] S1x1x512.size (inbM hs)).toLoadRect p.s6 = mN b s x2 x3 n
  ha : arg7.view.readAt (Elt F) (Rect.unit (s := S3x144x512) ![s, 0, 0] S1x144x512.size (inbA hs)).toLoadRect p.s7 = aN b s x2 x3 x4 n
  hS : arg8.view.readAt (Elt F) (Rect.unit (s := S3x768x512) ![s, 0, 0] S1x768x512.size (inbC hs)).toLoadRect p.s8 = wrapS (Sc b s x2 x3 n)
  hC : arg10.view.readAt (Elt F) (Rect.unit (s := S3x1x512) ![s, 0, 0] S1x1x512.size (inbM hs)).toLoadRect p.s10 = wrapC (Sc b s x2 x3 n)

variable (k : Fin (k0_t1_loop i).trips) (p : St (F := F) arg6 arg7 arg8 arg9 arg10 arg11)

set_option maxHeartbeats 4000000 in
/-- A trip takes in two chunks. -/
theorem held_next (s : ℕ) (hs : s < 3) (H : Held arg6 arg7 arg8 arg9 arg10 arg11 x2 x3 x4 (i 1).val s hs (2 * (k.val + 1)) p)
    (hk : 2 * (k.val + 1) + 2 < 2 * (i 1).val) :
    Held arg6 arg7 arg8 arg9 arg10 arg11 x2 x3 x4 (i 1).val s hs (2 * (k.val + 1) + 2)
      (next c i arg2 harg2 arg3 harg3 arg4 harg4 arg5 harg5 arg6 harg6 arg7 harg7 arg8 harg8 arg9 harg9 arg10 harg10 arg11 harg11 k0_h2 x2 x3 x4 k p) := by
  have e1 : k0_off1 i k 1#32 = ![768 * (2 * (k.val + 1) + 1), 0] := by obtain ⟨t, rfl⟩ := grid0.coords_surjective i; exact o1 t k
  have e1' : k0_off1 i k 2#32 = ![768 * (2 * (k.val + 1) + 2), 0] := by obtain ⟨t, rfl⟩ := grid0.coords_surjective i; exact o1' t k
  have e2 : k0_off2 i k = ![0, 2 * (k.val + 1), 0, 0] := by obtain ⟨t, rfl⟩ := grid0.coords_surjective i; exact o2 t k
  have e3 : k0_off3 i k = ![0, 2 * (k.val + 1) + 1, 0, 0] := by obtain ⟨t, rfl⟩ := grid0.coords_surjective i; exact o3 t k
  have s1 : Sc (i 1).val s x2 x3 (2 * (k.val + 1) + 1) = scU (kblk x3 (2 * (k.val + 1) + 1)) (qslab x2 s) := if_neg (by omega)
  have s2 : Sc (i 1).val s x2 x3 (2 * (k.val + 1) + 2) = scU (kblk x3 (2 * (k.val + 1) + 2)) (qslab x2 s) := if_neg (by omega)
  obtain rfl | rfl | rfl : s = 0 ∨ s = 1 ∨ s = 2 := by omega
  all_goals
    constructor
    all_goals
      simp only [mN, aN, s1, s2]
      unfold next trip
      dsimp only
      sl_unfold_run_names
      simp (discharger := first | decide | rfl) only [readAt_hit, readAt_miss, readCov_hit, readCov_miss, readAt_nil, H.hm, H.hC, H.hS, H.ha,
        readAt_win harg2 (pos2 (a := 256) (b := 1536)), readAt_win harg3 (pos2 (a := 16896) (b := 256)), readAt_win harg4 (pos4 (a := 1) (b := 22) (c := 144) (d := 768)), e1, e1', e2, e3]
      rfl

/-- After `j` trips, `2 (j + 1)` chunks are in. -/
theorem held_st (s : ℕ) (hs : s < 3) (g : St (F := F) arg6 arg7 arg8 arg9 arg10 arg11) (H : Held arg6 arg7 arg8 arg9 arg10 arg11 x2 x3 x4 (i 1).val s hs 2 g) (j : ℕ)
    (hj : j ≤ (k0_t1_loop i).trips) :
    Held arg6 arg7 arg8 arg9 arg10 arg11 x2 x3 x4 (i 1).val s hs (2 * (j + 1))
      (st c i arg2 harg2 arg3 harg3 arg4 harg4 arg5 harg5 arg6 harg6 arg7 harg7 arg8 harg8 arg9 harg9 arg10 harg10 arg11 harg11 k0_h2 x2 x3 x4 g j) := by
  induction j with
  | zero => exact H
  | succ j ih =>
    have ht : (k0_t1_loop i).trips = (i 1).val - 2 := by obtain ⟨t, rfl⟩ := grid0.coords_surjective i; exact trips1 t k0_h2
    rw [st_succ c i arg2 harg2 arg3 harg3 arg4 harg4 arg5 harg5 arg6 harg6 arg7 harg7 arg8 harg8 arg9 harg9 arg10 harg10 arg11 harg11 k0_h2 x2 x3 x4 g ⟨j, hj⟩]
    exact held_next c i arg2 harg2 arg3 harg3 arg4 harg4 arg5 harg5 arg6 harg6 arg7 harg7 arg8 harg8 arg9 harg9 arg10 harg10 arg11 harg11 k0_h2 x2 x3 x4 ⟨j, hj⟩ _ s hs
      (ih (Nat.le_of_succ_le hj)) (by show 2 * (j + 1) + 2 < _; omega)

end Cert.KernelIdeal.Attn

end
-- ==== Proof.Attn.Body.lean ====
module

public import proofs.«01_k».proof.Proof.Attn.Held
public import Idealize.ShloMosaic.Lib.Pipeline.Covers

@[expose] public section

set_option maxRecDepth 16384

/-! # The body at one grid point, as it runs -/

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .vmem S256x1536 .bf16) (harg2 : arg2.IsWhole) (arg3 : Memref sig .tc .vmem S16896x256 .bf16) (harg3 : arg3.IsWhole) (arg4 : Memref sig .tc .vmem S1x22x144x768 .bf16) (harg4 : arg4.IsWhole) (arg5 : Memref sig .tc .vmem S1536x128 .bf16) (harg5 : arg5.IsWhole) (arg6 : Memref sig .tc .vmem S3x1x512 .f32) (harg6 : arg6.IsWhole) (arg7 : Memref sig .tc .vmem S3x144x512 .f32) (harg7 : arg7.IsWhole) (arg8 : Memref sig .tc .vmem S3x768x512 .f32) (harg8 : arg8.IsWhole) (arg9 : Memref sig .tc .vmem S3x768x512 .f32) (harg9 : arg9.IsWhole) (arg10 : Memref sig .tc .vmem S3x1x512 .f32) (harg10 : arg10.IsWhole) (arg11 : Memref sig .tc .vmem S3x1x512 .f32) (harg11 : arg11.IsWhole)
  (x2 : Vec F S256x1536 .bf16) (x3 : Vec F S16896x256 .bf16) (x4 : Vec F S1x22x144x768 .bf16)

/-- The test that opens the second row's own branch. -/
abbrev cond1 (i : grid0.Coords) : Prop :=
  Scalar.cmpi .ne (Scalar.extui (Scalar.cmpi .eq (BitVec.ofNat 32 (i 1).val) 1#32) : BitVec 32) 0#32 = 1#1

set_option maxHeartbeats 8000000 in
/-- The first row: the diagonal alone. -/
noncomputable def runA (h1 : ¬cond1 i) (h2 : ¬k0_cond2 i = 1#1) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) :
    { L5 : List (View.Piece (Elt F) S1536x128 .bf16) //
      ∀ (K : PUnit → sProp 𝕄),
        iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
          ∗ (iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} arg5.view.writes (Elt F) f5 L5) ∗ (∃ d, (arg6.view.loc (c : Thread nD τ) ↦[arg6.view.set]{fullShare} d)) ∗ (∃ d, (arg7.view.loc (c : Thread nD τ) ↦[arg7.view.set]{fullShare} d)) ∗ (∃ d, (arg8.view.loc (c : Thread nD τ) ↦[arg8.view.set]{fullShare} d)) ∗ (∃ d, (arg9.view.loc (c : Thread nD τ) ↦[arg9.view.set]{fullShare} d)) ∗ (∃ d, (arg10.view.loc (c : Thread nD τ) ↦[arg10.view.set]{fullShare} d)) ∗ (∃ d, (arg11.view.loc (c : Thread nD τ) ↦[arg11.view.set]{fullShare} d))) -∗ K ⟨⟩))
          ⊢ wp frame (wpE (defs₀ (F := F)) Variants.none (c : Thread nD τ) none) Set.univ (cc0_mla_attention (F := F) i arg2 harg2 arg3 harg3 arg4 harg4 arg5 harg5 arg6 harg6 arg7 harg7 arg8 harg8 arg9 harg9 arg10 harg10 arg11 harg11) K } := by
  refine ⟨?_, fun K => ?run⟩
  case run =>
    simp only [cc0_mla_attention_eq_skeleton]; unfold cc0_mla_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    iintro ⟨H2, H3, H4, H5, H6, H7, H8, H9, H10, H11, Hk⟩
    have htr := trips2' i
    sl_exec (disch := first | sl_exact h1 | sl_exact h2)
    sl_step
    iapply Hk
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

set_option maxHeartbeats 8000000 in
/-- The second row: one pair of chunks, then the diagonal. -/
noncomputable def runB (h1 : cond1 i) (h2 : ¬k0_cond2 i = 1#1) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) :
    { L5 : List (View.Piece (Elt F) S1536x128 .bf16) //
      ∀ (K : PUnit → sProp 𝕄),
        iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
          ∗ (iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} arg5.view.writes (Elt F) f5 L5) ∗ (∃ d, (arg6.view.loc (c : Thread nD τ) ↦[arg6.view.set]{fullShare} d)) ∗ (∃ d, (arg7.view.loc (c : Thread nD τ) ↦[arg7.view.set]{fullShare} d)) ∗ (∃ d, (arg8.view.loc (c : Thread nD τ) ↦[arg8.view.set]{fullShare} d)) ∗ (∃ d, (arg9.view.loc (c : Thread nD τ) ↦[arg9.view.set]{fullShare} d)) ∗ (∃ d, (arg10.view.loc (c : Thread nD τ) ↦[arg10.view.set]{fullShare} d)) ∗ (∃ d, (arg11.view.loc (c : Thread nD τ) ↦[arg11.view.set]{fullShare} d))) -∗ K ⟨⟩))
          ⊢ wp frame (wpE (defs₀ (F := F)) Variants.none (c : Thread nD τ) none) Set.univ (cc0_mla_attention (F := F) i arg2 harg2 arg3 harg3 arg4 harg4 arg5 harg5 arg6 harg6 arg7 harg7 arg8 harg8 arg9 harg9 arg10 harg10 arg11 harg11) K } := by
  refine ⟨?_, fun K => ?run⟩
  case run =>
    simp only [cc0_mla_attention_eq_skeleton]; unfold cc0_mla_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    iintro ⟨H2, H3, H4, H5, H6, H7, H8, H9, H10, H11, Hk⟩
    have htr := trips2' i
    sl_exec (disch := first | sl_exact h1 | sl_exact h2)
    sl_step
    iapply Hk
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

set_option maxHeartbeats 8000000 in
/-- A later row: a pair, the loop, a pair, then the diagonal. -/
noncomputable def runC (h1 : ¬cond1 i) (h2 : k0_cond2 i = 1#1) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) :
    { L5 : List (View.Piece (Elt F) S1536x128 .bf16) //
      ∀ (K : PUnit → sProp 𝕄),
        iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
          ∗ (iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} arg5.view.writes (Elt F) f5 L5) ∗ (∃ d, (arg6.view.loc (c : Thread nD τ) ↦[arg6.view.set]{fullShare} d)) ∗ (∃ d, (arg7.view.loc (c : Thread nD τ) ↦[arg7.view.set]{fullShare} d)) ∗ (∃ d, (arg8.view.loc (c : Thread nD τ) ↦[arg8.view.set]{fullShare} d)) ∗ (∃ d, (arg9.view.loc (c : Thread nD τ) ↦[arg9.view.set]{fullShare} d)) ∗ (∃ d, (arg10.view.loc (c : Thread nD τ) ↦[arg10.view.set]{fullShare} d)) ∗ (∃ d, (arg11.view.loc (c : Thread nD τ) ↦[arg11.view.set]{fullShare} d))) -∗ K ⟨⟩))
          ⊢ wp frame (wpE (defs₀ (F := F)) Variants.none (c : Thread nD τ) none) Set.univ (cc0_mla_attention (F := F) i arg2 harg2 arg3 harg3 arg4 harg4 arg5 harg5 arg6 harg6 arg7 harg7 arg8 harg8 arg9 harg9 arg10 harg10 arg11 harg11) K } := by
  refine ⟨?_, fun K => ?run⟩
  case run =>
    simp only [cc0_mla_attention_eq_skeleton]; unfold cc0_mla_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    iintro ⟨H2, H3, H4, H5, H6, H7, H8, H9, H10, H11, Hk⟩
    have htr := trips2' i
    sl_exec (disch := first | sl_exact h1 | sl_exact h2)
    sl_step
    iapply Hk
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

end Cert.KernelIdeal.Attn

end
-- ==== Proof.Attn.Val.lean ====
module

public import proofs.«01_k».proof.Proof.Attn.Held
public import Idealize.ShloMosaic.Lib.Pipeline.Covers

public import proofs.«01_k».proof.Proof.Attn.Body

@[expose] public section

set_option maxRecDepth 16384

/-! # What one grid point stores -/

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .vmem S256x1536 .bf16) (harg2 : arg2.IsWhole) (arg3 : Memref sig .tc .vmem S16896x256 .bf16) (harg3 : arg3.IsWhole) (arg4 : Memref sig .tc .vmem S1x22x144x768 .bf16) (harg4 : arg4.IsWhole) (arg5 : Memref sig .tc .vmem S1536x128 .bf16) (harg5 : arg5.IsWhole) (arg6 : Memref sig .tc .vmem S3x1x512 .f32) (harg6 : arg6.IsWhole) (arg7 : Memref sig .tc .vmem S3x144x512 .f32) (harg7 : arg7.IsWhole) (arg8 : Memref sig .tc .vmem S3x768x512 .f32) (harg8 : arg8.IsWhole) (arg9 : Memref sig .tc .vmem S3x768x512 .f32) (harg9 : arg9.IsWhole) (arg10 : Memref sig .tc .vmem S3x1x512 .f32) (harg10 : arg10.IsWhole) (arg11 : Memref sig .tc .vmem S3x1x512 .f32) (harg11 : arg11.IsWhole)
  (x2 : Vec F S256x1536 .bf16) (x3 : Vec F S16896x256 .bf16) (x4 : Vec F S1x22x144x768 .bf16)

theorem zeroA_at : ∀ t : Fin grid0.N, ¬cond1 (grid0.coords t) → ¬k0_cond2 (grid0.coords t) = 1#1 → (grid0.coords t 1).val = 0 := by decide +kernel
theorem oneB_at : ∀ t : Fin grid0.N, cond1 (grid0.coords t) → (grid0.coords t 1).val = 1 := by decide +kernel
theorem twoC_at : ∀ t : Fin grid0.N, k0_cond2 (grid0.coords t) = 1#1 → 2 ≤ (grid0.coords t 1).val := by decide +kernel
theorem zeroA (h1 : ¬cond1 i) (h2 : ¬k0_cond2 i = 1#1) : (i 1).val = 0 := by
  obtain ⟨t, rfl⟩ := grid0.coords_surjective i; exact zeroA_at t h1 h2
theorem oneB (h1 : cond1 i) : (i 1).val = 1 := by
  obtain ⟨t, rfl⟩ := grid0.coords_surjective i; exact oneB_at t h1
theorem twoC (h2 : k0_cond2 i = 1#1) : 2 ≤ (i 1).val := by
  obtain ⟨t, rfl⟩ := grid0.coords_surjective i; exact twoC_at t h2

set_option maxHeartbeats 4000000 in
/-- The first row of a head. -/
theorem valA (h1 : ¬cond1 i) (h2 : ¬k0_cond2 i = 1#1) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) :
    (runA c i arg2 harg2 arg3 harg3 arg4 harg4 arg5 harg5 arg6 harg6 arg7 harg7 arg8 harg8 arg9 harg9 arg10 harg10 arg11 harg11 x2 x3 x4 h1 h2 f5 f6 f7 f8 f9 f10 f11).1 = pieces (i 1).val x2 x3 x4 := by
  have p10 : k0_off10 i = ![768 * (2 * (i 1).val + 1), 0] := by obtain ⟨t, rfl⟩ := grid0.coords_surjective i; exact o10 t
  have p11 : k0_off11 i = ![768 * (2 * (i 1).val + 1), 0] := by obtain ⟨t, rfl⟩ := grid0.coords_surjective i; exact o11 t
  have p12 : k0_off12 i = ![0, 2 * (i 1).val, 0, 0] := by obtain ⟨t, rfl⟩ := grid0.coords_surjective i; exact o12 t
  have p13 : k0_off13 i = ![0, 2 * (i 1).val + 1, 0, 0] := by obtain ⟨t, rfl⟩ := grid0.coords_surjective i; exact o13 t
  have p14 : k0_off14 i = ![0, 2 * (i 1).val + 1, 0, 0] := by obtain ⟨t, rfl⟩ := grid0.coords_surjective i; exact o14 t
  have q0 : Scalar.addi (Scalar.muli (BitVec.ofNat 32 (i 1).val) 1536#32) 0#32 = BitVec.ofNat 32 (1536 * (i 1).val + 512 * 0) := by obtain ⟨t, rfl⟩ := grid0.coords_surjective i; exact wq0 t
  have q1 : Scalar.addi (Scalar.muli (BitVec.ofNat 32 (i 1).val) 1536#32) 512#32 = BitVec.ofNat 32 (1536 * (i 1).val + 512 * 1) := by obtain ⟨t, rfl⟩ := grid0.coords_surjective i; exact wq1 t
  have q2 : Scalar.addi (Scalar.muli (BitVec.ofNat 32 (i 1).val) 1536#32) 1024#32 = BitVec.ofNat 32 (1536 * (i 1).val + 512 * 2) := by obtain ⟨t, rfl⟩ := grid0.coords_surjective i; exact wq2 t
  have k1 : Scalar.muli (Scalar.addi (Scalar.muli 2#32 (BitVec.ofNat 32 (i 1).val)) 1#32) 768#32 = BitVec.ofNat 32 (768 * (2 * (i 1).val + 1)) := by obtain ⟨t, rfl⟩ := grid0.coords_surjective i; exact wk1 t
  have e : 2 * (i 1).val = 0 := by
    have := zeroA i h1 h2; omega
  have c0 : ∀ s w, w = BitVec.ofNat 32 (1536 * (i 1).val + 512 * s) → Sc (i 1).val s x2 x3 0 = scM 0#32 w (kblk x3 0) (qslab x2 s) := by
    rintro s w rfl; exact if_pos (Or.inl rfl)
  have c1 : Sc (i 1).val 2 x2 x3 (0 + 1) = scM (Scalar.muli (Scalar.addi (Scalar.muli 2#32 (BitVec.ofNat 32 (i 1).val)) 1#32) 768#32)
      (Scalar.addi (Scalar.muli (BitVec.ofNat 32 (i 1).val) 1536#32) 1024#32) (kblk x3 (0 + 1)) (qslab x2 2) := by
    rw [q2, k1, e]; exact if_pos (Or.inr (by omega))
  simp only [pieces, sum0, sum1, sum2, Sc1, ← q1, ← k1, -Nat.reduceAdd, -Nat.reduceMul]
  simp only [e, -Nat.reduceAdd, -Nat.reduceMul] at p10 p11 p12 p13 p14 k1 ⊢
  simp only [mN, aN, c0 0 _ q0, c0 1 _ q1, c0 2 _ q2, c1, -Nat.reduceAdd, -Nat.reduceMul]
  unfold runA
  dsimp only
  sl_unfold_run_names
  simp (discharger := first | decide | rfl) only [readAt_hit, readAt_miss, readCov_hit, readCov_miss, readAt_nil,
    readAt_win harg2 (pos2 (a := 256) (b := 1536)), readAt_win harg3 (pos2 (a := 16896) (b := 256)), readAt_win harg4 (pos4 (a := 1) (b := 22) (c := 144) (d := 768)),
    p10, p11, p12, p13, p14]
  simp (discharger := decide) only [readCov_in]
  rfl

set_option maxHeartbeats 4000000 in
/-- The second row of a head. -/
theorem valB (h1 : cond1 i) (h2 : ¬k0_cond2 i = 1#1) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) :
    (runB c i arg2 harg2 arg3 harg3 arg4 harg4 arg5 harg5 arg6 harg6 arg7 harg7 arg8 harg8 arg9 harg9 arg10 harg10 arg11 harg11 x2 x3 x4 h1 h2 f5 f6 f7 f8 f9 f10 f11).1 = pieces (i 1).val x2 x3 x4 := by
  have p10 : k0_off10 i = ![768 * (2 * (i 1).val + 1), 0] := by obtain ⟨t, rfl⟩ := grid0.coords_surjective i; exact o10 t
  have p11 : k0_off11 i = ![768 * (2 * (i 1).val + 1), 0] := by obtain ⟨t, rfl⟩ := grid0.coords_surjective i; exact o11 t
  have p12 : k0_off12 i = ![0, 2 * (i 1).val, 0, 0] := by obtain ⟨t, rfl⟩ := grid0.coords_surjective i; exact o12 t
  have p13 : k0_off13 i = ![0, 2 * (i 1).val + 1, 0, 0] := by obtain ⟨t, rfl⟩ := grid0.coords_surjective i; exact o13 t
  have p14 : k0_off14 i = ![0, 2 * (i 1).val + 1, 0, 0] := by obtain ⟨t, rfl⟩ := grid0.coords_surjective i; exact o14 t
  have q0 : Scalar.addi (Scalar.muli (BitVec.ofNat 32 (i 1).val) 1536#32) 0#32 = BitVec.ofNat 32 (1536 * (i 1).val + 512 * 0) := by obtain ⟨t, rfl⟩ := grid0.coords_surjective i; exact wq0 t
  have q1 : Scalar.addi (Scalar.muli (BitVec.ofNat 32 (i 1).val) 1536#32) 512#32 = BitVec.ofNat 32 (1536 * (i 1).val + 512 * 1) := by obtain ⟨t, rfl⟩ := grid0.coords_surjective i; exact wq1 t
  have q2 : Scalar.addi (Scalar.muli (BitVec.ofNat 32 (i 1).val) 1536#32) 1024#32 = BitVec.ofNat 32 (1536 * (i 1).val + 512 * 2) := by obtain ⟨t, rfl⟩ := grid0.coords_surjective i; exact wq2 t
  have k1 : Scalar.muli (Scalar.addi (Scalar.muli 2#32 (BitVec.ofNat 32 (i 1).val)) 1#32) 768#32 = BitVec.ofNat 32 (768 * (2 * (i 1).val + 1)) := by obtain ⟨t, rfl⟩ := grid0.coords_surjective i; exact wk1 t
  have e : 2 * (i 1).val = 0 + 1 + 1 := by
    have := oneB i h1; omega
  have c0 : ∀ s w, w = BitVec.ofNat 32 (1536 * (i 1).val + 512 * s) → Sc (i 1).val s x2 x3 0 = scM 0#32 w (kblk x3 0) (qslab x2 s) := by
    rintro s w rfl; exact if_pos (Or.inl rfl)
  have cu : ∀ s, Sc (i 1).val s x2 x3 (0 + 1) = scU (kblk x3 (0 + 1)) (qslab x2 s) := fun s => if_neg (by omega)
  have c2 : ∀ s w, w = BitVec.ofNat 32 (1536 * (i 1).val + 512 * s) → Sc (i 1).val s x2 x3 (0 + 1 + 1) = scM 1536#32 w (kblk x3 (0 + 1 + 1)) (qslab x2 s) := by
    rintro s w rfl; exact if_pos (Or.inr (by omega))
  have c3 : Sc (i 1).val 2 x2 x3 (0 + 1 + 1 + 1) = scM (Scalar.muli (Scalar.addi (Scalar.muli 2#32 (BitVec.ofNat 32 (i 1).val)) 1#32) 768#32)
      (Scalar.addi (Scalar.muli (BitVec.ofNat 32 (i 1).val) 1536#32) 1024#32) (kblk x3 (0 + 1 + 1 + 1)) (qslab x2 2) := by
    rw [q2, k1, e]; exact if_pos (Or.inr (by omega))
  simp only [pieces, sum0, sum1, sum2, Sc1, ← q1, ← k1, -Nat.reduceAdd, -Nat.reduceMul]
  simp only [e, -Nat.reduceAdd, -Nat.reduceMul] at p10 p11 p12 p13 p14 k1 ⊢
  simp only [mN, aN, c0 0 _ q0, c0 1 _ q1, c0 2 _ q2, cu, c2 0 _ q0, c2 1 _ q1, c2 2 _ q2, c3, -Nat.reduceAdd, -Nat.reduceMul]
  unfold runB
  dsimp only
  sl_unfold_run_names
  simp (discharger := first | decide | rfl) only [readAt_hit, readAt_miss, readCov_hit, readCov_miss, readAt_nil,
    readAt_win harg2 (pos2 (a := 256) (b := 1536)), readAt_win harg3 (pos2 (a := 16896) (b := 256)), readAt_win harg4 (pos4 (a := 1) (b := 22) (c := 144) (d := 768)),
    p10, p11, p12, p13, p14]
  simp (discharger := decide) only [readCov_in]
  rfl

/-- What the scratch buffers hold when the loop is entered. -/
abbrev entryC : St (F := F) arg6 arg7 arg8 arg9 arg10 arg11 :=
  ⟨arg6.view.writes (Elt F) arg6.view.junk (runC.sl.H6_7 i arg2 harg2 arg3 harg3 arg6 arg10 arg11 x2 x3), arg7.view.writes (Elt F) arg7.view.junk (runC.sl.H7_7 i arg2 harg2 arg3 harg3 arg4 harg4 arg6 arg7 arg8 arg9 arg10 arg11 x2 x3 x4), arg8.view.writes (Elt F) arg8.view.junk (runC.sl.H8_6 i arg2 harg2 arg3 harg3 x2 x3), arg9.view.writes (Elt F) arg9.view.junk (runC.sl.H9_3 arg2 harg2 arg3 harg3 x2 x3), arg10.view.writes (Elt F) arg10.view.junk (runC.sl.H10_6 i arg2 harg2 arg3 harg3 x2 x3), arg11.view.writes (Elt F) arg11.view.junk (runC.sl.H11_3 arg2 harg2 arg3 harg3 x2 x3)⟩

set_option maxHeartbeats 4000000 in
/-- At the loop's entry two chunks are in. -/
theorem held_entry (s : ℕ) (hs : s < 3) (hb : 2 ≤ (i 1).val) :
    Held arg6 arg7 arg8 arg9 arg10 arg11 x2 x3 x4 (i 1).val s hs (0 + 1 + 1) (entryC i arg2 harg2 arg3 harg3 arg4 harg4 arg6 arg7 arg8 arg9 arg10 arg11 x2 x3 x4) := by
  have q0 : Scalar.addi (Scalar.muli (BitVec.ofNat 32 (i 1).val) 1536#32) 0#32 = BitVec.ofNat 32 (1536 * (i 1).val + 512 * 0) := by obtain ⟨t, rfl⟩ := grid0.coords_surjective i; exact wq0 t
  have q1 : Scalar.addi (Scalar.muli (BitVec.ofNat 32 (i 1).val) 1536#32) 512#32 = BitVec.ofNat 32 (1536 * (i 1).val + 512 * 1) := by obtain ⟨t, rfl⟩ := grid0.coords_surjective i; exact wq1 t
  have q2 : Scalar.addi (Scalar.muli (BitVec.ofNat 32 (i 1).val) 1536#32) 1024#32 = BitVec.ofNat 32 (1536 * (i 1).val + 512 * 2) := by obtain ⟨t, rfl⟩ := grid0.coords_surjective i; exact wq2 t
  have c0 : ∀ s w, w = BitVec.ofNat 32 (1536 * (i 1).val + 512 * s) → Sc (i 1).val s x2 x3 0 = scM 0#32 w (kblk x3 0) (qslab x2 s) := by
    rintro s w rfl; exact if_pos (Or.inl rfl)
  have cu : ∀ s, Sc (i 1).val s x2 x3 (0 + 1) = scU (kblk x3 (0 + 1)) (qslab x2 s) := fun s => if_neg (by omega)
  have cu' : ∀ s, Sc (i 1).val s x2 x3 (0 + 1 + 1) = scU (kblk x3 (0 + 1 + 1)) (qslab x2 s) := fun s => if_neg (by omega)
  obtain rfl | rfl | rfl : s = 0 ∨ s = 1 ∨ s = 2 := by omega
  all_goals
    constructor
    all_goals
      simp only [mN, aN, c0 0 _ q0, c0 1 _ q1, c0 2 _ q2, cu, cu', -Nat.reduceAdd, -Nat.reduceMul]

      try dsimp only
      sl_unfold_run_names
      simp (discharger := first | decide | rfl) only [readAt_hit, readAt_miss, readCov_hit, readCov_miss, readAt_nil,
    readAt_win harg2 (pos2 (a := 256) (b := 1536)), readAt_win harg3 (pos2 (a := 16896) (b := 256)), readAt_win harg4 (pos4 (a := 1) (b := 22) (c := 144) (d := 768))]
      try simp (discharger := decide) only [readCov_in]
      rfl

set_option maxHeartbeats 4000000 in
/-- A later row of a head. -/
theorem valC (h1 : ¬cond1 i) (h2 : k0_cond2 i = 1#1) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) :
    (runC c i arg2 harg2 arg3 harg3 arg4 harg4 arg5 harg5 arg6 harg6 arg7 harg7 arg8 harg8 arg9 harg9 arg10 harg10 arg11 harg11 x2 x3 x4 h1 h2 f5 f6 f7 f8 f9 f10 f11).1 = pieces (i 1).val x2 x3 x4 := by
  have p10 : k0_off10 i = ![768 * (2 * (i 1).val + 1), 0] := by obtain ⟨t, rfl⟩ := grid0.coords_surjective i; exact o10 t
  have p11 : k0_off11 i = ![768 * (2 * (i 1).val + 1), 0] := by obtain ⟨t, rfl⟩ := grid0.coords_surjective i; exact o11 t
  have p12 : k0_off12 i = ![0, 2 * (i 1).val, 0, 0] := by obtain ⟨t, rfl⟩ := grid0.coords_surjective i; exact o12 t
  have p13 : k0_off13 i = ![0, 2 * (i 1).val + 1, 0, 0] := by obtain ⟨t, rfl⟩ := grid0.coords_surjective i; exact o13 t
  have p14 : k0_off14 i = ![0, 2 * (i 1).val + 1, 0, 0] := by obtain ⟨t, rfl⟩ := grid0.coords_surjective i; exact o14 t
  have q0 : Scalar.addi (Scalar.muli (BitVec.ofNat 32 (i 1).val) 1536#32) 0#32 = BitVec.ofNat 32 (1536 * (i 1).val + 512 * 0) := by obtain ⟨t, rfl⟩ := grid0.coords_surjective i; exact wq0 t
  have q1 : Scalar.addi (Scalar.muli (BitVec.ofNat 32 (i 1).val) 1536#32) 512#32 = BitVec.ofNat 32 (1536 * (i 1).val + 512 * 1) := by obtain ⟨t, rfl⟩ := grid0.coords_surjective i; exact wq1 t
  have q2 : Scalar.addi (Scalar.muli (BitVec.ofNat 32 (i 1).val) 1536#32) 1024#32 = BitVec.ofNat 32 (1536 * (i 1).val + 512 * 2) := by obtain ⟨t, rfl⟩ := grid0.coords_surjective i; exact wq2 t
  have k1 : Scalar.muli (Scalar.addi (Scalar.muli 2#32 (BitVec.ofNat 32 (i 1).val)) 1#32) 768#32 = BitVec.ofNat 32 (768 * (2 * (i 1).val + 1)) := by obtain ⟨t, rfl⟩ := grid0.coords_surjective i; exact wk1 t
  have ht : (k0_t1_loop i).trips = (i 1).val - 2 := by obtain ⟨t, rfl⟩ := grid0.coords_surjective i; exact trips1 t h2
  have hb := twoC i h2
  obtain ⟨n, e⟩ : ∃ n, 2 * (i 1).val = n + 1 + 1 := ⟨2 * (i 1).val - 2, by omega⟩
  have hn : 2 * ((k0_t1_loop i).trips + 1) = n := by omega
  have hn' : 2 * ((i 1).val - 1) = n := by omega
  have p7 : k0_off7 i 1#32 = ![768 * (n + 1), 0] := by rw [← hn']; obtain ⟨t, rfl⟩ := grid0.coords_surjective i; exact o7 t h2
  have p7e : k0_off7 i 2#32 = ![768 * (n + 1 + 1), 0] := by rw [← hn']; obtain ⟨t, rfl⟩ := grid0.coords_surjective i; exact o7' t h2
  have p8 : k0_off8 i = ![0, n, 0, 0] := by rw [← hn']; obtain ⟨t, rfl⟩ := grid0.coords_surjective i; exact o8 t h2
  have p9 : k0_off9 i = ![0, n + 1, 0, 0] := by rw [← hn']; obtain ⟨t, rfl⟩ := grid0.coords_surjective i; exact o9 t h2
  have kw : Scalar.muli (Scalar.addi (Scalar.muli 2#32 (Scalar.subi (BitVec.ofNat 32 (i 1).val) 1#32)) 2#32) 768#32 = BitVec.ofNat 32 (768 * (n + 1 + 1)) := by
    rw [← e]; obtain ⟨t, rfl⟩ := grid0.coords_surjective i; exact wk0 t
  have H0 := held_st c i arg2 harg2 arg3 harg3 arg4 harg4 arg5 harg5 arg6 harg6 arg7 harg7 arg8 harg8 arg9 harg9 arg10 harg10 arg11 harg11 h2 x2 x3 x4 0 (by decide) (entryC i arg2 harg2 arg3 harg3 arg4 harg4 arg6 arg7 arg8 arg9 arg10 arg11 x2 x3 x4) (held_entry i arg2 harg2 arg3 harg3 arg4 harg4 arg6 arg7 arg8 arg9 arg10 arg11 x2 x3 x4 0 (by decide) hb) _ le_rfl
  rw [hn] at H0
  have H1 := held_st c i arg2 harg2 arg3 harg3 arg4 harg4 arg5 harg5 arg6 harg6 arg7 harg7 arg8 harg8 arg9 harg9 arg10 harg10 arg11 harg11 h2 x2 x3 x4 1 (by decide) (entryC i arg2 harg2 arg3 harg3 arg4 harg4 arg6 arg7 arg8 arg9 arg10 arg11 x2 x3 x4) (held_entry i arg2 harg2 arg3 harg3 arg4 harg4 arg6 arg7 arg8 arg9 arg10 arg11 x2 x3 x4 1 (by decide) hb) _ le_rfl
  rw [hn] at H1
  have H2 := held_st c i arg2 harg2 arg3 harg3 arg4 harg4 arg5 harg5 arg6 harg6 arg7 harg7 arg8 harg8 arg9 harg9 arg10 harg10 arg11 harg11 h2 x2 x3 x4 2 (by decide) (entryC i arg2 harg2 arg3 harg3 arg4 harg4 arg6 arg7 arg8 arg9 arg10 arg11 x2 x3 x4) (held_entry i arg2 harg2 arg3 harg3 arg4 harg4 arg6 arg7 arg8 arg9 arg10 arg11 x2 x3 x4 2 (by decide) hb) _ le_rfl
  rw [hn] at H2
  have c0 : ∀ s w, w = BitVec.ofNat 32 (1536 * (i 1).val + 512 * s) → Sc (i 1).val s x2 x3 0 = scM 0#32 w (kblk x3 0) (qslab x2 s) := by
    rintro s w rfl; exact if_pos (Or.inl rfl)
  have cu : ∀ s, Sc (i 1).val s x2 x3 (n + 1) = scU (kblk x3 (n + 1)) (qslab x2 s) := fun s => if_neg (by omega)
  have c2 : ∀ s w, w = BitVec.ofNat 32 (1536 * (i 1).val + 512 * s) → Sc (i 1).val s x2 x3 (n + 1 + 1) = scM (Scalar.muli (Scalar.addi (Scalar.muli 2#32 (Scalar.subi (BitVec.ofNat 32 (i 1).val) 1#32)) 2#32) 768#32) w (kblk x3 (n + 1 + 1)) (qslab x2 s) := by
    rintro s w rfl; rw [kw]; exact if_pos (Or.inr (by omega))
  have c3 : Sc (i 1).val 2 x2 x3 (n + 1 + 1 + 1) = scM (Scalar.muli (Scalar.addi (Scalar.muli 2#32 (BitVec.ofNat 32 (i 1).val)) 1#32) 768#32)
      (Scalar.addi (Scalar.muli (BitVec.ofNat 32 (i 1).val) 1536#32) 1024#32) (kblk x3 (n + 1 + 1 + 1)) (qslab x2 2) := by
    rw [q2, k1, e]; exact if_pos (Or.inr (by omega))
  have gm0 := (congrArg (View.readAt (Elt F) arg6.view (Rect.unit (s := S3x1x512) ![0, 0, 0] S1x1x512.size (inbM (by decide))).toLoadRect) (at0_eq (k := (k0_t1_loop i).trips) (f := fun k => (st c i arg2 harg2 arg3 harg3 arg4 harg4 arg5 harg5 arg6 harg6 arg7 harg7 arg8 harg8 arg9 harg9 arg10 harg10 arg11 harg11 h2 x2 x3 x4 (entryC i arg2 harg2 arg3 harg3 arg4 harg4 arg6 arg7 arg8 arg9 arg10 arg11 x2 x3 x4) k).s6) (a := (entryC i arg2 harg2 arg3 harg3 arg4 harg4 arg6 arg7 arg8 arg9 arg10 arg11 x2 x3 x4).s6) rfl)).trans H0.hm
  have gm1 := (congrArg (View.readAt (Elt F) arg6.view (Rect.unit (s := S3x1x512) ![1, 0, 0] S1x1x512.size (inbM (by decide))).toLoadRect) (at0_eq (k := (k0_t1_loop i).trips) (f := fun k => (st c i arg2 harg2 arg3 harg3 arg4 harg4 arg5 harg5 arg6 harg6 arg7 harg7 arg8 harg8 arg9 harg9 arg10 harg10 arg11 harg11 h2 x2 x3 x4 (entryC i arg2 harg2 arg3 harg3 arg4 harg4 arg6 arg7 arg8 arg9 arg10 arg11 x2 x3 x4) k).s6) (a := (entryC i arg2 harg2 arg3 harg3 arg4 harg4 arg6 arg7 arg8 arg9 arg10 arg11 x2 x3 x4).s6) rfl)).trans H1.hm
  have gm2 := (congrArg (View.readAt (Elt F) arg6.view (Rect.unit (s := S3x1x512) ![2, 0, 0] S1x1x512.size (inbM (by decide))).toLoadRect) (at0_eq (k := (k0_t1_loop i).trips) (f := fun k => (st c i arg2 harg2 arg3 harg3 arg4 harg4 arg5 harg5 arg6 harg6 arg7 harg7 arg8 harg8 arg9 harg9 arg10 harg10 arg11 harg11 h2 x2 x3 x4 (entryC i arg2 harg2 arg3 harg3 arg4 harg4 arg6 arg7 arg8 arg9 arg10 arg11 x2 x3 x4) k).s6) (a := (entryC i arg2 harg2 arg3 harg3 arg4 harg4 arg6 arg7 arg8 arg9 arg10 arg11 x2 x3 x4).s6) rfl)).trans H2.hm
  have ga0 := (congrArg (View.readAt (Elt F) arg7.view (Rect.unit (s := S3x144x512) ![0, 0, 0] S1x144x512.size (inbA (by decide))).toLoadRect) (at0_eq (k := (k0_t1_loop i).trips) (f := fun k => (st c i arg2 harg2 arg3 harg3 arg4 harg4 arg5 harg5 arg6 harg6 arg7 harg7 arg8 harg8 arg9 harg9 arg10 harg10 arg11 harg11 h2 x2 x3 x4 (entryC i arg2 harg2 arg3 harg3 arg4 harg4 arg6 arg7 arg8 arg9 arg10 arg11 x2 x3 x4) k).s7) (a := (entryC i arg2 harg2 arg3 harg3 arg4 harg4 arg6 arg7 arg8 arg9 arg10 arg11 x2 x3 x4).s7) rfl)).trans H0.ha
  have ga1 := (congrArg (View.readAt (Elt F) arg7.view (Rect.unit (s := S3x144x512) ![1, 0, 0] S1x144x512.size (inbA (by decide))).toLoadRect) (at0_eq (k := (k0_t1_loop i).trips) (f := fun k => (st c i arg2 harg2 arg3 harg3 arg4 harg4 arg5 harg5 arg6 harg6 arg7 harg7 arg8 harg8 arg9 harg9 arg10 harg10 arg11 harg11 h2 x2 x3 x4 (entryC i arg2 harg2 arg3 harg3 arg4 harg4 arg6 arg7 arg8 arg9 arg10 arg11 x2 x3 x4) k).s7) (a := (entryC i arg2 harg2 arg3 harg3 arg4 harg4 arg6 arg7 arg8 arg9 arg10 arg11 x2 x3 x4).s7) rfl)).trans H1.ha
  have ga2 := (congrArg (View.readAt (Elt F) arg7.view (Rect.unit (s := S3x144x512) ![2, 0, 0] S1x144x512.size (inbA (by decide))).toLoadRect) (at0_eq (k := (k0_t1_loop i).trips) (f := fun k => (st c i arg2 harg2 arg3 harg3 arg4 harg4 arg5 harg5 arg6 harg6 arg7 harg7 arg8 harg8 arg9 harg9 arg10 harg10 arg11 harg11 h2 x2 x3 x4 (entryC i arg2 harg2 arg3 harg3 arg4 harg4 arg6 arg7 arg8 arg9 arg10 arg11 x2 x3 x4) k).s7) (a := (entryC i arg2 harg2 arg3 harg3 arg4 harg4 arg6 arg7 arg8 arg9 arg10 arg11 x2 x3 x4).s7) rfl)).trans H2.ha
  have gS0 := (congrArg (View.readAt (Elt F) arg8.view (Rect.unit (s := S3x768x512) ![0, 0, 0] S1x768x512.size (inbC (by decide))).toLoadRect) (at0_eq (k := (k0_t1_loop i).trips) (f := fun k => (st c i arg2 harg2 arg3 harg3 arg4 harg4 arg5 harg5 arg6 harg6 arg7 harg7 arg8 harg8 arg9 harg9 arg10 harg10 arg11 harg11 h2 x2 x3 x4 (entryC i arg2 harg2 arg3 harg3 arg4 harg4 arg6 arg7 arg8 arg9 arg10 arg11 x2 x3 x4) k).s8) (a := (entryC i arg2 harg2 arg3 harg3 arg4 harg4 arg6 arg7 arg8 arg9 arg10 arg11 x2 x3 x4).s8) rfl)).trans H0.hS
  have gS1 := (congrArg (View.readAt (Elt F) arg8.view (Rect.unit (s := S3x768x512) ![1, 0, 0] S1x768x512.size (inbC (by decide))).toLoadRect) (at0_eq (k := (k0_t1_loop i).trips) (f := fun k => (st c i arg2 harg2 arg3 harg3 arg4 harg4 arg5 harg5 arg6 harg6 arg7 harg7 arg8 harg8 arg9 harg9 arg10 harg10 arg11 harg11 h2 x2 x3 x4 (entryC i arg2 harg2 arg3 harg3 arg4 harg4 arg6 arg7 arg8 arg9 arg10 arg11 x2 x3 x4) k).s8) (a := (entryC i arg2 harg2 arg3 harg3 arg4 harg4 arg6 arg7 arg8 arg9 arg10 arg11 x2 x3 x4).s8) rfl)).trans H1.hS
  have gS2 := (congrArg (View.readAt (Elt F) arg8.view (Rect.unit (s := S3x768x512) ![2, 0, 0] S1x768x512.size (inbC (by decide))).toLoadRect) (at0_eq (k := (k0_t1_loop i).trips) (f := fun k => (st c i arg2 harg2 arg3 harg3 arg4 harg4 arg5 harg5 arg6 harg6 arg7 harg7 arg8 harg8 arg9 harg9 arg10 harg10 arg11 harg11 h2 x2 x3 x4 (entryC i arg2 harg2 arg3 harg3 arg4 harg4 arg6 arg7 arg8 arg9 arg10 arg11 x2 x3 x4) k).s8) (a := (entryC i arg2 harg2 arg3 harg3 arg4 harg4 arg6 arg7 arg8 arg9 arg10 arg11 x2 x3 x4).s8) rfl)).trans H2.hS
  have gC0 := (congrArg (View.readAt (Elt F) arg10.view (Rect.unit (s := S3x1x512) ![0, 0, 0] S1x1x512.size (inbM (by decide))).toLoadRect) (at0_eq (k := (k0_t1_loop i).trips) (f := fun k => (st c i arg2 harg2 arg3 harg3 arg4 harg4 arg5 harg5 arg6 harg6 arg7 harg7 arg8 harg8 arg9 harg9 arg10 harg10 arg11 harg11 h2 x2 x3 x4 (entryC i arg2 harg2 arg3 harg3 arg4 harg4 arg6 arg7 arg8 arg9 arg10 arg11 x2 x3 x4) k).s10) (a := (entryC i arg2 harg2 arg3 harg3 arg4 harg4 arg6 arg7 arg8 arg9 arg10 arg11 x2 x3 x4).s10) rfl)).trans H0.hC
  have gC1 := (congrArg (View.readAt (Elt F) arg10.view (Rect.unit (s := S3x1x512) ![1, 0, 0] S1x1x512.size (inbM (by decide))).toLoadRect) (at0_eq (k := (k0_t1_loop i).trips) (f := fun k => (st c i arg2 harg2 arg3 harg3 arg4 harg4 arg5 harg5 arg6 harg6 arg7 harg7 arg8 harg8 arg9 harg9 arg10 harg10 arg11 harg11 h2 x2 x3 x4 (entryC i arg2 harg2 arg3 harg3 arg4 harg4 arg6 arg7 arg8 arg9 arg10 arg11 x2 x3 x4) k).s10) (a := (entryC i arg2 harg2 arg3 harg3 arg4 harg4 arg6 arg7 arg8 arg9 arg10 arg11 x2 x3 x4).s10) rfl)).trans H1.hC
  have gC2 := (congrArg (View.readAt (Elt F) arg10.view (Rect.unit (s := S3x1x512) ![2, 0, 0] S1x1x512.size (inbM (by decide))).toLoadRect) (at0_eq (k := (k0_t1_loop i).trips) (f := fun k => (st c i arg2 harg2 arg3 harg3 arg4 harg4 arg5 harg5 arg6 harg6 arg7 harg7 arg8 harg8 arg9 harg9 arg10 harg10 arg11 harg11 h2 x2 x3 x4 (entryC i arg2 harg2 arg3 harg3 arg4 harg4 arg6 arg7 arg8 arg9 arg10 arg11 x2 x3 x4) k).s10) (a := (entryC i arg2 harg2 arg3 harg3 arg4 harg4 arg6 arg7 arg8 arg9 arg10 arg11 x2 x3 x4).s10) rfl)).trans H2.hC
  unfold entryC at gm0 gm1 gm2 ga0 ga1 ga2 gS0 gS1 gS2 gC0 gC1 gC2
  dsimp only [at0, Scf.Loop.trips] at gm0 gm1 gm2 ga0 ga1 ga2 gS0 gS1 gS2 gC0 gC1 gC2
  simp only [pieces, sum0, sum1, sum2, Sc1, ← q1, ← k1, -Nat.reduceAdd, -Nat.reduceMul]
  simp only [e, -Nat.reduceAdd, -Nat.reduceMul] at p10 p11 p12 p13 p14 k1 ⊢
  simp only [mN, aN, c0 0 _ q0, c0 1 _ q1, c0 2 _ q2, cu, c2 0 _ q0, c2 1 _ q1, c2 2 _ q2, c3, -Nat.reduceAdd, -Nat.reduceMul]
  unfold runC
  dsimp only
  revert gm0 gm1 gm2 ga0 ga1 ga2 gS0 gS1 gS2 gC0 gC1 gC2
  sl_unfold_run_names
  intro gm0 gm1 gm2 ga0 ga1 ga2 gS0 gS1 gS2 gC0 gC1 gC2
  simp only [↓gm0, ↓gm1, ↓gm2, ↓ga0, ↓ga1, ↓ga2, ↓gS0, ↓gS1, ↓gS2, ↓gC0, ↓gC1, ↓gC2]
  simp (discharger := first | decide | rfl) only [readAt_hit, readAt_miss, readCov_hit, readCov_miss, readAt_nil,
    readAt_win harg2 (pos2 (a := 256) (b := 1536)), readAt_win harg3 (pos2 (a := 16896) (b := 256)), readAt_win harg4 (pos4 (a := 1) (b := 22) (c := 144) (d := 768)),
    p10, p11, p12, p13, p14, p7, p7e, p8, p9]
  simp (discharger := decide) only [readCov_in]
  rfl

end Cert.KernelIdeal.Attn

end
-- ==== Proof.Attn.Launch.lean ====
module

public import proofs.«01_k».proof.Proof.Attn.Val
public import Idealize.ShloMosaic.Lib.Claim

@[expose] public section

set_option maxRecDepth 16384

/-! # The launch of the attention call -/

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What a grid point leaves in its output block -/

section
variable (x2 : Vec F S256x1536 .bf16) (x3 : Vec F S16896x256 .bf16) (x4 : Vec F S1x22x144x768 .bf16)

/-- The last sum of slab `s`. -/
def sumS (b : ℕ) : ℕ → Vec F S1x144x512 .f32
  | 0 => sum0 b x2 x3 x4
  | 1 => sum1 b x2 x3 x4
  | _ => sum2 b x2 x3 x4

/-- Row `q` of the output block: its slab's quotient. -/
def outBlk (b : ℕ) : Vec F S1536x128 .bf16 := fun y =>
  fin (sumS x2 x3 x4 b ((y 0).val / 512)) fun a => match a with
    | ⟨0, _⟩ => ⟨(y 0).val % 512, Nat.mod_lt _ (by decide)⟩
    | ⟨1, _⟩ => ⟨(y 1).val, (y 1).isLt⟩

/-- The three stores leave `outBlk`, whatever the buffer held. -/
theorem read_pieces (b : ℕ) {κ' : Kind} {sp : Space} (v : View sig κ' sp S1536x128 .bf16) (f : v.ty.Contents (Elt F)) :
    v.read (Elt F) (v.writes (Elt F) f (pieces b x2 x3 x4)) = outBlk x2 x3 x4 b := by
  funext y
  have h0 : (y 0).val < 1536 := (y 0).isLt
  have key : ∀ s : ℕ, (y 0).val / 512 = s → ∀ a : Fin 2, (y a).val = (![512 * s, 0] : Fin 2 → ℕ) a + 1 *
      ((fun a => match a with
        | ⟨0, _⟩ => ⟨(y 0).val % 512, Nat.mod_lt _ (by decide)⟩
        | ⟨1, _⟩ => ⟨(y 1).val, (y 1).isLt⟩ : S512x128.Idx) a).val := by
    intro s hs a
    fin_cases a
    · show (y 0).val = 512 * s + 1 * ((y 0).val % 512)
      omega
    · show (y 1).val = 0 + 1 * (y 1).val
      omega
  unfold pieces outBlk
  obtain h | h | h : (y 0).val / 512 = 2 ∨ (y 0).val / 512 = 1 ∨ (y 0).val / 512 = 0 := by omega
  · rw [h]
    exact View.read_writes_cons_hit_of_coords v f _ _ _ _ _ (key 2 h)
  · rw [View.read_writes_cons_miss_of_axis v f _ _ _ (0 : Fin 2) 1024 512 rfl rfl rfl (Or.inl (by omega)), h]
    exact View.read_writes_cons_hit_of_coords v f _ _ _ _ _ (key 1 h)
  · rw [View.read_writes_cons_miss_of_axis v f _ _ _ (0 : Fin 2) 1024 512 rfl rfl rfl (Or.inl (by omega)),
      View.read_writes_cons_miss_of_axis v f _ _ _ (0 : Fin 2) 512 512 rfl rfl rfl (Or.inl (by omega)), h]
    exact View.read_writes_cons_hit_of_coords v f _ _ _ _ _ (key 0 h)

end

/-! ## The body at any grid point -/

/-- The body, from blocks of queries, keys and values and any contents elsewhere, leaves `pieces` in its output block. -/
theorem run_any (c : Dev nD) (i : grid0.Coords) (arg2 : Memref sig .tc .vmem S256x1536 .bf16) (harg2 : arg2.IsWhole) (arg3 : Memref sig .tc .vmem S16896x256 .bf16) (harg3 : arg3.IsWhole) (arg4 : Memref sig .tc .vmem S1x22x144x768 .bf16) (harg4 : arg4.IsWhole) (arg5 : Memref sig .tc .vmem S1536x128 .bf16) (harg5 : arg5.IsWhole) (arg6 : Memref sig .tc .vmem S3x1x512 .f32) (harg6 : arg6.IsWhole) (arg7 : Memref sig .tc .vmem S3x144x512 .f32) (harg7 : arg7.IsWhole) (arg8 : Memref sig .tc .vmem S3x768x512 .f32) (harg8 : arg8.IsWhole) (arg9 : Memref sig .tc .vmem S3x768x512 .f32) (harg9 : arg9.IsWhole) (arg10 : Memref sig .tc .vmem S3x1x512 .f32) (harg10 : arg10.IsWhole) (arg11 : Memref sig .tc .vmem S3x1x512 .f32) (harg11 : arg11.IsWhole) (x2 : Vec F S256x1536 .bf16) (x3 : Vec F S16896x256 .bf16) (x4 : Vec F S1x22x144x768 .bf16)
    (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (K : PUnit → sProp 𝕄) :
    iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
      ∗ (iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} arg5.view.writes (Elt F) f5 (pieces (i 1).val x2 x3 x4)) ∗ (∃ d, (arg6.view.loc (c : Thread nD τ) ↦[arg6.view.set]{fullShare} d)) ∗ (∃ d, (arg7.view.loc (c : Thread nD τ) ↦[arg7.view.set]{fullShare} d)) ∗ (∃ d, (arg8.view.loc (c : Thread nD τ) ↦[arg8.view.set]{fullShare} d)) ∗ (∃ d, (arg9.view.loc (c : Thread nD τ) ↦[arg9.view.set]{fullShare} d)) ∗ (∃ d, (arg10.view.loc (c : Thread nD τ) ↦[arg10.view.set]{fullShare} d)) ∗ (∃ d, (arg11.view.loc (c : Thread nD τ) ↦[arg11.view.set]{fullShare} d))) -∗ K ⟨⟩))
    ⊢ wp frame (wpE (defs₀ (F := F)) Variants.none (c : Thread nD τ) none) Set.univ (cc0_mla_attention (F := F) i arg2 harg2 arg3 harg3 arg4 harg4 arg5 harg5 arg6 harg6 arg7 harg7 arg8 harg8 arg9 harg9 arg10 harg10 arg11 harg11) K := by
  by_cases h2 : k0_cond2 i = 1#1
  · have h1 : ¬cond1 i := fun h => absurd (oneB i h) (by have := twoC i h2; omega)
    have r := (runC c i arg2 harg2 arg3 harg3 arg4 harg4 arg5 harg5 arg6 harg6 arg7 harg7 arg8 harg8 arg9 harg9 arg10 harg10 arg11 harg11 x2 x3 x4 h1 h2 f5 f6 f7 f8 f9 f10 f11).2 K
    rw [valC] at r
    exact r
  · by_cases h1 : cond1 i
    · have r := (runB c i arg2 harg2 arg3 harg3 arg4 harg4 arg5 harg5 arg6 harg6 arg7 harg7 arg8 harg8 arg9 harg9 arg10 harg10 arg11 harg11 x2 x3 x4 h1 h2 f5 f6 f7 f8 f9 f10 f11).2 K
      rw [valB] at r
      exact r
    · have r := (runA c i arg2 harg2 arg3 harg3 arg4 harg4 arg5 harg5 arg6 harg6 arg7 harg7 arg8 harg8 arg9 harg9 arg10 harg10 arg11 harg11 x2 x3 x4 h1 h2 f5 f6 f7 f8 f9 f10 f11).2 K
      rw [valA] at r
      exact r

/-! ## The pipeline's proof data -/

variable (m : (ℓ : Loc nD τ sig) → Buf (Elt F) ℓ) (ρ : Dev nD → PrngReg)

/-- After point `t` the inputs' buffers hold their blocks and the output's the rows computed from them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (iblk m c 2 t) (grid0.coords t 1).val
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlk (iblk m c 0 t) (iblk m c 1 t) (iblk m c 2 t) (grid0.coords t 1).val := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- A scratch buffer whole is its memref's elements. -/
theorem scratch_eq (c : Dev nD) (b : Ref sig .tc) (f : Buf (Elt F) ((c : Thread nD τ).loc b)) :
    (iprop(((c : Thread nD τ).loc b) ↦{fullShare} f) : sProp 𝕄)
      = iprop((Memref.whole b).view.loc (c : Thread nD τ) ↦[(Memref.whole b).view.set]{fullShare} f) := by
  rw [(Memref.isWhole_whole b).set_eq_univ]

theorem phi_castSucc (c : Dev nD) (t : Fin cfg0.N) : (dats m 0 c).Φ t.castSucc
    = iprop(((∃ f : Buf (Elt F) ((c : Thread nD τ).loc cc0_scratch0), (Memref.whole cc0_scratch0).view.loc (c : Thread nD τ) ↦[(Memref.whole cc0_scratch0).view.set]{fullShare} f) ∗ (∃ f : Buf (Elt F) ((c : Thread nD τ).loc cc0_scratch1), (Memref.whole cc0_scratch1).view.loc (c : Thread nD τ) ↦[(Memref.whole cc0_scratch1).view.set]{fullShare} f) ∗ (∃ f : Buf (Elt F) ((c : Thread nD τ).loc cc0_scratch2), (Memref.whole cc0_scratch2).view.loc (c : Thread nD τ) ↦[(Memref.whole cc0_scratch2).view.set]{fullShare} f) ∗ (∃ f : Buf (Elt F) ((c : Thread nD τ).loc cc0_scratch3), (Memref.whole cc0_scratch3).view.loc (c : Thread nD τ) ↦[(Memref.whole cc0_scratch3).view.set]{fullShare} f) ∗ (∃ f : Buf (Elt F) ((c : Thread nD τ).loc cc0_scratch4), (Memref.whole cc0_scratch4).view.loc (c : Thread nD τ) ↦[(Memref.whole cc0_scratch4).view.set]{fullShare} f) ∗ (∃ f : Buf (Elt F) ((c : Thread nD τ).loc cc0_scratch5), (Memref.whole cc0_scratch5).view.loc (c : Thread nD τ) ↦[(Memref.whole cc0_scratch5).view.set]{fullShare} f)) ∗ ∃ r, prngReg c r) := by
  rw [show (dats m 0 c).Φ t.castSucc = Pipeline.ΦA spec0 c from rfl]
  unfold Pipeline.ΦA
  rw [scopedRest0_eq]
  simp only [scratch_eq]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, phi_castSucc]
  unfold owns
  iintro ⟨⟨⟨⟨%f6, H6⟩, ⟨%f7, H7⟩, ⟨%f8, H8⟩, ⟨%f9, H9⟩, ⟨%f10, H10⟩, ⟨%f11, H11⟩⟩, Hr⟩, Ho, ⟨%d0, %f0, %hf0, H0⟩, ⟨%d1, %f1, %hf1, H1⟩, ⟨%d2, %f2, %hf2, H2⟩, ⟨%d3, %f3, %hf3, H3⟩⟩
  obtain rfl := (hstage0_0 ((cfg0.slots t 0).cast nbuf0_0)).eq_unread hf0
  obtain rfl := (hstage0_1 ((cfg0.slots t 1).cast nbuf0_1)).eq_unread hf1
  obtain rfl := (hstage0_2 ((cfg0.slots t 2).cast nbuf0_2)).eq_unread hf2
  iapply (run_any c (grid0.coords t) _ _ _ _ _ _ _ _ _ _ _ _ _ _ _ _ _ _ _ _ (iblk m c 0 t) (iblk m c 1 t) (iblk m c 2 t) f3 f6 f7 f8 f9 f10 f11 _)
  isplitl [H0]; · iexact H0
  isplitl [H1]; · iexact H1
  isplitl [H2]; · iexact H2
  isplitl [H3]; · iexact H3
  isplitl [H6]; · iexact H6
  isplitl [H7]; · iexact H7
  isplitl [H8]; · iexact H8
  isplitl [H9]; · iexact H9
  isplitl [H10]; · iexact H10
  isplitl [H11]; · iexact H11
  iintro ⟨H0, H1, H2, H3, H6, H7, H8, H9, H10, H11⟩
  isplitl [H6 H7 H8 H9 H10 H11 Hr]
  · isplitr [Hr]
    · isplitl [H6]; · iexact H6
      isplitl [H7]; · iexact H7
      isplitl [H8]; · iexact H8
      isplitl [H9]; · iexact H9
      isplitl [H10]; · iexact H10
      iexact H11
    · iexact Hr
  isplitl [Ho]; · iexact Ho
  isplitl [H0]
  · iexists _; isplitr
    · ipureintro; exact (hstage0_0 ((cfg0.slots t 0).cast nbuf0_0)).read_unread _
    · iexact H0
  isplitl [H1]
  · iexists _; isplitr
    · ipureintro; exact (hstage0_1 ((cfg0.slots t 1).cast nbuf0_1)).read_unread _
    · iexact H1
  isplitl [H2]
  · iexists _; isplitr
    · ipureintro; exact (hstage0_2 ((cfg0.slots t 2).cast nbuf0_2)).read_unread _
    · iexact H2
  iexists _; isplitr
  · ipureintro; exact read_pieces (iblk m c 0 t) (iblk m c 1 t) (iblk m c 2 t) (grid0.coords t 1).val _ f3
  · iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution ends with the arrays at what the proof data says, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.KernelIdeal.Attn

end
-- ==== Proof.Attn.Bits.lean ====
module

public import proofs.«01_k».proof.Proof.Attn.Launch
public import proofs.«01_k».proof.Defs
public import proofs.«01_k».proof.Proof.Gen.Kernel.Launch

@[expose] public section

set_option maxRecDepth 16384

/-! # The frame at the machine's floats, the mask a literal -/

noncomputable section

namespace Cert.KernelIdeal.Attn

open Idealize.ShloMosaic Idealize.ShloMosaic.TcCoe
open Idealize.SL Idealize.SL.Sem

/-- At the machine's floats a name is its literal. -/
@[reducible] def namedBits : Named Bits where
  named _ _ {_} bits := FloatOps.ofBits _ bits

attribute [local instance] namedBits
set_option backward.isDefEq.respectTransparency.types false

/-- The kernel body is the same text in the two readings: at `namedBits` the named mask is its literal. -/
theorem body_eq : Cert.Kernel.cc0_mla_attention (F := Bits) = Cert.KernelIdeal.cc0_mla_attention (F := Bits) := by
  with_unfolding_all rfl

theorem defs₀_eq : Cert.Kernel.defs₀ (F := Bits) = Cert.KernelIdeal.defs₀ (F := Bits) := by
  unfold Cert.Kernel.defs₀ Cert.KernelIdeal.defs₀
  congr 1
  funext l a
  fin_cases l
  obtain ⟨t, s⟩ := a
  with_unfolding_all rfl

theorem main_eq : Cert.Kernel.main (F := Bits) = Cert.KernelIdeal.main (F := Bits) := by
  with_unfolding_all rfl

theorem frameBits (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  unfold Cert.Kernel.defs
  rw [defs₀_eq, main_eq]
  exact frame (F := Bits) m g

end Cert.KernelIdeal.Attn

end
-- ==== Proof.Attn.Soft.lean ====
module

public import Idealize.ShloMosaic.PureOps
public import Idealize.ShloMosaic.PureOps.Ideal.Laws

@[expose] public section

/-! # Running softmax over the extended reals

Scores `σ κ` of keys `κ = 0, 1, …`, minus infinity where masked, and values `v κ`. The running maximum over the first
`n` keys and the sum of values weighted by powers of two relative to it; how both grow by a chunk of keys; and the quotient
of the last sums, which is softmax by the base of the natural logarithm over all keys. -/

noncomputable section

namespace Cert.Soft

open Idealize.ShloMosaic
open scoped BigOperators
open Finset

/-- The maximum of the first `n` scores. -/
def top (σ : ℕ → EReal) (n : ℕ) : EReal := (range n).sup σ

/-- The values of the first `n` keys, weighted relative to the maximum. -/
def acc (σ v : ℕ → EReal) (n : ℕ) : EReal := ∑ κ ∈ range n, v κ * Ideal.exp2 (σ κ - top σ n)

theorem top_ne {σ : ℕ → EReal} (h : ∀ κ, σ κ ≠ ⊤) (n : ℕ) : top σ n ≠ ⊤ := by
  have : top σ n < ⊤ := (Finset.sup_lt_iff bot_lt_top).mpr fun κ _ => lt_top_iff_ne_top.mpr (h κ)
  exact this.ne

theorem top_add (σ : ℕ → EReal) (n w : ℕ) : max (top σ n) ((univ : Finset (Fin w)).sup fun k => σ (n + k.val)) = top σ (n + w) := by
  refine le_antisymm (max_le ?_ ?_) ?_
  · exact Finset.sup_mono (range_mono (Nat.le_add_right n w))
  · exact Finset.sup_le fun k _ => Finset.le_sup (f := σ) (mem_range.mpr (Nat.add_lt_add_left k.isLt n))
  · refine Finset.sup_le fun κ hκ => ?_
    have hκ := mem_range.mp hκ
    by_cases h : κ < n
    · exact le_max_of_le_left (Finset.le_sup (f := σ) (mem_range.mpr h))
    · refine le_max_of_le_right ?_
      have e : σ κ = (fun k : Fin w => σ (n + k.val)) ⟨κ - n, by omega⟩ := by show σ κ = σ (n + (κ - n)); congr 1; omega
      rw [e]
      exact Finset.le_sup (f := fun k : Fin w => σ (n + k.val)) (mem_univ _)

theorem exp2_nonneg (x : EReal) : 0 ≤ Ideal.exp2 x := by
  induction x with
  | bot => simp
  | top => simp
  | coe r => rw [Ideal.exp2_coe]; exact_mod_cast (Real.rpow_nonneg (by norm_num) r)

theorem bot_sub (x : EReal) : (⊥ : EReal) - x = ⊥ := by rw [sub_eq_add_neg, EReal.bot_add]

/-- A weight relative to one maximum becomes a weight relative to a larger one. -/
theorem rescale {s M M' : EReal} (h : s ≤ M) (h' : M ≤ M') (hM : M' ≠ ⊤) (v : EReal) :
    Ideal.exp2 (M - M') * (v * Ideal.exp2 (s - M)) = v * Ideal.exp2 (s - M') := by
  induction s with
  | bot => rw [bot_sub, bot_sub, Ideal.exp2_bot, mul_zero, mul_zero]
  | top => exact absurd (top_le_iff.mp (h.trans h')) hM
  | coe s =>
    induction M' with
    | bot => exact absurd (h.trans h') (not_le.mpr (EReal.bot_lt_coe s))
    | top => exact absurd rfl hM
    | coe M' =>
      induction M with
      | bot => exact absurd h (not_le.mpr (EReal.bot_lt_coe s))
      | top => exact absurd h' (not_le.mpr (EReal.coe_lt_top M'))
      | coe M =>
        rw [← EReal.coe_sub, ← EReal.coe_sub, ← EReal.coe_sub, Ideal.exp2_coe, Ideal.exp2_coe, Ideal.exp2_coe, mul_left_comm, ← EReal.coe_mul]
        congr 2
        show (2 : ℝ) ^ (M - M') * (2 : ℝ) ^ (s - M) = (2 : ℝ) ^ (s - M')
        rw [← Real.rpow_add (by norm_num)]
        congr 1; ring

theorem exp2_ne_top {M M' : EReal} (h' : M ≤ M') (hM : M' ≠ ⊤) : Ideal.exp2 (M - M') ≠ ⊤ := by
  induction M with
  | bot => rw [bot_sub]; simp
  | top => exact absurd (top_le_iff.mp h') hM
  | coe M =>
    induction M' with
    | bot => exact absurd h' (not_le.mpr (EReal.bot_lt_coe M))
    | top => exact absurd rfl hM
    | coe M' => rw [← EReal.coe_sub, Ideal.exp2_coe]; exact EReal.coe_ne_top _

theorem mul_sum_of {ι : Type} (s : Finset ι) (f : ι → EReal) {c : EReal} (h0 : 0 ≤ c) (hc : c ≠ ⊤) : c * ∑ i ∈ s, f i = ∑ i ∈ s, c * f i := by
  classical
  induction s using Finset.induction_on with
  | empty => simp
  | insert a s ha ih => rw [sum_insert ha, sum_insert ha, EReal.left_distrib_of_nonneg_of_ne_top h0 hc, ih]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- The weighted sum grows by a chunk of `w` keys. -/
theorem acc_add {σ : ℕ → EReal} (hσ : ∀ κ, σ κ ≠ ⊤) (v : ℕ → EReal) (n w : ℕ) :
    Ideal.exp2 (top σ n - top σ (n + w)) * acc σ v n + ∑ k : Fin w, v (n + k.val) * Ideal.exp2 (σ (n + k.val) - top σ (n + w)) = acc σ v (n + w) := by
  have hle : top σ n ≤ top σ (n + w) := Finset.sup_mono (range_mono (Nat.le_add_right n w))
  unfold acc
  rw [sum_range_add, ← Fin.sum_univ_eq_sum_range (fun k => v (n + k) * Ideal.exp2 (σ (n + k) - top σ (n + w))) w,
    mul_sum_of _ _ (exp2_nonneg _) (exp2_ne_top hle (top_ne hσ _))]
  congr 1
  exact sum_congr rfl fun κ hκ => rescale (Finset.le_sup (f := σ) hκ) hle (top_ne hσ _) _

/-- Division by a positive real number goes through a sum. -/
theorem div_coe {L : ℝ} (hL : 0 < L) (x : EReal) : Ideal.div x (L : EReal) = x * ((L⁻¹ : ℝ) : EReal) := by
  unfold Ideal.div
  rw [if_neg (by exact_mod_cast hL.ne'), EReal.coe_inv]

/-- The quotient of the weighted sum and the sum of the weights over the first `n` keys is softmax over all `N` keys, when the keys
    from `n` on are masked: `s` is the score by base e, `σ` the same score by base two. -/
theorem softmax (σ s v one : ℕ → EReal) (n N : ℕ) (hn : n ≤ N) (h1 : ∀ κ, one κ = 1)
    (hs : ∀ κ, (s κ = ⊥ ∧ σ κ = ⊥) ∨ ∃ a : ℝ, s κ = (a : EReal) ∧ σ κ = ((a / Real.log 2 : ℝ) : EReal))
    (hm : ∀ κ, n ≤ κ → s κ = ⊥) (κ₀ : ℕ) (h₀ : κ₀ < n) (hκ₀ : s κ₀ ≠ ⊥) :
    Ideal.div (acc σ v n) (acc σ one n)
      = ∑ κ : Fin N, Ideal.div (Ideal.exp (s κ.val - (univ : Finset (Fin N)).sup fun k => s k.val))
          (∑ κ' : Fin N, Ideal.exp (s κ'.val - (univ : Finset (Fin N)).sup fun k => s k.val)) * v κ.val := by
  have hlog : 0 < Real.log 2 := Real.log_pos (by norm_num)
  -- the maximum is some key's score
  obtain ⟨κ₁, hκ₁, e₁⟩ := Finset.exists_mem_eq_sup (range n) ⟨κ₀, mem_range.mpr h₀⟩ s
  have hsne : s κ₁ ≠ ⊥ := by
    intro h
    have : s κ₀ ≤ (range n).sup s := Finset.le_sup (f := s) (mem_range.mpr h₀)
    rw [e₁, h] at this
    exact hκ₀ (le_bot_iff.mp this)
  obtain ⟨b, hb, hbσ⟩ : ∃ b : ℝ, s κ₁ = (b : EReal) ∧ σ κ₁ = ((b / Real.log 2 : ℝ) : EReal) := (hs κ₁).resolve_left fun h => hsne h.1
  have hmax : ∀ κ, s κ ≤ (b : EReal) := fun κ => by
    by_cases h : κ < n
    · rw [← hb, ← e₁]; exact Finset.le_sup (f := s) (mem_range.mpr h)
    · rw [hm κ (not_lt.mp h)]; exact bot_le
  have hS : ((univ : Finset (Fin N)).sup fun k => s k.val) = (b : EReal) := by
    refine le_antisymm (Finset.sup_le fun k _ => hmax _) ?_
    rw [← hb]
    exact Finset.le_sup (f := fun k : Fin N => s k.val) (mem_univ ⟨κ₁, lt_of_lt_of_le (mem_range.mp hκ₁) hn⟩)
  have hT : top σ n = ((b / Real.log 2 : ℝ) : EReal) := by
    refine le_antisymm (Finset.sup_le fun κ _ => ?_) ?_
    · rcases hs κ with h | ⟨a, ha, ha'⟩
      · rw [h.2]; exact bot_le
      · rw [ha']
        have := hmax κ
        rw [ha] at this
        have : a ≤ b := by exact_mod_cast this
        exact_mod_cast div_le_div_of_nonneg_right this hlog.le
    · rw [← hbσ]; exact Finset.le_sup (f := σ) hκ₁
  rw [hS]
  -- a key's weight
  let p : ℕ → ℝ := fun κ => if s κ = ⊥ then 0 else Real.exp ((s κ).toReal - b)
  have hp0 : ∀ κ, 0 ≤ p κ := fun κ => by
    show 0 ≤ (if s κ = ⊥ then 0 else Real.exp ((s κ).toReal - b))
    split
    · exact le_refl 0
    · exact (Real.exp_pos _).le
  have hp : ∀ κ, Ideal.exp (s κ - (b : EReal)) = (p κ : EReal) ∧ Ideal.exp2 (σ κ - top σ n) = (p κ : EReal) := fun κ => by
    rw [hT]
    rcases hs κ with h | ⟨a, ha, ha'⟩
    · have e : p κ = 0 := if_pos h.1
      rw [e, h.1, h.2, bot_sub, bot_sub]
      exact ⟨rfl, rfl⟩
    · have e : p κ = Real.exp (a - b) := by
        show (if s κ = ⊥ then 0 else Real.exp ((s κ).toReal - b)) = _
        rw [ha, if_neg (EReal.coe_ne_bot a), EReal.toReal_coe]
      rw [e, ha, ha', ← EReal.coe_sub, ← EReal.coe_sub]
      refine ⟨rfl, ?_⟩
      rw [Ideal.exp2_coe]
      congr 1
      show (2 : ℝ) ^ (a / Real.log 2 - b / Real.log 2) = Real.exp (a - b)
      rw [Real.rpow_def_of_pos (by norm_num)]
      congr 1
      field_simp
  have hpn : ∀ κ, n ≤ κ → p κ = 0 := fun κ h => if_pos (hm κ h)
  have sumN : ∀ f : ℕ → EReal, (∀ κ, n ≤ κ → f κ = 0) → ∑ κ : Fin N, f κ.val = ∑ κ ∈ range n, f κ := fun f hf => by
    rw [Fin.sum_univ_eq_sum_range f N]
    refine (Finset.sum_subset (range_mono hn) fun κ _ h => hf κ ?_).symm
    exact not_lt.mp fun h' => h (mem_range.mpr h')
  have hL0 : 0 < ∑ κ ∈ range n, p κ := by
    refine Finset.sum_pos' (fun κ _ => hp0 κ) ⟨κ₁, hκ₁, ?_⟩
    show 0 < (if s κ₁ = ⊥ then 0 else Real.exp ((s κ₁).toReal - b))
    rw [if_neg hsne]; exact Real.exp_pos _
  have hL : (∑ κ ∈ range n, (p κ : EReal)) = ((∑ κ ∈ range n, p κ : ℝ) : EReal) := by
    exact (coe_sum _ _).symm
  have hone : acc σ one n = ((∑ κ ∈ range n, p κ : ℝ) : EReal) := by
    unfold acc
    rw [← hL]
    exact sum_congr rfl fun κ _ => by rw [h1, one_mul, (hp κ).2]
  have hden : (∑ κ' : Fin N, Ideal.exp (s κ'.val - (b : EReal))) = ((∑ κ ∈ range n, p κ : ℝ) : EReal) := by
    rw [← hL, ← sumN (fun κ => (p κ : EReal)) (fun κ h => by rw [hpn κ h]; rfl)]
    exact sum_congr rfl fun κ _ => (hp κ.val).1
  rw [hone, hden, div_coe hL0]
  have hinv : (0 : EReal) ≤ (((∑ κ ∈ range n, p κ)⁻¹ : ℝ) : EReal) := by exact_mod_cast (inv_pos.mpr hL0).le
  unfold acc
  rw [mul_comm, mul_sum_of _ _ hinv (EReal.coe_ne_top _),
    sumN (fun κ => Ideal.div (Ideal.exp (s κ - (b : EReal))) ((∑ κ ∈ range n, p κ : ℝ) : EReal) * v κ) (fun κ h => by
      rw [(hp κ).1, hpn κ h, div_coe hL0, EReal.coe_zero, zero_mul, zero_mul])]
  refine sum_congr rfl fun κ _ => ?_
  rw [(hp κ).1, (hp κ).2, div_coe hL0, mul_comm (v κ), ← mul_assoc, mul_comm (((∑ κ ∈ range n, p κ)⁻¹ : ℝ) : EReal)]

end Cert.Soft

end
-- ==== Proof.Attn.Read.lean ====
module

public import proofs.«01_k».proof.Proof.Attn.Launch
public import proofs.«01_k».proof.Proof.Attn.Soft
public import Idealize.ShloMosaic.Lib.Pointwise
public import Idealize.ShloMosaic.Lib.WordCmp

@[expose] public section

/-! # The steps of the attention kernel, read at an index over the extended reals

The steps at an index first; then, by induction over the chunks, the running maximum and the running weighted sum are the
maximum and the weighted sum of all the keys taken in. -/

noncomputable section

namespace Cert.KernelIdeal.Attn

open Cert.KernelIdeal Cert.KernelIdeal.Gen
open Idealize.ShloMosaic Idealize.ShloMosaic.TcCoe
open Cert.Soft
open scoped BigOperators

/-- The named mask is minus infinity. -/
theorem maskV_eq : (maskV : Ideal .f32) = (⊥ : EReal) :=
  IdealRules.named_const.ideal_named_scalar κ "mask" (φ := .f32) 0xF149F2CA#32 ⊥ rfl

theorem negInf : Ideal.ofBits .f32 0xFF800000#32 = (⊥ : EReal) := by simp [Ideal.ofBits, Ideal.ieee]

theorem stM_at (m : Vec Ideal S1x1x512 .f32) (S : FVec Ideal S768x512 .f32) (y : Fin 512) :
    stM m (wrapC S) (ix3 0 0 y) = max (m (ix3 0 0 y)) ((Finset.univ : Finset (Fin 768)).sup fun k => S (ix2 k y)) := by
  unfold stM mx wrapC
  pointwise
  rw [negInf]
  rfl

theorem stA_at (m : Vec Ideal S1x1x512 .f32) (S : FVec Ideal S768x512 .f32) (A : Vec Ideal S1x144x512 .f32) (v : Vec Ideal S1x1x144x768 .bf16) (e : Fin 144) (y : Fin 512) :
    stA m (wrapC S) (wrapS S) A v (ix3 0 e y)
      = Ideal.exp2 (m (ix3 0 0 y) - stM m (wrapC S) (ix3 0 0 y)) * A (ix3 0 e y)
        + ∑ k : Fin 768, v (ix4 0 0 e k) * Ideal.exp2 (S (ix2 k y) - stM m (wrapC S) (ix3 0 0 y)) := by
  unfold stA stM old wrapS mx
  pointwise
  rfl

theorem stM_at' (m : Vec Ideal S1x1x512 .f32) (S : FVec Ideal S256x512 .f32) (y : Fin 512) :
    stM m (wrapC' S) (ix3 0 0 y) = max (m (ix3 0 0 y)) ((Finset.univ : Finset (Fin 256)).sup fun k => S (ix2 k y)) := by
  unfold stM mx wrapC'
  pointwise
  rw [negInf]
  rfl

theorem stA_at' (m : Vec Ideal S1x1x512 .f32) (S : FVec Ideal S256x512 .f32) (A : Vec Ideal S1x144x512 .f32) (v : Vec Ideal S1x1x144x256 .bf16) (e : Fin 144) (y : Fin 512) :
    stA' m (wrapC' S) (wrapS' S) A v (ix3 0 e y)
      = Ideal.exp2 (m (ix3 0 0 y) - stM m (wrapC' S) (ix3 0 0 y)) * A (ix3 0 e y)
        + ∑ k : Fin 256, v (ix4 0 0 e k) * Ideal.exp2 (S (ix2 k y) - stM m (wrapC' S) (ix3 0 0 y)) := by
  unfold stA' stM old wrapS' mx
  pointwise
  rfl

theorem scU_at (k : Vec Ideal S768x256 .bf16) (q : Vec Ideal S256x512 .bf16) (r : Fin 768) (y : Fin 512) :
    scU k q (ix2 r y) = ∑ d : Fin 256, k (ix2 r d) * q (ix2 d y) := by
  unfold scU
  pointwise

theorem scU_at' (k : Vec Ideal S256x256 .bf16) (q : Vec Ideal S256x512 .bf16) (r : Fin 256) (y : Fin 512) :
    scU' k q (ix2 r y) = ∑ d : Fin 256, k (ix2 r d) * q (ix2 d y) := by
  unfold scU'
  pointwise

/-- The mask as words: small numbers compare as numbers. -/
theorem kept_iff {a r b y : ℕ} (h : a + r < 2 ^ 31) (h' : b + y < 2 ^ 31) :
    IntOp.andi (IntOp.cmpi CmpIPredicate.sle (IntOp.addi (BitVec.ofNat 32 a) (BitVec.ofNat 32 r)) (IntOp.addi (BitVec.ofNat 32 b) (BitVec.ofNat 32 y)))
      (IntOp.cmpi CmpIPredicate.sge (IntOp.addi (BitVec.ofNat 32 a) (BitVec.ofNat 32 r)) 496#32) = 1#1 ↔ a + r ≤ b + y ∧ 496 ≤ a + r := by
  have ea : ∀ p q : ℕ, IntOp.addi (BitVec.ofNat 32 p) (BitVec.ofNat 32 q) = BitVec.ofNat 32 (p + q) := fun p q => (BitVec.ofNat_add p q).symm
  rw [ea, ea, WordCmp.cmpi_sle_ofNat h h', WordCmp.cmpi_sge_ofNat h (by norm_num), WordCmp.andi_ofBool, WordCmp.ofBool_eq_one_iff, Bool.and_eq_true, decide_eq_true_iff, decide_eq_true_iff]

theorem keep_iff {a b : ℕ} (r : Fin 768) (y : Fin 512) (h : a + r.val < 2 ^ 31) (h' : b + y.val < 2 ^ 31) :
    keep (BitVec.ofNat 32 a) (BitVec.ofNat 32 b) (ix2 r y) = 1#1 ↔ a + r.val ≤ b + y.val ∧ 496 ≤ a + r.val := by
  unfold keep
  pointwise
  exact kept_iff h h'

theorem keep_iff' {a b : ℕ} (r : Fin 256) (y : Fin 512) (h : a + r.val < 2 ^ 31) (h' : b + y.val < 2 ^ 31) :
    keep' (BitVec.ofNat 32 a) (BitVec.ofNat 32 b) (ix2 r y) = 1#1 ↔ a + r.val ≤ b + y.val ∧ 496 ≤ a + r.val := by
  unfold keep'
  pointwise
  exact kept_iff h h'

theorem scM_at (kb qb : BitVec 32) (k : Vec Ideal S768x256 .bf16) (q : Vec Ideal S256x512 .bf16) (r : Fin 768) (y : Fin 512) :
    scM kb qb k q (ix2 r y) = if keep kb qb (ix2 r y) = 1#1 then scU k q (ix2 r y) else (⊥ : EReal) := by
  unfold scM
  pointwise
  rw [← maskV_eq]
  rfl

theorem scM_at' (kb qb : BitVec 32) (k : Vec Ideal S256x256 .bf16) (q : Vec Ideal S256x512 .bf16) (r : Fin 256) (y : Fin 512) :
    scM' kb qb k q (ix2 r y) = if keep' kb qb (ix2 r y) = 1#1 then scU' k q (ix2 r y) else (⊥ : EReal) := by
  unfold scM'
  pointwise
  rw [← maskV_eq]
  rfl

theorem fin_at (A : Vec Ideal S1x144x512 .f32) (x : Fin 512) (e : Fin 128) :
    fin A (ix2 x e) = Ideal.div (A (ix3 0 (e.castLE (by decide)) x)) (A (ix3 0 128 x)) := by
  unfold fin k0_pay2 win
  pointwise
  have hx := x.isLt
  have he := e.isLt
  congr 2 <;> funext a <;> apply Fin.ext
  · match a with
    | ⟨0, _⟩ => rfl
    | ⟨1, _⟩ => show (0 + e.val) % 144 = e.val; omega
    | ⟨2, _⟩ => show (0 + x.val) % 512 = x.val; omega
  · match a with
    | ⟨0, _⟩ => rfl
    | ⟨1, _⟩ => rfl
    | ⟨2, _⟩ => show (0 + x.val) % 512 = x.val; omega

/-! ## All the keys taken in -/

section
variable (x2 : Vec Ideal S256x1536 .bf16) (x3 : Vec Ideal S16896x256 .bf16) (x4 : Vec Ideal S1x22x144x768 .bf16)

/-- Key `κ` against query `q` of the block. -/
def dotAt (κ q : ℕ) : EReal :=
  ∑ d : Fin 256, (x3 (ix2 ⟨κ % 16896, Nat.mod_lt _ (by decide)⟩ d) : EReal) * x2 (ix2 d ⟨q % 1536, Nat.mod_lt _ (by decide)⟩)

/-- The masked score at grid row `i`. -/
def scoreAt (i q κ : ℕ) : EReal := if κ ≤ 1536 * i + q ∧ 496 ≤ κ then dotAt x2 x3 κ q else ⊥

/-- Feature `e` of key `κ`'s value. -/
def valAt (e : Fin 144) (κ : ℕ) : EReal :=
  x4 (ix4 0 ⟨κ / 768 % 22, Nat.mod_lt _ (by decide)⟩ e ⟨κ % 768, Nat.mod_lt _ (by decide)⟩)

theorem kblk_dot (n s : ℕ) (r : Fin 768) (y : Fin 512) : scU (kblk x3 n) (qslab x2 s) (ix2 r y) = dotAt x2 x3 (768 * n + r.val) (512 * s + y.val) := by
  rw [scU_at]
  unfold dotAt
  refine Finset.sum_congr rfl fun d _ => ?_
  have hd := d.isLt
  refine congrArg₂ (fun a b : EReal => a * b) (congrArg x3 (funext fun a => Fin.ext ?_)) (congrArg x2 (funext fun a => Fin.ext ?_))
  · match a with
    | ⟨0, _⟩ => rfl
    | ⟨1, _⟩ => show (0 + d.val) % 256 = d.val; omega
  · match a with
    | ⟨0, _⟩ => show (0 + d.val) % 256 = d.val; omega
    | ⟨1, _⟩ => rfl

theorem kblk_dot' (n s : ℕ) (r : Fin 256) (y : Fin 512) : scU' (kblk' x3 n) (qslab x2 s) (ix2 r y) = dotAt x2 x3 (768 * n + r.val) (512 * s + y.val) := by
  rw [scU_at']
  unfold dotAt
  refine Finset.sum_congr rfl fun d _ => ?_
  have hd := d.isLt
  refine congrArg₂ (fun a b : EReal => a * b) (congrArg x3 (funext fun a => Fin.ext ?_)) (congrArg x2 (funext fun a => Fin.ext ?_))
  · match a with
    | ⟨0, _⟩ => rfl
    | ⟨1, _⟩ => show (0 + d.val) % 256 = d.val; omega
  · match a with
    | ⟨0, _⟩ => show (0 + d.val) % 256 = d.val; omega
    | ⟨1, _⟩ => rfl

theorem vblk_at (n : ℕ) (hn : n < 22) (e : Fin 144) (k : Fin 768) : vblk x4 n (ix4 0 0 e k) = valAt x4 e (768 * n + k.val) := by
  have he := e.isLt
  have hk := k.isLt
  unfold valAt
  refine congrArg x4 (funext fun a => Fin.ext ?_)
  match a with
  | ⟨0, _⟩ => rfl
  | ⟨1, _⟩ => show (n + 0) % 22 = (768 * n + k.val) / 768 % 22; omega
  | ⟨2, _⟩ => show (0 + e.val) % 144 = e.val; omega
  | ⟨3, _⟩ => show (0 + k.val) % 768 = (768 * n + k.val) % 768; omega

theorem vblk_at' (n : ℕ) (hn : n < 22) (e : Fin 144) (k : Fin 256) : vblk' x4 n (ix4 0 0 e k) = valAt x4 e (768 * n + k.val) := by
  have he := e.isLt
  have hk := k.isLt
  unfold valAt
  refine congrArg x4 (funext fun a => Fin.ext ?_)
  match a with
  | ⟨0, _⟩ => rfl
  | ⟨1, _⟩ => show (n + 0) % 22 = (768 * n + k.val) / 768 % 22; omega
  | ⟨2, _⟩ => show (0 + e.val) % 144 = e.val; omega
  | ⟨3, _⟩ => show (0 + k.val) % 768 = (768 * n + k.val) % 768; omega

/-- The scores of a chunk, masked or not, are the masked scores: the chunks computed without the mask are kept whole. -/
theorem Sc_at (i s n : ℕ) (hi : i < 11) (hs : s < 3) (hn : n < 22) (r : Fin 768) (y : Fin 512) :
    Sc i s x2 x3 n (ix2 r y) = scoreAt x2 x3 i (512 * s + y.val) (768 * n + r.val) := by
  have hr := r.isLt
  have hy := y.isLt
  unfold Sc scoreAt
  split
  · rw [scM_at, kblk_dot]
    refine if_congr ((keep_iff r y (by omega) (by omega)).trans ?_) rfl rfl
    omega
  · rename_i h
    rw [if_pos (by omega), kblk_dot]

theorem Sc1_at (i : ℕ) (hi : i < 11) (r : Fin 256) (y : Fin 512) :
    Sc1 i x2 x3 (ix2 r y) = scoreAt x2 x3 i (512 * 1 + y.val) (768 * (2 * i + 1) + r.val) := by
  have hr := r.isLt
  have hy := y.isLt
  unfold Sc1 scoreAt
  rw [scM_at', kblk_dot']
  refine if_congr ((keep_iff' r y (by omega) (by omega)).trans ?_) rfl rfl
  omega

theorem mN_at (i s : ℕ) (hi : i < 11) (hs : s < 3) (y : Fin 512) (n : ℕ) (hn : n ≤ 22) :
    mN i s x2 x3 n (ix3 0 0 y) = top (scoreAt x2 x3 i (512 * s + y.val)) (768 * n) := by
  induction n with
  | zero => exact maskV_eq
  | succ n ih =>
    show stM (mN i s x2 x3 n) (wrapC (Sc i s x2 x3 n)) (ix3 0 0 y) = _
    rw [stM_at, ih (by omega), Nat.mul_succ, ← top_add]
    refine congrArg _ (Finset.sup_congr rfl fun k _ => ?_)
    exact Sc_at x2 x3 i s n hi hs (by omega) k y

theorem zero32 : (Scalar.ofBits .f32 0x00000000#32 : Ideal .f32) = (0 : EReal) := Ideal.ofBits_zero_f32

theorem aN_at (i s : ℕ) (hi : i < 11) (hs : s < 3) (e : Fin 144) (y : Fin 512)
    (hσ : ∀ κ, scoreAt x2 x3 i (512 * s + y.val) κ ≠ ⊤) (n : ℕ) (hn : n ≤ 22) :
    aN i s x2 x3 x4 n (ix3 0 e y) = acc (scoreAt x2 x3 i (512 * s + y.val)) (valAt x4 e) (768 * n) := by
  induction n with
  | zero => exact zero32
  | succ n ih =>
    have hm := mN_at x2 x3 i s hi hs y (n + 1) hn
    show stA (mN i s x2 x3 n) (wrapC (Sc i s x2 x3 n)) (wrapS (Sc i s x2 x3 n)) (aN i s x2 x3 x4 n) (vblk x4 n) (ix3 0 e y) = _
    rw [stA_at, show stM (mN i s x2 x3 n) (wrapC (Sc i s x2 x3 n)) (ix3 0 0 y) = _ from hm, ih (by omega), mN_at x2 x3 i s hi hs y n (by omega),
      Nat.mul_succ, ← acc_add hσ]
    refine congrArg _ (Finset.sum_congr rfl fun k _ => ?_)
    rw [vblk_at x4 n (by omega), Sc_at x2 x3 i s n hi hs (by omega)]

theorem sum1_at (i : ℕ) (hi : i < 11) (e : Fin 144) (y : Fin 512) (hσ : ∀ κ, scoreAt x2 x3 i (512 * 1 + y.val) κ ≠ ⊤) :
    sum1 i x2 x3 x4 (ix3 0 e y) = acc (scoreAt x2 x3 i (512 * 1 + y.val)) (valAt x4 e) (768 * (2 * i + 1) + 256) := by
  have hm : stM (mN i 1 x2 x3 (2 * i + 1)) (wrapC' (Sc1 i x2 x3)) (ix3 0 0 y) = top (scoreAt x2 x3 i (512 * 1 + y.val)) (768 * (2 * i + 1) + 256) := by
    rw [stM_at', mN_at x2 x3 i 1 hi (by omega) y _ (by omega), ← top_add]
    refine congrArg _ (Finset.sup_congr rfl fun k _ => ?_)
    exact Sc1_at x2 x3 i hi k y
  unfold sum1
  rw [stA_at', hm, aN_at x2 x3 x4 i 1 hi (by omega) e y hσ _ (by omega), mN_at x2 x3 i 1 hi (by omega) y _ (by omega), ← acc_add hσ]
  refine congrArg _ (Finset.sum_congr rfl fun k _ => ?_)
  rw [vblk_at' x4 _ (by omega), Sc1_at x2 x3 i hi]

/-- The keys slab `s` of grid row `i` has taken in when it is divided. -/
def taken (i : ℕ) : ℕ → ℕ
  | 0 => 768 * (2 * i + 1)
  | 1 => 768 * (2 * i + 1) + 256
  | _ => 768 * (2 * i + 1 + 1)

theorem sumS_at (i s : ℕ) (hi : i < 11) (hs : s < 3) (e : Fin 144) (y : Fin 512) (hσ : ∀ κ, scoreAt x2 x3 i (512 * s + y.val) κ ≠ ⊤) :
    sumS x2 x3 x4 i s (ix3 0 e y) = acc (scoreAt x2 x3 i (512 * s + y.val)) (valAt x4 e) (taken i s) := by
  obtain rfl | rfl | rfl : s = 0 ∨ s = 1 ∨ s = 2 := by omega
  · exact aN_at x2 x3 x4 i 0 hi (by omega) e y hσ _ (by omega)
  · exact sum1_at x2 x3 x4 i hi e y hσ
  · exact aN_at x2 x3 x4 i 2 hi (by omega) e y hσ _ (by omega)

/-- Feature `e` of query `q` in the output block: the quotient of two weighted sums over the keys taken in. -/
theorem outBlk_at (i : ℕ) (hi : i < 11) (q : Fin 1536) (e : Fin 128) (hσ : ∀ κ, scoreAt x2 x3 i q.val κ ≠ ⊤) :
    outBlk x2 x3 x4 i (ix2 q e) = Ideal.div (acc (scoreAt x2 x3 i q.val) (valAt x4 (e.castLE (by decide))) (taken i (q.val / 512)))
      (acc (scoreAt x2 x3 i q.val) (valAt x4 128) (taken i (q.val / 512))) := by
  have hq := q.isLt
  have h : 512 * (q.val / 512) + q.val % 512 = q.val := by omega
  have hσ' : ∀ κ, scoreAt x2 x3 i (512 * (q.val / 512) + (⟨q.val % 512, Nat.mod_lt _ (by decide)⟩ : Fin 512).val) κ ≠ ⊤ := by
    show ∀ κ, scoreAt x2 x3 i (512 * (q.val / 512) + q.val % 512) κ ≠ ⊤
    rw [h]; exact hσ
  have key := fun e => sumS_at x2 x3 x4 i (q.val / 512) hi (by omega) e ⟨q.val % 512, Nat.mod_lt _ (by decide)⟩ hσ'
  unfold outBlk
  have r := fin_at (sumS x2 x3 x4 i (q.val / 512)) ⟨q.val % 512, Nat.mod_lt _ (by decide)⟩ e
  rw [key, key] at r
  simp only [h] at r
  refine Eq.trans (congrArg _ (funext fun a => ?_)) r
  match a with
  | ⟨0, _⟩ => rfl
  | ⟨1, _⟩ => rfl

end

end Cert.KernelIdeal.Attn

end
-- ==== Proof.Attn.Array.lean ====
module

public import proofs.«01_k».proof.Proof.Attn.Read
public import Idealize.ShloMosaic.Lib.StableHlo.Run
public import Idealize.ShloMosaic.Lib.Pipeline.Covers
public import Idealize.ShloMosaic.Lib.Pipeline.ReadBack
public import Idealize.ShloMosaic.Lib.Pipeline.ValueKit

@[expose] public section

/-! # The array the attention call leaves

The host scales the queries and joins rows of ones to the values; a block of each is a part of its array; the output array
at a row and a feature is the quotient of two weighted sums over the keys taken in. -/

noncomputable section

namespace Cert.KernelIdeal.Attn

open Cert.KernelIdeal Cert.KernelIdeal.Gen
open Idealize.ShloMosaic Idealize.ShloMosaic.TcCoe Idealize.SL.Sem
open Idealize.ShloMosaic.Pipeline (Dat)
open Cert.Soft
open scoped BigOperators

variable (m : (ℓ : Loc nD τ sig) → Buf (Elt Ideal) ℓ)

/-! ## The host's two arrays -/

/-- The factor of the queries: one over the root of 192 and the logarithm of two. -/
def factor : ℝ := 1 / (Real.sqrt 192 * Real.log 2)

theorem host_factor : Ideal.div (Ideal.ofBits .f32 0x3F800000#32)
    (Ideal.sqrt (Ideal.ofBits .f32 0x43400000#32) * Ideal.log (Ideal.ofBits .f32 0x40000000#32)) = (factor : EReal) := by
  have e1 : Ideal.ofBits .f32 0x3F800000#32 = ((1 : ℝ) : EReal) := by simp [Ideal.ofBits, Ideal.ieee, -EReal.coe_mul]; norm_num
  have e2 : Ideal.ofBits .f32 0x43400000#32 = ((192 : ℝ) : EReal) := by simp [Ideal.ofBits, Ideal.ieee, -EReal.coe_mul]; norm_num
  have e3 : Ideal.ofBits .f32 0x40000000#32 = ((2 : ℝ) : EReal) := by simp [Ideal.ofBits, Ideal.ieee, -EReal.coe_mul]; norm_num
  have s : Ideal.sqrt ((192 : ℝ) : EReal) = ((Real.sqrt 192 : ℝ) : EReal) := by
    show (if (192 : ℝ) < 0 then (⊥ : EReal) else ((Real.sqrt 192 : ℝ) : EReal)) = _
    rw [if_neg (by norm_num)]
  have l : Ideal.log ((2 : ℝ) : EReal) = ((Real.log 2 : ℝ) : EReal) := by
    show (if (2 : ℝ) ≤ 0 then (⊥ : EReal) else ((Real.log 2 : ℝ) : EReal)) = _
    rw [if_neg (by norm_num)]
  rw [e1, e2, e3, s, l, ← EReal.coe_mul, div_coe (mul_pos (Real.sqrt_pos.mpr (by norm_num)) (Real.log_pos (by norm_num))), ← EReal.coe_mul]
  unfold factor
  rw [one_mul, one_div]

/-- The queries as the call gets them: scaled. -/
def scaled (q : S4096x16896.Idx → EReal) : S4096x16896.Idx → EReal := fun i => q i * (factor : EReal)

theorem scaled_eq (q : S4096x16896.Idx → EReal) :
    (truncf .bf16 (mulf (q : FVec Ideal S4096x16896 .f32) (broadcastInDim S4096x16896 ![] bcast_S_S4096x16896
      (Host.divf (constant S_ .f32 0x3F800000#32) (mulf (Host.sqrt (constant S_ .f32 0x43400000#32)) (Host.log (constant S_ .f32 0x40000000#32)))))) bitsLt_bf16_f32
        : FVec Ideal S4096x16896 .bf16) = scaled q := by
  funext i
  unfold scaled
  rw [← host_factor]
  pointwise

theorem V_queries (c : Dev nD) : V m c main_v6 = scaled (m ((c : Thread nD τ).loc main_arg0)) := by
  rw [← scaled_eq]
  unfold V
  after_results_simp <;> rfl

/-- The values as the call gets them: the argument's, then rows of ones. -/
def joined (v : S16x22x128x768.Idx → EReal) : S16x22x144x768.Idx → EReal :=
  (concatenate S16x22x144x768 2 [⟨S16x22x128x768, (v : FVec Ideal S16x22x128x768 .bf16)⟩,
      ⟨S16x22x16x768, (broadcastInDim S16x22x16x768 ![] bcast_S_S16x22x16x768 (constant S_ .bf16 0x3F80#16) : FVec Ideal S16x22x16x768 .bf16)⟩]
    concatenates_S16x22x128x768_S16x22x16x768_S16x22x144x768_d2 : FVec Ideal S16x22x144x768 .bf16)

theorem V_values (c : Dev nD) : V m c main_v8 = joined (m ((c : Thread nD τ).loc main_arg2)) := by
  unfold V joined
  after_results_simp <;> rfl

theorem joined_value (v : S16x22x128x768.Idx → EReal) (h : Fin 16) (n : Fin 22) (e : Fin 128) (k : Fin 768) :
    joined v (ix4 h n (e.castLE (by decide) : Fin 144) k) = v (ix4 h n e k) := by
  unfold joined
  pointwise
  exact dif_pos e.isLt

theorem joined_one (v : S16x22x128x768.Idx → EReal) (h : Fin 16) (n : Fin 22) (k : Fin 768) : joined v (ix4 h n (128 : Fin 144) k) = 1 := by
  unfold joined
  pointwise

/-! ## The blocks -/

theorem index_eq : ∀ t : Fin cfg0.N,
    win0_0.index t 0 = (grid0.coords t 0).val ∧ win0_0.index t 1 = (grid0.coords t 1).val
    ∧ win0_1.index t 0 = 0 ∧ win0_1.index t 1 = (grid0.coords t 0).val
    ∧ win0_2.index t 0 = (grid0.coords t 0).val ∧ win0_2.index t 1 = 0 ∧ win0_2.index t 2 = 0 ∧ win0_2.index t 3 = 0
    ∧ win0_3.index t 0 = (grid0.coords t 1).val ∧ win0_3.index t 1 = (grid0.coords t 0).val := by
  decide +kernel

theorem blk0 (c : Dev nD) (t : Fin cfg0.N) (x : S256x1536.Idx) (i : S4096x16896.Idx)
    (h0 : (i 0).val = 256 * (grid0.coords t 0).val + (x 0).val) (h1 : (i 1).val = 1536 * (grid0.coords t 1).val + (x 1).val) :
    iblk m c 0 t x = V m c main_v6 i := by
  unfold iblk
  rw [View.read_apply]
  show V m c main_v6 _ = V m c main_v6 _
  congr 1
  funext a
  apply Fin.ext
  match a with
  | ⟨0, _⟩ => show win0_0.index t 0 * 256 + 1 * (x 0).val = (i 0).val; rw [(index_eq t).1]; omega
  | ⟨1, _⟩ => show win0_0.index t 1 * 1536 + 1 * (x 1).val = (i 1).val; rw [(index_eq t).2.1]; omega

theorem blk1 (c : Dev nD) (t : Fin cfg0.N) (x : S16896x256.Idx) (i : S16896x4096.Idx)
    (h0 : (i 0).val = (x 0).val) (h1 : (i 1).val = 256 * (grid0.coords t 0).val + (x 1).val) :
    iblk m c 1 t x = m ((c : Thread nD τ).loc main_arg1) i := by
  rw [← V_main_arg1 m c]
  unfold iblk
  rw [View.read_apply]
  show V m c main_arg1 _ = V m c main_arg1 _
  congr 1
  funext a
  apply Fin.ext
  match a with
  | ⟨0, _⟩ => show win0_1.index t 0 * 16896 + 1 * (x 0).val = (i 0).val; rw [(index_eq t).2.2.1]; omega
  | ⟨1, _⟩ => show win0_1.index t 1 * 256 + 1 * (x 1).val = (i 1).val; rw [(index_eq t).2.2.2.1]; omega

theorem blk2 (c : Dev nD) (t : Fin cfg0.N) (x : S1x22x144x768.Idx) (i : S16x22x144x768.Idx)
    (h0 : (i 0).val = (grid0.coords t 0).val) (h1 : (i 1).val = (x 1).val) (h2 : (i 2).val = (x 2).val) (h3 : (i 3).val = (x 3).val) :
    iblk m c 2 t x = V m c main_v8 i := by
  unfold iblk
  rw [View.read_apply]
  show V m c main_v8 _ = V m c main_v8 _
  congr 1
  funext a
  apply Fin.ext
  have hx : (x 0).val < 1 := (x 0).isLt
  match a with
  | ⟨0, _⟩ => show win0_2.index t 0 * 1 + 1 * (x 0).val = (i 0).val; rw [(index_eq t).2.2.2.2.1]; omega
  | ⟨1, _⟩ => show win0_2.index t 1 * 22 + 1 * (x 1).val = (i 1).val; rw [(index_eq t).2.2.2.2.2.1]; omega
  | ⟨2, _⟩ => show win0_2.index t 2 * 144 + 1 * (x 2).val = (i 2).val; rw [(index_eq t).2.2.2.2.2.2.1]; omega
  | ⟨3, _⟩ => show win0_2.index t 3 * 768 + 1 * (x 3).val = (i 3).val; rw [(index_eq t).2.2.2.2.2.2.2.1]; omega

theorem emb3 (t : Fin cfg0.N) (y : S1536x128.Idx) :
    ((((View.whole main_v9).slice (win0_3.rect t)).emb y) 0).val = 1536 * (grid0.coords t 1).val + (y 0).val
    ∧ ((((View.whole main_v9).slice (win0_3.rect t)).emb y) 1).val = 128 * (grid0.coords t 0).val + (y 1).val := by
  constructor
  · show win0_3.index t 0 * 1536 + 1 * (y 0).val = _
    rw [(index_eq t).2.2.2.2.2.2.2.2.1]; omega
  · show win0_3.index t 1 * 128 + 1 * (y 1).val = _
    rw [(index_eq t).2.2.2.2.2.2.2.2.2]; omega

/-! ## The output array -/

section
variable (Q : S4096x16896.Idx → EReal) (K : S16896x4096.Idx → EReal) (W : S16x22x144x768.Idx → EReal)

/-- Key `κ` against query `q` in head `h`. -/
def headDot (h : Fin 16) (q : Fin 16896) (κ : ℕ) : EReal :=
  ∑ d : Fin 256, K (ix2 ⟨κ % 16896, Nat.mod_lt _ (by decide)⟩ (⟨256 * h.val + d.val, by omega⟩ : Fin 4096)) * Q (ix2 (⟨256 * h.val + d.val, by omega⟩ : Fin 4096) q)

/-- The masked score. -/
def headScore (h : Fin 16) (q : Fin 16896) (κ : ℕ) : EReal := if κ ≤ q.val ∧ 496 ≤ κ then headDot Q K h q κ else ⊥

/-- Feature `e` of key `κ`'s value in head `h`. -/
def headVal (h : Fin 16) (e : Fin 144) (κ : ℕ) : EReal :=
  W (ix4 h ⟨κ / 768 % 22, Nat.mod_lt _ (by decide)⟩ e ⟨κ % 768, Nat.mod_lt _ (by decide)⟩)

/-- The keys taken in for query `q`. -/
def takenRow (q : ℕ) : ℕ := taken (q / 1536) (q % 1536 / 512)

/-- Query `q`'s attention in head `h`, feature `e`. -/
def headOut (h : Fin 16) (q : Fin 16896) (e : Fin 128) : EReal :=
  Ideal.div (acc (headScore Q K h q) (headVal W h (e.castLE (by decide))) (takenRow q.val)) (acc (headScore Q K h q) (headVal W h 128) (takenRow q.val))

/-- The output array. -/
def attended : S16896x2048.Idx → EReal := fun i =>
  headOut Q K W ⟨(i 1).val / 128, by have : (i 1).val < 2048 := (i 1).isLt; omega⟩ (i 0) ⟨(i 1).val % 128, Nat.mod_lt _ (by decide)⟩

theorem attended_at (h : Fin 16) (q : Fin 16896) (e : Fin 128) (i : S16896x2048.Idx) (h0 : (i 0).val = q.val) (h1 : (i 1).val = 128 * h.val + e.val) :
    attended Q K W i = headOut Q K W h q e := by
  unfold attended
  have he := e.isLt
  congr 1
  · exact Fin.ext (by show (i 1).val / 128 = h.val; omega)
  · exact Fin.ext h0
  · exact Fin.ext (by show (i 1).val % 128 = e.val; omega)

end

/-- The head and the grid row of a grid point. -/
def headOf (t : Fin cfg0.N) : Fin 16 := ⟨(grid0.coords t 0).val, (grid0.coords t 0).isLt⟩
def rowOf (t : Fin cfg0.N) (q : Fin 1536) : Fin 16896 :=
  ⟨1536 * (grid0.coords t 1).val + q.val, by have : (grid0.coords t 1).val < 11 := (grid0.coords t 1).isLt; omega⟩

theorem score_block (c : Dev nD) (t : Fin cfg0.N) (x2 : S256x1536.Idx → EReal) (x3 : S16896x256.Idx → EReal) (h2 : x2 = iblk m c 0 t) (h3 : x3 = iblk m c 1 t) (q : Fin 1536) :
    scoreAt x2 x3 (grid0.coords t 1).val q.val
      = headScore (scaled (m ((c : Thread nD τ).loc main_arg0))) (m ((c : Thread nD τ).loc main_arg1)) (headOf t) (rowOf t q) := by
  subst h2 h3
  funext κ
  unfold scoreAt headScore
  refine if_congr Iff.rfl ?_ rfl
  unfold dotAt headDot
  refine Finset.sum_congr rfl fun d _ => ?_
  have hq := q.isLt
  rw [blk1 m c t (ix2 ⟨κ % 16896, Nat.mod_lt _ (by decide)⟩ d) (ix2 ⟨κ % 16896, Nat.mod_lt _ (by decide)⟩ (⟨256 * (headOf t).val + d.val, by omega⟩ : Fin 4096)) rfl rfl,
    blk0 m c t (ix2 d ⟨q.val % 1536, Nat.mod_lt _ (by decide)⟩) (ix2 (⟨256 * (headOf t).val + d.val, by omega⟩ : Fin 4096) (rowOf t q)) rfl
      (by show 1536 * (grid0.coords t 1).val + q.val = 1536 * (grid0.coords t 1).val + q.val % 1536; omega), V_queries]

theorem val_block (c : Dev nD) (t : Fin cfg0.N) (x4 : S1x22x144x768.Idx → EReal) (h4 : x4 = iblk m c 2 t) (e : Fin 144) :
    valAt x4 e = headVal (joined (m ((c : Thread nD τ).loc main_arg2))) (headOf t) e := by
  subst h4
  funext κ
  unfold valAt headVal
  rw [blk2 m c t (ix4 0 ⟨κ / 768 % 22, Nat.mod_lt _ (by decide)⟩ e ⟨κ % 768, Nat.mod_lt _ (by decide)⟩)
    (ix4 (headOf t) ⟨κ / 768 % 22, Nat.mod_lt _ (by decide)⟩ e ⟨κ % 768, Nat.mod_lt _ (by decide)⟩) rfl rfl rfl rfl, V_values]

/-- No score is plus infinity. -/
def Scored (Q : S4096x16896.Idx → EReal) (K : S16896x4096.Idx → EReal) : Prop := ∀ h q κ, headScore Q K h q κ ≠ ⊤

theorem piece (c : Dev nD) (t : Fin cfg0.N) (hσ : Scored (scaled (m ((c : Thread nD τ).loc main_arg0))) (m ((c : Thread nD τ).loc main_arg1)))
    (y : S1536x128.Idx) (i : S16896x2048.Idx)
    (h0 : (i 0).val = 1536 * (grid0.coords t 1).val + (y 0).val) (h1 : (i 1).val = 128 * (grid0.coords t 0).val + (y 1).val) :
    outBlk (iblk m c 0 t) (iblk m c 1 t) (iblk m c 2 t) (grid0.coords t 1).val y
      = attended (scaled (m ((c : Thread nD τ).loc main_arg0))) (m ((c : Thread nD τ).loc main_arg1)) (joined (m ((c : Thread nD τ).loc main_arg2))) i := by
  have hi : (grid0.coords t 1).val < 11 := (grid0.coords t 1).isLt
  obtain ⟨q, e, rfl⟩ : ∃ (q : Fin 1536) (e : Fin 128), y = ix2 q e := ⟨y 0, y 1, by funext a; match a with | ⟨0, _⟩ => rfl | ⟨1, _⟩ => rfl⟩
  have hq : q.val < 1536 := q.isLt
  have hs := score_block m c t _ _ rfl rfl q
  rw [attended_at _ _ _ (headOf t) (rowOf t q) e i h0 h1]
  refine (outBlk_at _ _ _ _ hi q e fun κ => by rw [hs]; exact hσ _ _ _).trans ?_
  rw [hs, val_block m c t _ rfl, val_block m c t _ rfl]
  unfold headOut
  have hr : takenRow (rowOf t q).val = taken (grid0.coords t 1).val (q.val / 512) := by
    show taken ((1536 * (grid0.coords t 1).val + q.val) / 1536) ((1536 * (grid0.coords t 1).val + q.val) % 1536 / 512) = _
    rw [show (1536 * (grid0.coords t 1).val + q.val) / 1536 = (grid0.coords t 1).val by omega, show (1536 * (grid0.coords t 1).val + q.val) % 1536 = q.val by omega]
  rw [hr]

theorem out3 (c : Dev nD) (hσ : Scored (scaled (m ((c : Thread nD τ).loc main_arg0))) (m ((c : Thread nD τ).loc main_arg1))) :
    (dats m 0 c).arrAt 3 cfg0.N
      = attended (scaled (m ((c : Thread nD τ).loc main_arg0))) (m ((c : Thread nD τ).loc main_arg1)) (joined (m ((c : Thread nD τ).loc main_arg2))) := by
  refine (dats m 0 c).arrAt_eq_of_covers 3 _ (by decide +kernel) fun t hf y => ?_
  blk_simp
  rw [after0_3]
  have e := emb3 t y
  exact piece m c t hσ y _ e.1 e.2

/-- The run: the output array holds the attention, the arguments are unchanged. -/
theorem run_value (ρ : Dev nD → PrngReg) (hσ : ∀ c : Dev nD, Scored (scaled (m ((c : Thread nD τ).loc main_arg0))) (m ((c : Thread nD τ).loc main_arg1))) :
    θ_run defs (onTc (τ := τ) (main (F := Ideal))) ⟨m, fun _ => 0, ρ⟩ fun r => ∀ c : Dev nD,
      r.2.mem ((c : Thread nD τ).loc main_v9)
          = attended (scaled (m ((c : Thread nD τ).loc main_arg0))) (m ((c : Thread nD τ).loc main_arg1)) (joined (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).1 3).trans (out3 m c (hσ c)), h.2.1 c⟩) (θ_run_and (run_main m ρ) (frame m ρ))

end Cert.KernelIdeal.Attn

end
-- ==== Proof.Attn.Ref.lean ====
module

public import proofs.«01_k».proof.Proof.Gen.ReferenceIdeal.Run
public import proofs.«01_k».proof.Proof.Attn.Soft
public import Idealize.ShloMosaic.Lib.Pointwise
public import Idealize.ShloMosaic.Lib.WordCmp

@[expose] public section

/-! # The reference's attention, read at an index over the extended reals -/

noncomputable section

namespace Cert.ReferenceIdeal.Attn

open Cert.ReferenceIdeal Cert.ReferenceIdeal.Gen
open Idealize.ShloMosaic Idealize.ShloMosaic.TcCoe
open Cert.Soft
open scoped BigOperators

/-- The masked scores. -/
def sel (q : S4096x16896.Idx → EReal) (k : S16896x4096.Idx → EReal) : FVec Ideal S16x16896x16896 .f32 :=
  select (broadcastInDim S16x16896x16896 ![1, 2] bcast_S16896x16896_S16x16896x16896_1_2 (andi (cmpi .sle (broadcastInDim S16896x16896 ![0, 1] bcast_S1x16896_S16896x16896_0_1 (broadcastInDim S1x16896 ![1] bcast_S16896_S1x16896_1 (iotaInDim S16896 32 0))) (broadcastInDim S16896x16896 ![0, 1] bcast_S16896x1_S16896x16896_0_1 (broadcastInDim S16896x1 ![0] bcast_S16896_S16896x1_0 (iotaInDim S16896 32 0)))) (broadcastInDim S16896x16896 ![0, 1] bcast_S1x16896_S16896x16896_0_1 (broadcastInDim S1x16896 ![1] bcast_S16896_S1x16896_1 (cmpi .sge (iotaInDim S16896 32 0) (broadcastInDim S16896 ![] bcast_S_S16896 (constantI S_ 32 496#32)))))))
    (Host.divf (Host.dotGeneral dot_S16x256x16896_S16896x16x256_S16x16896x16896_1_2_2_0_0_1 none (shapeCast S16x256x16896 (q : FVec Ideal S4096x16896 .f32) shapeCasts_S4096x16896_S16x256x16896 : FVec Ideal S16x256x16896 .f32) (shapeCast S16896x16x256 (extf .f32 (k : FVec Ideal S16896x4096 .bf16) bitsLt_bf16_f32 : FVec Ideal S16896x4096 .f32) shapeCasts_S16896x4096_S16896x16x256 : FVec Ideal S16896x16x256 .f32)) (broadcastInDim S16x16896x16896 ![] bcast_S_S16x16896x16896 (Host.sqrt (constant S_ .f32 0x43400000#32))))
    (broadcastInDim S16x16896x16896 ![] bcast_S_S16x16896x16896 (id (constant S_ .f32 0xFF800000#32)))

/-- Their exponentials relative to each query's maximum. -/
def wts (s : FVec Ideal S16x16896x16896 .f32) : FVec Ideal S16x16896x16896 .f32 :=
  Host.exp (subf s (broadcastInDim S16x16896x16896 ![0, 1, 2] bcast_S16x16896x1_S16x16896x16896_0_1_2 (broadcastInDim S16x16896x1 ![0, 1] bcast_S16x16896_S16x16896x1_0_1 (maximumf (broadcastInDim S16x16896 ![] bcast_S_S16x16896 (constant S_ .f32 0xFF800000#32)) (Host.reduce FloatOps.maximumf s (constant S_ .f32 0xFF800000#32) reducesTo_S16x16896x16896_S16x16896_d2 h_S_)))))

/-- The weights, divided by their sums, against the values. -/
def mixed (w : FVec Ideal S16x16896x16896 .f32) (v : S16x22x128x768.Idx → EReal) : FVec Ideal S16896x2048 .bf16 :=
  truncf .bf16 (shapeCast _ (transpose S16896x16x128 [1, 0, 2] (Host.dotGeneral dot_S16x16896x16896_S16x16896x128_S16x16896x128_2_1_1_2_0_0 none
    (Host.divf w (broadcastInDim S16x16896x16896 ![0, 1, 2] bcast_S16x16896x1_S16x16896x16896_0_1_2 (broadcastInDim S16x16896x1 ![0, 1] bcast_S16x16896_S16x16896x1_0_1 (Host.reduceAdd w (constant S_ .f32 0x00000000#32) reducesTo_S16x16896x16896_S16x16896_d2 h_S_))))
    (shapeCast _ (transpose S16x22x768x128 [0, 1, 3, 2] (extf .f32 (v : FVec Ideal S16x22x128x768 .bf16) bitsLt_bf16_f32) transposes_S16x22x128x768_S16x22x768x128_0_1_3_2) shapeCasts_S16x22x768x128_S16x16896x128)) transposes_S16x16896x128_S16896x16x128_1_0_2) shapeCasts_S16896x16x128_S16896x2048) bitsLt_bf16_f32

theorem res_eq (m : (ℓ : Loc nD τ sig) → Buf (Elt Ideal) ℓ) (c : Dev nD) : Value.res_main_v36 m c
    = mixed (wts (sel (m ((c.tc : Thread nD τ).loc main_arg0)) (m ((c.tc : Thread nD τ).loc main_arg1)))) (m ((c.tc : Thread nD τ).loc main_arg2)) := rfl

theorem negInf : Ideal.ofBits .f32 0xFF800000#32 = (⊥ : EReal) := by simp [Ideal.ofBits, Ideal.ieee]

theorem root : Ideal.sqrt (Ideal.ofBits .f32 0x43400000#32) = ((Real.sqrt 192 : ℝ) : EReal) := by
  have e : Ideal.ofBits .f32 0x43400000#32 = ((192 : ℝ) : EReal) := by simp [Ideal.ofBits, Ideal.ieee, -EReal.coe_mul]; norm_num
  rw [e]
  show (if (192 : ℝ) < 0 then (⊥ : EReal) else ((Real.sqrt 192 : ℝ) : EReal)) = _
  rw [if_neg (by norm_num)]

/-- The mask as words: positions compare as numbers. -/
theorem kept_iff {a b : ℕ} (h : a < 2 ^ 31) (h' : b < 2 ^ 31) :
    IntOp.andi (IntOp.cmpi CmpIPredicate.sle (BitVec.ofNat 32 a) (BitVec.ofNat 32 b)) (IntOp.cmpi CmpIPredicate.sge (BitVec.ofNat 32 a) 496#32) = 1#1
      ↔ a ≤ b ∧ 496 ≤ a := by
  rw [WordCmp.cmpi_sle_ofNat h h', WordCmp.cmpi_sge_ofNat h (by norm_num), WordCmp.andi_ofBool, WordCmp.ofBool_eq_one_iff, Bool.and_eq_true, decide_eq_true_iff,
    decide_eq_true_iff]

/-- The masked score of key `κ` for query `x` in head `h`. -/
def score (q : S4096x16896.Idx → EReal) (k : S16896x4096.Idx → EReal) (h : Fin 16) (x κ : Fin 16896) : EReal :=
  if κ.val ≤ x.val ∧ 496 ≤ κ.val then
    Ideal.div (∑ d : Fin 256, q (ix2 (⟨256 * h.val + d.val, by omega⟩ : Fin 4096) x) * k (ix2 κ (⟨256 * h.val + d.val, by omega⟩ : Fin 4096))) (Real.sqrt 192 : ℝ)
  else ⊥

theorem sel_at (q : S4096x16896.Idx → EReal) (k : S16896x4096.Idx → EReal) (h : Fin 16) (x κ : Fin 16896) :
    sel q k (ix3 h x κ) = score q k h x κ := by
  have hx := x.isLt
  have hκ := κ.isLt
  unfold sel score
  pointwise
  rw [root, show (id (constant S_ .f32 0xFF800000#32) ix0 : Ideal .f32) = (⊥ : EReal) from negInf]
  refine if_congr (kept_iff (by omega) (by omega)) ?_ rfl
  refine congrArg (fun y => Ideal.div y _) (Finset.sum_congr rfl fun d _ => ?_)
  have e : (⟨h.val * 256 + d.val, by omega⟩ : Fin 4096) = ⟨256 * h.val + d.val, by omega⟩ := Fin.ext (by show h.val * 256 + d.val = 256 * h.val + d.val; omega)
  exact congrArg (fun z : Fin 4096 => q (ix2 z x) * k (ix2 κ z)) e

theorem red_at (s : FVec Ideal S16x16896x16896 .f32) (h : Fin 16) (x : Fin 16896) :
    Host.reduce FloatOps.maximumf s (constant S_ .f32 0xFF800000#32) reducesTo_S16x16896x16896_S16x16896_d2 h_S_ (ix2 h x) = (Finset.univ : Finset (Fin 16896)).sup fun k => s (ix3 h x k) := by
  pointwise
  rw [negInf]
  unfold Finset.sup
  rfl

/-- The weights, for any row of maxima. -/
theorem wts_of (s : FVec Ideal S16x16896x16896 .f32) (r : FVec Ideal S16x16896 .f32) (h : Fin 16) (x κ : Fin 16896) :
    (Host.exp (subf s (broadcastInDim S16x16896x16896 ![0, 1, 2] bcast_S16x16896x1_S16x16896x16896_0_1_2 (broadcastInDim S16x16896x1 ![0, 1] bcast_S16x16896_S16x16896x1_0_1 (maximumf (broadcastInDim S16x16896 ![] bcast_S_S16x16896 (constant S_ .f32 0xFF800000#32)) r)))) : FVec Ideal S16x16896x16896 .f32) (ix3 h x κ)
      = Ideal.exp (s (ix3 h x κ) - max (Ideal.ofBits .f32 0xFF800000#32) (r (ix2 h x))) := by
  pointwise

theorem wts_at (s : FVec Ideal S16x16896x16896 .f32) (h : Fin 16) (x κ : Fin 16896) :
    wts s (ix3 h x κ) = Ideal.exp (s (ix3 h x κ) - (Finset.univ : Finset (Fin 16896)).sup fun k => s (ix3 h x k)) := by
  unfold wts
  rw [wts_of, red_at, negInf, max_eq_right bot_le]

theorem mixed_at (w : FVec Ideal S16x16896x16896 .f32) (v : S16x22x128x768.Idx → EReal) (h : Fin 16) (x : Fin 16896) (e : Fin 128) (i : S16896x2048.Idx)
    (h0 : (i 0).val = x.val) (h1 : (i 1).val = 128 * h.val + e.val) :
    mixed w v i = ∑ κ : Fin 16896, Ideal.div (w (ix3 h x κ)) (∑ κ' : Fin 16896, w (ix3 h x κ')) *
      v (ix4 h ⟨κ.val / 768 % 22, Nat.mod_lt _ (by decide)⟩ e ⟨κ.val % 768, Nat.mod_lt _ (by decide)⟩) := by
  have he := e.isLt
  have hi : (i 1).val < 2048 := (i 1).isLt
  have eh : (⟨(i 1).val / 128, by omega⟩ : Fin 16) = h := Fin.ext (by show (i 1).val / 128 = h.val; omega)
  have ee : (⟨(i 1).val % 128, by omega⟩ : Fin 128) = e := Fin.ext (by show (i 1).val % 128 = e.val; omega)
  have ex : (i 0 : Fin 16896) = x := Fin.ext h0
  unfold mixed
  pointwise
  refine Finset.sum_congr rfl fun κ _ => ?_
  have hκ := κ.isLt
  have ek : (⟨κ.val / 768, by omega⟩ : Fin 22) = ⟨κ.val / 768 % 22, Nat.mod_lt _ (by decide)⟩ := Fin.ext (by show κ.val / 768 = κ.val / 768 % 22; omega)
  rw [eh, ee, ex, ek]

/-- The reference's result at query `x` of head `h`, feature `e`: softmax of the masked scores against the values. -/
theorem result_at (m : (ℓ : Loc nD τ sig) → Buf (Elt Ideal) ℓ) (c : Dev nD) (h : Fin 16) (x : Fin 16896) (e : Fin 128) (i : S16896x2048.Idx)
    (q : S4096x16896.Idx → EReal) (k : S16896x4096.Idx → EReal) (v : S16x22x128x768.Idx → EReal)
    (hq : m ((c.tc : Thread nD τ).loc main_arg0) = q) (hk : m ((c.tc : Thread nD τ).loc main_arg1) = k) (hv : m ((c.tc : Thread nD τ).loc main_arg2) = v)
    (h0 : (i 0).val = x.val) (h1 : (i 1).val = 128 * h.val + e.val) :
    Value.res_main_v36 m c i = ∑ κ : Fin 16896, Ideal.div (Ideal.exp (score q k h x κ - (Finset.univ : Finset (Fin 16896)).sup fun z => score q k h x z))
        (∑ κ' : Fin 16896, Ideal.exp (score q k h x κ' - (Finset.univ : Finset (Fin 16896)).sup fun z => score q k h x z)) *
      v (ix4 h ⟨κ.val / 768 % 22, Nat.mod_lt _ (by decide)⟩ e ⟨κ.val % 768, Nat.mod_lt _ (by decide)⟩) := by
  subst hq hk hv
  rw [res_eq, mixed_at _ _ h x e i h0 h1]
  simp only [wts_at, sel_at]

end Cert.ReferenceIdeal.Attn

end
-- ==== Proof.Attn.Value.lean ====
module

public import proofs.«01_k».proof.Defs
public import proofs.«01_k».proof.Proof.Attn.Array
public import proofs.«01_k».proof.Proof.Attn.Ref
public import proofs.«01_k».proof.Proof.Gen.Pre_finite
public import proofs.«01_k».proof.Proof.Gen.On_positions
public import Idealize.ShloMosaic.Lib.ReduceAll

@[expose] public section

/-! # The attention kernel computes the reference's attention

Queries and keys are finite, so every score is a real number or masked; from position 496 on a query has a key that is not
masked, so its softmax is defined. There the kernel's quotient of running sums is the reference's softmax. -/

noncomputable section

namespace Cert.KernelIdeal.Attn

open Cert.KernelIdeal Cert.KernelIdeal.Gen
open Idealize.ShloMosaic Idealize.ShloMosaic.TcCoe Idealize.SL.Sem
open Cert.Soft
open scoped BigOperators

/-! ## The precondition and the positions -/

/-- Below plus infinity and above minus infinity is a real number. -/
theorem real_of (x : EReal) (h : IntOp.andi (Ideal.cmp .olt x (Ideal.ofBits .f32 0x7F800000#32)) (Ideal.cmp .ogt x (Ideal.ofBits .f32 0xFF800000#32)) = 1#1) :
    ∃ a : ℝ, x = (a : EReal) := by
  have et : Ideal.ofBits .f32 0x7F800000#32 = (⊤ : EReal) := by simp [Ideal.ofBits, Ideal.ieee]
  rw [et, negInf] at h
  obtain ⟨h1, h2⟩ := IntOp.andi_eq_one.1 h
  have l : x < ⊤ := by
    have : BitVec.ofBool (decide (x < ⊤)) = 1#1 := h1
    exact (WordCmp.ofBool_decide_eq_one_iff _).1 this
  have g : ⊥ < x := by
    have : BitVec.ofBool (decide (⊥ < x)) = 1#1 := h2
    exact (WordCmp.ofBool_decide_eq_one_iff _).1 this
  exact ⟨x.toReal, (EReal.coe_toReal l.ne g.ne').symm⟩

instance : Subsingleton Cert.Pre_finite.S_.Idx := ⟨fun a b => funext fun i => i.elim0⟩

theorem finite_args (q : S4096x16896.Idx → EReal) (k : S16896x4096.Idx → EReal) (v : S16x22x128x768.Idx → EReal)
    (h : Cert.Pre_finite.fn (F := Ideal) q k v = fun _ => 1#1) : (∀ i, ∃ a : ℝ, q i = (a : EReal)) ∧ ∀ i, ∃ a : ℝ, k i = (a : EReal) := by
  have h0 := congrFun h (fun i => i.elim0)
  unfold Cert.Pre_finite.fn at h0
  obtain ⟨h1, h2⟩ := IntOp.andi_eq_one.1 h0
  exact ⟨fun i => real_of _ (Host.reduce_andi_all _ _ _ _ _ h1 i), fun i => real_of _ (Host.reduce_andi_all _ _ _ _ _ h2 i)⟩

theorem position (q : S4096x16896.Idx → EReal) (k : S16896x4096.Idx → EReal) (v : S16x22x128x768.Idx → EReal) (i : S16896x2048.Idx)
    (h : Cert.On_positions.fn (F := Ideal) q k v i = 1#1) : 496 ≤ (i 0).val := by
  have hi : (i 0).val < 16896 := (i 0).isLt
  have h' : IntOp.cmpi .sge (BitVec.ofNat 32 (i 0).val) (BitVec.ofNat 32 496) = 1#1 := h
  rw [WordCmp.cmpi_sge_ofNat (by omega) (by norm_num)] at h'
  exact (WordCmp.ofBool_decide_eq_one_iff _).1 h'

/-! ## Scores are real numbers -/

section
variable {q : S4096x16896.Idx → EReal} {k : S16896x4096.Idx → EReal} (hq : ∀ i, ∃ a : ℝ, q i = (a : EReal)) (hk : ∀ i, ∃ a : ℝ, k i = (a : EReal))
include hq hk

/-- A key's score: the kernel's has the factor in the query, the reference's has the root below. -/
theorem dot_real (h : Fin 16) (x κ : Fin 16896) : ∃ a : ℝ,
    Ideal.div (∑ d : Fin 256, q (ix2 (⟨256 * h.val + d.val, by omega⟩ : Fin 4096) x) * k (ix2 κ (⟨256 * h.val + d.val, by omega⟩ : Fin 4096))) (Real.sqrt 192 : ℝ) = (a : EReal)
    ∧ headDot (scaled q) k h x κ.val = ((a / Real.log 2 : ℝ) : EReal) := by
  choose qr hqr using hq
  choose kr hkr using hk
  have hr : 0 < Real.sqrt 192 := Real.sqrt_pos.mpr (by norm_num)
  have hl : 0 < Real.log 2 := Real.log_pos (by norm_num)
  refine ⟨(∑ d : Fin 256, qr (ix2 (⟨256 * h.val + d.val, by omega⟩ : Fin 4096) x) * kr (ix2 κ (⟨256 * h.val + d.val, by omega⟩ : Fin 4096))) * (Real.sqrt 192)⁻¹, ?_, ?_⟩
  · rw [div_coe hr, EReal.coe_mul, coe_sum]
    refine congrArg (fun y : EReal => y * _) (Finset.sum_congr rfl fun d _ => ?_)
    rw [hqr, hkr, ← EReal.coe_mul]
  · have e : (∑ d : Fin 256, qr (ix2 (⟨256 * h.val + d.val, by omega⟩ : Fin 4096) x) * kr (ix2 κ (⟨256 * h.val + d.val, by omega⟩ : Fin 4096))) * (Real.sqrt 192)⁻¹ / Real.log 2
        = ∑ d : Fin 256, kr (ix2 κ (⟨256 * h.val + d.val, by omega⟩ : Fin 4096)) * (qr (ix2 (⟨256 * h.val + d.val, by omega⟩ : Fin 4096) x) * factor) := by
      rw [Finset.sum_mul, Finset.sum_div]
      refine Finset.sum_congr rfl fun d _ => ?_
      unfold factor
      field_simp
    rw [e, coe_sum]
    unfold headDot scaled
    refine Finset.sum_congr rfl fun d _ => ?_
    have eκ : (⟨κ.val % 16896, Nat.mod_lt _ (by decide)⟩ : Fin 16896) = κ := Fin.ext (Nat.mod_eq_of_lt κ.isLt)
    rw [eκ, hqr, hkr, EReal.coe_mul, EReal.coe_mul]

theorem scored : Scored (scaled q) k := by
  intro h x κ
  unfold headScore
  split
  · rename_i hc
    obtain ⟨a, -, e⟩ := dot_real hq hk h x ⟨κ, lt_of_le_of_lt hc.1 x.isLt⟩
    rw [show headDot (scaled q) k h x κ = _ from e]
    exact EReal.coe_ne_top _
  · exact bot_ne_top

/-- From position 496 on the kernel's quotient is the softmax. -/
theorem headOut_eq (v : S16x22x128x768.Idx → EReal) (h : Fin 16) (x : Fin 16896) (hx : 496 ≤ x.val) (e : Fin 128) :
    headOut (scaled q) k (joined v) h x e
      = ∑ κ : Fin 16896, Ideal.div (Ideal.exp (Cert.ReferenceIdeal.Attn.score q k h x κ - (Finset.univ : Finset (Fin 16896)).sup fun z => Cert.ReferenceIdeal.Attn.score q k h x z))
        (∑ κ' : Fin 16896, Ideal.exp (Cert.ReferenceIdeal.Attn.score q k h x κ' - (Finset.univ : Finset (Fin 16896)).sup fun z => Cert.ReferenceIdeal.Attn.score q k h x z)) *
        v (ix4 h ⟨κ.val / 768 % 22, Nat.mod_lt _ (by decide)⟩ e ⟨κ.val % 768, Nat.mod_lt _ (by decide)⟩) := by
  have hx' := x.isLt
  let s : ℕ → EReal := fun κ => if hκ : κ < 16896 then Cert.ReferenceIdeal.Attn.score q k h x ⟨κ, hκ⟩ else ⊥
  have hs : ∀ κ : Fin 16896, s κ.val = Cert.ReferenceIdeal.Attn.score q k h x κ := fun κ => dif_pos κ.isLt
  have masked : ∀ κ, ¬(κ ≤ x.val ∧ 496 ≤ κ) → s κ = ⊥ := fun κ hc => by
    show (if hκ : κ < 16896 then Cert.ReferenceIdeal.Attn.score q k h x ⟨κ, hκ⟩ else ⊥) = ⊥
    split
    · exact if_neg hc
    · rfl
  have kept : ∀ κ, (κ ≤ x.val ∧ 496 ≤ κ) → ∃ a : ℝ, s κ = (a : EReal) ∧ headScore (scaled q) k h x κ = ((a / Real.log 2 : ℝ) : EReal) := fun κ hc => by
    have hκ : κ < 16896 := lt_of_le_of_lt hc.1 x.isLt
    obtain ⟨a, e1, e2⟩ := dot_real hq hk h x ⟨κ, hκ⟩
    refine ⟨a, ?_, ?_⟩
    · rw [hs ⟨κ, hκ⟩, ← e1]
      exact if_pos hc
    · rw [← e2]
      exact if_pos hc
  have hrow : x.val < takenRow x.val ∧ 496 < takenRow x.val ∧ takenRow x.val ≤ 16896 := by
    unfold takenRow
    obtain h3 | h3 | h3 : x.val % 1536 / 512 = 0 ∨ x.val % 1536 / 512 = 1 ∨ x.val % 1536 / 512 = 2 := by omega
    all_goals
      rw [h3]
      simp only [taken]
      omega
  have key := softmax (headScore (scaled q) k h x) s (headVal (joined v) h (e.castLE (by decide))) (headVal (joined v) h 128) (takenRow x.val) 16896 hrow.2.2
    (fun κ => joined_one v h _ _)
    (fun κ => by
      by_cases hc : κ ≤ x.val ∧ 496 ≤ κ
      · exact Or.inr (kept κ hc)
      · exact Or.inl ⟨masked κ hc, if_neg hc⟩)
    (fun κ hκ => masked κ (by omega)) 496 hrow.2.1
    (by obtain ⟨a, ha, -⟩ := kept 496 ⟨hx, le_refl _⟩; rw [ha]; exact EReal.coe_ne_bot a)
  unfold headOut
  rw [key]
  simp only [hs]
  refine Finset.sum_congr rfl fun κ _ => ?_
  exact congrArg _ (joined_value v h _ e _)

end

/-! ## The claim -/

theorem value : Cert.algebraic_KernelIdeal_ReferenceIdeal_on_positions_pre_finite := by
  intro m g m' g' hpre hargs
  have fin := fun c => finite_args _ _ _ (hpre c)
  refine ⟨fun c => attended (scaled (m ((c : Thread nD τ).loc main_arg0))) (m ((c : Thread nD τ).loc main_arg1)) (joined (m ((c : Thread nD τ).loc main_arg2))), ?_, ?_⟩
  · refine (θ_run _ _ _).mono (fun r h c => ?_) (run_value m g fun c => scored (fin c).1 (fin c).2)
    exact ⟨fun i _ => congrFun (h c).1 i, (h c).2⟩
  · refine (θ_run _ _ _).mono (fun r h c => ?_) (Cert.ReferenceIdeal.Value.run m' g')
    refine ⟨fun i hi => ?_, (h c).2⟩
    have hp : 496 ≤ (i 0).val := position _ _ _ i hi
    have h1 : (i 1).val < 2048 := (i 1).isLt
    rw [(h c).1, Cert.ReferenceIdeal.Attn.result_at m' c ⟨(i 1).val / 128, by omega⟩ (i 0) ⟨(i 1).val % 128, by omega⟩ i _ _ _ (hargs c).1 (hargs c).2.1 (hargs c).2.2 rfl
      (by show (i 1).val = 128 * ((i 1).val / 128) + (i 1).val % 128; omega)]
    exact (headOut_eq (fin c).1 (fin c).2 _ _ _ hp _).symm

end Cert.KernelIdeal.Attn

end
-- ==== Proof.Mm.Up.lean ====
module

public import proofs.«01_k».proof.Defs
public import proofs.«01_k».proof.Proof.Gen.Kernel2Ideal.Value
public import proofs.«01_k».proof.Proof.Gen.Reference2Ideal.Run
public import Idealize.ShloMosaic.Lib.Pipeline.Covers
public import Idealize.ShloMosaic.Lib.Pipeline.ReadBack
public import Idealize.ShloMosaic.Lib.Pointwise
public import Idealize.ShloMosaic.Lib.MatmulPlain
public import Idealize.ShloMosaic.Lib.Pipeline.ValueKit
public import Idealize.ShloMosaic.Lib.Claim

@[expose] public section

/-! # The gated feed-forward input: gate · sigmoid(gate) · up, a tile of columns per grid point -/

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The block index of every window, by the grid's coordinates. -/
theorem index_eq : ∀ t : Fin cfg0.N,
    win0_0.index t 0 = (grid0.coords t 0).val ∧ win0_0.index t 1 = 0 ∧ win0_1.index t 0 = 0 ∧ win0_1.index t 1 = (grid0.coords t 1).val
    ∧ win0_2.index t 0 = 0 ∧ win0_2.index t 1 = (grid0.coords t 1).val
    ∧ win0_3.index t 0 = (grid0.coords t 0).val ∧ win0_3.index t 1 = (grid0.coords t 1).val := by
  decide +kernel

theorem blk0 (c : Dev nD) (t : Fin cfg0.N) (x : S1536x4096.Idx) (i : S16896x4096.Idx)
    (h0 : (i 0).val = 1536 * (grid0.coords t 0).val + (x 0).val) (h1 : (i 1).val = (x 1).val) :
    iblk m c 0 t x = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 1536 + 1 * (x 0).val = (i 0).val; rw [(index_eq t).1]; omega
  | ⟨1, _⟩ => show win0_0.index t 1 * 4096 + 1 * (x 1).val = (i 1).val; rw [(index_eq t).2.1]; omega

theorem blk1 (c : Dev nD) (t : Fin cfg0.N) (x : S4096x512.Idx) (i : S4096x11264.Idx)
    (h0 : (i 0).val = (x 0).val) (h1 : (i 1).val = 512 * (grid0.coords t 1).val + (x 1).val) :
    iblk m c 1 t x = m ((c : Thread nD τ).loc main_arg1) i := by
  unfold iblk
  rw [View.read_apply]
  show V m c main_arg1 _ = m (c.tc.loc main_arg1) _
  unfold V
  congr 1
  funext a
  apply Fin.ext
  match a with
  | ⟨0, _⟩ => show win0_1.index t 0 * 4096 + 1 * (x 0).val = (i 0).val; rw [(index_eq t).2.2.1]; omega
  | ⟨1, _⟩ => show win0_1.index t 1 * 512 + 1 * (x 1).val = (i 1).val; rw [(index_eq t).2.2.2.1]; omega

theorem blk2 (c : Dev nD) (t : Fin cfg0.N) (x : S4096x512.Idx) (i : S4096x11264.Idx)
    (h0 : (i 0).val = (x 0).val) (h1 : (i 1).val = 512 * (grid0.coords t 1).val + (x 1).val) :
    iblk m c 2 t x = m ((c : Thread nD τ).loc main_arg2) i := by
  unfold iblk
  rw [View.read_apply]
  show V m c main_arg2 _ = m (c.tc.loc main_arg2) _
  unfold V
  congr 1
  funext a
  apply Fin.ext
  match a with
  | ⟨0, _⟩ => show win0_2.index t 0 * 4096 + 1 * (x 0).val = (i 0).val; rw [(index_eq t).2.2.2.2.1]; omega
  | ⟨1, _⟩ => show win0_2.index t 1 * 512 + 1 * (x 1).val = (i 1).val; rw [(index_eq t).2.2.2.2.2.1]; omega

theorem emb3 (t : Fin cfg0.N) (y : S1536x512.Idx) :
    ((((View.whole main_v0).slice (win0_3.rect t)).emb y) 0).val = 1536 * (grid0.coords t 0).val + (y 0).val
    ∧ ((((View.whole main_v0).slice (win0_3.rect t)).emb y) 1).val = 512 * (grid0.coords t 1).val + (y 1).val := by
  constructor
  · show win0_3.index t 0 * 1536 + 1 * (y 0).val = _
    rw [(index_eq t).2.2.2.2.2.2.1]; omega
  · show win0_3.index t 1 * 512 + 1 * (y 1).val = _
    rw [(index_eq t).2.2.2.2.2.2.2]; omega

/-- One product of the layer's input with a weight. -/
def prod (u : S16896x4096.Idx → EReal) (w : S4096x11264.Idx → EReal) : S16896x11264.Idx → EReal := fun i =>
  ∑ k : Fin 4096, u (ix2 (i 0) k) * w (ix2 k (i 1))

/-- gate · sigmoid(gate) · up. -/
def gated (u : S16896x4096.Idx → EReal) (g w : S4096x11264.Idx → EReal) : S16896x11264.Idx → EReal := fun i =>
  prod u g i * Ideal.logistic (prod u g i) * prod u w i

theorem piece1 (c : Dev nD) (t : Fin cfg0.N) (A : S1536x4096.Idx → EReal) (C : S4096x512.Idx → EReal)
    (hA : A = iblk m c 0 t) (hC : C = iblk m c 1 t) (i : S16896x11264.Idx) (r : Fin 1536) (q : Fin 512)
    (h0 : (i 0).val = 1536 * (grid0.coords t 0).val + r.val) (h1 : (i 1).val = 512 * (grid0.coords t 1).val + q.val) :
    (∑ k : Fin 4096, A (ix2 r k) * C (ix2 k q)) = prod (m ((c : Thread nD τ).loc main_arg0)) (m ((c : Thread nD τ).loc main_arg1)) i := by
  subst hA hC
  unfold prod
  refine Finset.sum_congr rfl fun k _ => ?_
  rw [blk0 m c t (ix2 r k) (ix2 (i 0) k) h0 rfl, blk1 m c t (ix2 k q) (ix2 k (i 1)) rfl h1]

theorem piece2 (c : Dev nD) (t : Fin cfg0.N) (A : S1536x4096.Idx → EReal) (C : S4096x512.Idx → EReal)
    (hA : A = iblk m c 0 t) (hC : C = iblk m c 2 t) (i : S16896x11264.Idx) (r : Fin 1536) (q : Fin 512)
    (h0 : (i 0).val = 1536 * (grid0.coords t 0).val + r.val) (h1 : (i 1).val = 512 * (grid0.coords t 1).val + q.val) :
    (∑ k : Fin 4096, A (ix2 r k) * C (ix2 k q)) = prod (m ((c : Thread nD τ).loc main_arg0)) (m ((c : Thread nD τ).loc main_arg2)) i := by
  subst hA hC
  unfold prod
  refine Finset.sum_congr rfl fun k _ => ?_
  rw [blk0 m c t (ix2 r k) (ix2 (i 0) k) h0 rfl, blk2 m c t (ix2 k q) (ix2 k (i 1)) rfl h1]

/-- One tile's value is the layer's, at the tile's place. -/
theorem piece (c : Dev nD) (t : Fin cfg0.N) (A : S1536x4096.Idx → EReal) (C D : S4096x512.Idx → EReal)
    (hA : A = iblk m c 0 t) (hC : C = iblk m c 1 t) (hD : D = iblk m c 2 t) (i : S16896x11264.Idx) (r : Fin 1536) (q : Fin 512)
    (h0 : (i 0).val = 1536 * (grid0.coords t 0).val + r.val) (h1 : (i 1).val = 512 * (grid0.coords t 1).val + q.val) :
    (∑ k : Fin 4096, A (ix2 r k) * C (ix2 k q)) * Ideal.logistic (∑ k : Fin 4096, A (ix2 r k) * C (ix2 k q)) * (∑ k : Fin 4096, A (ix2 r k) * D (ix2 k q))
      = gated (m ((c : Thread nD τ).loc main_arg0)) (m ((c : Thread nD τ).loc main_arg1)) (m ((c : Thread nD τ).loc main_arg2)) i := by
  rw [piece1 m c t A C hA hC i r q h0 h1, piece2 m c t A D hA hD i r q h0 h1]
  rfl

set_option maxHeartbeats 1000000 in
theorem out3 (c : Dev nD) : (dats m 0 c).arrAt 3 cfg0.N
    = gated (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; unfold outsAt0
  frame_out
  have e := emb3 t y
  canon_tiles x h <;> open_payloads <;> pointwise
  all_goals
    refine piece m c t (iblk m c 0 t) (iblk m c 1 t) (iblk m c 2 t) rfl rfl rfl _ _ _ ?_ ?_
    · rw [e.1, h0]
    · rw [e.2, h1]

theorem ref_eq (u : S16896x4096.Idx → EReal) (g w : S4096x11264.Idx → EReal) :
    (truncf .bf16 (mulf (mulf (Host.dotGeneral (F := Ideal) Reference2Ideal.dot_S16896x4096_S4096x11264_S16896x11264_1_0_0_1_n_n none (extf .f32 (u : FVec Ideal S16896x4096 .bf16) Reference2Ideal.Facts₀.bitsLt_bf16_f32) (extf .f32 (g : FVec Ideal S4096x11264 .bf16) Reference2Ideal.Facts₀.bitsLt_bf16_f32)) (Host.divf (broadcastInDim S16896x11264 ![] Reference2Ideal.Facts₀.bcast_S_S16896x11264 (constant Reference2Ideal.S_ .f32 0x3F800000#32)) (addf (broadcastInDim S16896x11264 ![] Reference2Ideal.Facts₀.bcast_S_S16896x11264 (constant Reference2Ideal.S_ .f32 0x3F800000#32)) (Host.exp (Host.negf (Host.dotGeneral Reference2Ideal.dot_S16896x4096_S4096x11264_S16896x11264_1_0_0_1_n_n none (extf .f32 (u : FVec Ideal S16896x4096 .bf16) Reference2Ideal.Facts₀.bitsLt_bf16_f32) (extf .f32 (g : FVec Ideal S4096x11264 .bf16) Reference2Ideal.Facts₀.bitsLt_bf16_f32))))))) (Host.dotGeneral Reference2Ideal.dot_S16896x4096_S4096x11264_S16896x11264_1_0_0_1_n_n none (extf .f32 (u : FVec Ideal S16896x4096 .bf16) Reference2Ideal.Facts₀.bitsLt_bf16_f32) (extf .f32 (w : FVec Ideal S4096x11264 .bf16) Reference2Ideal.Facts₀.bitsLt_bf16_f32))) Reference2Ideal.Facts₀.bitsLt_bf16_f32 : FVec Ideal S16896x11264 .bf16) = gated u g w := by
  funext i
  pointwise
  rfl

theorem value : Cert.algebraic_Kernel2Ideal_Reference2Ideal := by
  intro m g m' g' _ hargs
  refine ⟨fun c => gated (m ((c : Thread nD τ).loc main_arg0)) (m ((c : Thread nD τ).loc main_arg1)) (m ((c : Thread nD τ).loc main_arg2)), ?_, ?_⟩
  · refine (θ_run _ _ _).mono (fun r h c => ?_) (run_blocks m g)
    exact ⟨(h c).1.trans (out3 m c), (h c).2⟩
  · refine (θ_run _ _ _).mono (fun r h c => ?_) (Reference2Ideal.Value.run m' g')
    refine ⟨(h c).1.trans ?_, (h c).2⟩
    rw [(hargs c).1, (hargs c).2.1, (hargs c).2.2]
    exact ref_eq _ _ _

end Cert.Kernel2Ideal.Value

end
-- ==== Proof.Mm.Down.lean ====
module

public import proofs.«01_k».proof.Defs
public import proofs.«01_k».proof.Proof.Gen.Kernel3Ideal.Value
public import proofs.«01_k».proof.Proof.Gen.Reference3Ideal.Run
public import Idealize.ShloMosaic.Lib.Pipeline.Covers
public import Idealize.ShloMosaic.Lib.Pipeline.ReadBack
public import Idealize.ShloMosaic.Lib.Pointwise
public import Idealize.ShloMosaic.Lib.MatmulPlain
public import Idealize.ShloMosaic.Lib.Pipeline.ValueKit
public import Idealize.ShloMosaic.Lib.Claim

@[expose] public section

/-! # The feed-forward output: a product accumulated over four grid points, against one product -/

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The block index of every window, by the grid point. -/
theorem index_eq : ∀ t : Fin cfg0.N,
    win0_0.index t 0 = t.val / 16 ∧ win0_0.index t 1 = t.val % 4 ∧ win0_1.index t 0 = t.val % 4 ∧ win0_1.index t 1 = t.val / 4 % 4
    ∧ win0_2.index t 0 = t.val / 16 ∧ win0_2.index t 1 = t.val / 4 % 4 := by
  decide +kernel

theorem blk0 (c : Dev nD) (t : Fin cfg0.N) (x : S1536x2816.Idx) (i : S16896x11264.Idx)
    (h0 : (i 0).val = 1536 * (t.val / 16) + (x 0).val) (h1 : (i 1).val = 2816 * (t.val % 4) + (x 1).val) :
    iblk m c 0 t x = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 1536 + 1 * (x 0).val = (i 0).val; rw [(index_eq t).1]; omega
  | ⟨1, _⟩ => show win0_0.index t 1 * 2816 + 1 * (x 1).val = (i 1).val; rw [(index_eq t).2.1]; omega

theorem blk1 (c : Dev nD) (t : Fin cfg0.N) (x : S2816x1024.Idx) (i : S11264x4096.Idx)
    (h0 : (i 0).val = 2816 * (t.val % 4) + (x 0).val) (h1 : (i 1).val = 1024 * (t.val / 4 % 4) + (x 1).val) :
    iblk m c 1 t x = m ((c : Thread nD τ).loc main_arg1) i := by
  unfold iblk
  rw [View.read_apply]
  show V m c main_arg1 _ = m (c.tc.loc main_arg1) _
  unfold V
  congr 1
  funext a
  apply Fin.ext
  match a with
  | ⟨0, _⟩ => show win0_1.index t 0 * 2816 + 1 * (x 0).val = (i 0).val; rw [(index_eq t).2.2.1]; omega
  | ⟨1, _⟩ => show win0_1.index t 1 * 1024 + 1 * (x 1).val = (i 1).val; rw [(index_eq t).2.2.2.1]; omega

theorem emb2 (t : Fin cfg0.N) (y : S1536x1024.Idx) :
    ((((View.whole main_v0).slice (win0_2.rect t)).emb y) 0).val = 1536 * (t.val / 16) + (y 0).val
    ∧ ((((View.whole main_v0).slice (win0_2.rect t)).emb y) 1).val = 1024 * (t.val / 4 % 4) + (y 1).val := by
  constructor
  · show win0_2.index t 0 * 1536 + 1 * (y 0).val = _
    rw [(index_eq t).2.2.2.2.1]; omega
  · show win0_2.index t 1 * 1024 + 1 * (y 1).val = _
    rw [(index_eq t).2.2.2.2.2]; omega

/-- The product of the gated input with the weight. -/
def prod (u : S16896x11264.Idx → EReal) (w : S11264x4096.Idx → EReal) : S16896x4096.Idx → EReal := fun i =>
  ∑ k : Fin 11264, u (ix2 (i 0) k) * w (ix2 k (i 1))

/-- The product of one block of columns with one block of rows. -/
def part (A : S1536x2816.Idx → EReal) (C : S2816x1024.Idx → EReal) : S1536x1024.Idx → EReal := fun y =>
  ∑ k : Fin 2816, A (ix2 (y 0) k) * C (ix2 k (y 1))

theorem add_part_of (O : S1536x1024.Idx → EReal) (A : S1536x2816.Idx → EReal) (C : S2816x1024.Idx → EReal) (y : S1536x1024.Idx)
    (r : Fin 1536) (q : Fin 1024) (h0 : r = y 0) (h1 : q = y 1) :
    O (ix2 r q) + (∑ k : Fin 2816, A (ix2 r k) * C (ix2 k q)) = O y + part A C y := by
  subst h0 h1
  rw [show (ix2 (y 0) (y 1) : S1536x1024.Idx) = y from by funext a; match a with | ⟨0, _⟩ => rfl | ⟨1, _⟩ => rfl]
  rfl

theorem part_of (A : S1536x2816.Idx → EReal) (C : S2816x1024.Idx → EReal) (y : S1536x1024.Idx) (r : Fin 1536) (q : Fin 1024)
    (h0 : r = y 0) (h1 : q = y 1) : (∑ k : Fin 2816, A (ix2 r k) * C (ix2 k q)) = part A C y := by
  subst h0 h1; rfl

set_option maxHeartbeats 1000000 in
/-- At a first point of four the accumulator is that point's product. -/
theorem first (c : Dev nD) (t : Fin cfg0.N) (p : t.val % 4 = 0) (y : S1536x1024.Idx) :
    outsAt0 m c t.val t.isLt y = part (iblk m c 0 t) (iblk m c 1 t) y := by
  rw [outsAt0_A m c t p (by omega)]
  frame_out
  canon_tiles x h using (View.cover_of_tiledL (s := S1536x1024) _ ![512, 1024] (by sl_kernel_rfl) y) <;> open_payloads <;> pointwise
  all_goals exact part_of (iblk m c 0 t) (iblk m c 1 t) y _ _ (Fin.ext h0.symm) (Fin.ext h1.symm)

set_option maxHeartbeats 1000000 in
/-- At a later point of four the accumulator grows by that point's product. -/
theorem later (c : Dev nD) (t : Fin cfg0.N) (p : ¬t.val % 4 = 0) (y : S1536x1024.Idx) :
    outsAt0 m c t.val t.isLt y
      = outsAt0 m c (t.val - 1) (Nat.lt_of_le_of_lt (Nat.sub_le _ _) t.isLt) y + part (iblk m c 0 t) (iblk m c 1 t) y := by
  rw [outsAt0_B m c t p (by omega)]
  frame_out
  canon_tiles x h using (View.cover_of_tiledL (s := S1536x1024) _ ![512, 1024] (by sl_kernel_rfl) y) <;> open_payloads <;> pointwise
  all_goals exact add_part_of (outsAt0 m c (t.val - 1) _) (iblk m c 0 t) (iblk m c 1 t) y _ _ (Fin.ext h0.symm) (Fin.ext h1.symm)

/-- A column of products, cut in four. -/
theorem sum_four (f : Fin 11264 → EReal) (g : Fin 4 → Fin 2816 → EReal)
    (hg : ∀ (s : Fin 4) (k : Fin 2816) (h : s.val * 2816 + k.val < 11264), g s k = f ⟨s.val * 2816 + k.val, h⟩) :
    ∑ s : Fin 4, ∑ k : Fin 2816, g s k = ∑ k : Fin 11264, f k := by
  rw [← Fin.sum_mul_add_fin 4 2816 f]
  exact Finset.sum_congr rfl fun s _ => Finset.sum_congr rfl fun k _ => hg s k _

/-- The four parts of a tile make the whole product. -/
theorem whole (c : Dev nD) (t : Fin cfg0.N) (hr : t.val % 4 = 4 - 1) (y : S1536x1024.Idx) (i : S16896x4096.Idx)
    (h0 : (i 0).val = 1536 * (t.val / 16) + (y 0).val) (h1 : (i 1).val = 1024 * (t.val / 4 % 4) + (y 1).val) :
    outsAt0 m c t.val t.isLt y = prod (m ((c : Thread nD τ).loc main_arg0)) (m ((c : Thread nD τ).loc main_arg1)) i := by
  rw [Pipeline.eq_sum_fin_of_reset_step_of_flush (M := EReal) (fun n h => (outsAt0 m c n h y : EReal)) 4 (0 : EReal)
    (fun p => part (iblk m c 0 p) (iblk m c 1 p) y) (fun t h => by rw [zero_add]; exact first m c t h y) (fun t h => later m c t h y) t hr,
    zero_add]
  unfold prod part
  refine sum_four _ _ fun s k hk => ?_
  have hs := s.isLt
  rw [blk0 m c _ (ix2 (y 0) k) (ix2 (i 0) ⟨s.val * 2816 + k.val, hk⟩) ?_ ?_, blk1 m c _ (ix2 k (y 1)) (ix2 ⟨s.val * 2816 + k.val, hk⟩ (i 1)) ?_ ?_]
  · show s.val * 2816 + k.val = 2816 * ((4 * (t.val / 4) + s.val) % 4) + k.val; omega
  · show (i 1).val = 1024 * ((4 * (t.val / 4) + s.val) / 4 % 4) + (y 1).val; omega
  · show (i 0).val = 1536 * ((4 * (t.val / 4) + s.val) / 16) + (y 0).val; omega
  · show s.val * 2816 + k.val = 2816 * ((4 * (t.val / 4) + s.val) % 4) + k.val; omega

theorem out2 (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  exact whole m c t ((flush0_2 t).mp hf) _ _ (emb2 t y).1 (emb2 t y).2

theorem ref_eq (u : S16896x11264.Idx → EReal) (w : S11264x4096.Idx → EReal) :
    (Host.dotGeneral (F := Ideal) Reference3Ideal.dot_S16896x11264_S11264x4096_S16896x4096_1_0_0_1_n_n none
      (extf .f32 (u : FVec Ideal S16896x11264 .bf16) Reference3Ideal.Facts₀.bitsLt_bf16_f32)
      (extf .f32 (w : FVec Ideal S11264x4096 .bf16) Reference3Ideal.Facts₀.bitsLt_bf16_f32)) = prod u w := by
  funext i
  pointwise
  rfl

theorem value : Cert.algebraic_Kernel3Ideal_Reference3Ideal := by
  intro m g m' g' _ hargs
  refine ⟨fun c => prod (m ((c : Thread nD τ).loc main_arg0)) (m ((c : Thread nD τ).loc main_arg1)), ?_, ?_⟩
  · refine (θ_run _ _ _).mono (fun r h c => ?_) (run_blocks m g)
    exact ⟨(h c).1.trans (out2 m c), (h c).2⟩
  · refine (θ_run _ _ _).mono (fun r h c => ?_) (Reference3Ideal.Value.run m' g')
    refine ⟨(h c).1.trans ?_, (h c).2⟩
    rw [(hargs c).1, (hargs c).2]
    exact ref_eq _ _

end Cert.Kernel3Ideal.Value

end
-- ==== Proof.Mm.Out.lean ====
module

public import proofs.«01_k».proof.Defs
public import proofs.«01_k».proof.Proof.Gen.Kernel4Ideal.Value
public import proofs.«01_k».proof.Proof.Gen.Reference4Ideal.Run
public import Idealize.ShloMosaic.Lib.Pipeline.Covers
public import Idealize.ShloMosaic.Lib.Pipeline.ReadBack
public import Idealize.ShloMosaic.Lib.Pointwise
public import Idealize.ShloMosaic.Lib.MatmulPlain
public import Idealize.ShloMosaic.Lib.Pipeline.ValueKit
public import Idealize.ShloMosaic.Lib.Claim

@[expose] public section

/-! # The output projection: two products summed, against one product of the joined halves -/

noncomputable section

namespace Cert.Kernel4Ideal.Value

open Cert.Kernel4Ideal Cert.Kernel4Ideal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The block index of every window, by the grid's coordinates. -/
theorem index_eq : ∀ t : Fin cfg0.N,
    win0_0.index t 0 = (grid0.coords t 0).val ∧ win0_0.index t 1 = 0 ∧ win0_1.index t 0 = (grid0.coords t 0).val ∧ win0_1.index t 1 = 0
    ∧ win0_2.index t 0 = 0 ∧ win0_2.index t 1 = (grid0.coords t 1).val ∧ win0_3.index t 0 = 1 ∧ win0_3.index t 1 = (grid0.coords t 1).val
    ∧ win0_4.index t 0 = (grid0.coords t 0).val ∧ win0_4.index t 1 = (grid0.coords t 1).val := by
  decide +kernel

theorem blk0 (c : Dev nD) (t : Fin cfg0.N) (x : S1536x2048.Idx) (i : S16896x2048.Idx)
    (h0 : (i 0).val = 1536 * (grid0.coords t 0).val + (x 0).val) (h1 : (i 1).val = (x 1).val) :
    iblk m c 0 t x = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 1536 + 1 * (x 0).val = (i 0).val; rw [(index_eq t).1]; omega
  | ⟨1, _⟩ => show win0_0.index t 1 * 2048 + 1 * (x 1).val = (i 1).val; rw [(index_eq t).2.1]; omega

theorem blk1 (c : Dev nD) (t : Fin cfg0.N) (x : S1536x2048.Idx) (i : S16896x2048.Idx)
    (h0 : (i 0).val = 1536 * (grid0.coords t 0).val + (x 0).val) (h1 : (i 1).val = (x 1).val) :
    iblk m c 1 t x = m ((c : Thread nD τ).loc main_arg1) i := by
  unfold iblk
  rw [View.read_apply]
  show V m c main_arg1 _ = m (c.tc.loc main_arg1) _
  unfold V
  congr 1
  funext a
  apply Fin.ext
  match a with
  | ⟨0, _⟩ => show win0_1.index t 0 * 1536 + 1 * (x 0).val = (i 0).val; rw [(index_eq t).2.2.1]; omega
  | ⟨1, _⟩ => show win0_1.index t 1 * 2048 + 1 * (x 1).val = (i 1).val; rw [(index_eq t).2.2.2.1]; omega

theorem blk2 (c : Dev nD) (t : Fin cfg0.N) (x : S2048x512.Idx) (i : S4096x4096.Idx)
    (h0 : (i 0).val = (x 0).val) (h1 : (i 1).val = 512 * (grid0.coords t 1).val + (x 1).val) :
    iblk m c 2 t x = m ((c : Thread nD τ).loc main_arg2) i := by
  unfold iblk
  rw [View.read_apply]
  show V m c main_arg2 _ = m (c.tc.loc main_arg2) _
  unfold V
  congr 1
  funext a
  apply Fin.ext
  match a with
  | ⟨0, _⟩ => show win0_2.index t 0 * 2048 + 1 * (x 0).val = (i 0).val; rw [(index_eq t).2.2.2.2.1]; omega
  | ⟨1, _⟩ => show win0_2.index t 1 * 512 + 1 * (x 1).val = (i 1).val; rw [(index_eq t).2.2.2.2.2.1]; omega

theorem blk3 (c : Dev nD) (t : Fin cfg0.N) (x : S2048x512.Idx) (i : S4096x4096.Idx)
    (h0 : (i 0).val = 2048 + (x 0).val) (h1 : (i 1).val = 512 * (grid0.coords t 1).val + (x 1).val) :
    iblk m c 3 t x = m ((c : Thread nD τ).loc main_arg2) i := by
  unfold iblk
  rw [View.read_apply]
  show V m c main_arg2 _ = m (c.tc.loc main_arg2) _
  unfold V
  congr 1
  funext a
  apply Fin.ext
  match a with
  | ⟨0, _⟩ => show win0_3.index t 0 * 2048 + 1 * (x 0).val = (i 0).val; rw [(index_eq t).2.2.2.2.2.2.1]; omega
  | ⟨1, _⟩ => show win0_3.index t 1 * 512 + 1 * (x 1).val = (i 1).val; rw [(index_eq t).2.2.2.2.2.2.2.1]; omega

theorem emb4 (t : Fin cfg0.N) (y : S1536x512.Idx) :
    ((((View.whole main_v0).slice (win0_4.rect t)).emb y) 0).val = 1536 * (grid0.coords t 0).val + (y 0).val
    ∧ ((((View.whole main_v0).slice (win0_4.rect t)).emb y) 1).val = 512 * (grid0.coords t 1).val + (y 1).val := by
  constructor
  · show win0_4.index t 0 * 1536 + 1 * (y 0).val = _
    rw [(index_eq t).2.2.2.2.2.2.2.2.1]; omega
  · show win0_4.index t 1 * 512 + 1 * (y 1).val = _
    rw [(index_eq t).2.2.2.2.2.2.2.2.2]; omega

/-- The two halves' products, summed. -/
def prod (a b : S16896x2048.Idx → EReal) (w : S4096x4096.Idx → EReal) : S16896x4096.Idx → EReal := fun i =>
  (∑ k : Fin 2048, a (ix2 (i 0) k) * w (ix2 (⟨k.val, by omega⟩ : Fin 4096) (i 1)))
    + ∑ k : Fin 2048, b (ix2 (i 0) k) * w (ix2 (⟨2048 + k.val, by omega⟩ : Fin 4096) (i 1))

theorem piece (c : Dev nD) (t : Fin cfg0.N) (A B : S1536x2048.Idx → EReal) (C D : S2048x512.Idx → EReal)
    (hA : A = iblk m c 0 t) (hB : B = iblk m c 1 t) (hC : C = iblk m c 2 t) (hD : D = iblk m c 3 t) (i : S16896x4096.Idx) (r : Fin 1536) (q : Fin 512)
    (h0 : (i 0).val = 1536 * (grid0.coords t 0).val + r.val) (h1 : (i 1).val = 512 * (grid0.coords t 1).val + q.val) :
    (∑ k : Fin 2048, A (ix2 r k) * C (ix2 k q)) + ∑ k : Fin 2048, B (ix2 r k) * D (ix2 k q)
      = prod (m ((c : Thread nD τ).loc main_arg0)) (m ((c : Thread nD τ).loc main_arg1)) (m ((c : Thread nD τ).loc main_arg2)) i := by
  subst hA hB hC hD
  unfold prod
  refine congrArg₂ (· + ·) (Finset.sum_congr rfl fun k _ => ?_) (Finset.sum_congr rfl fun k _ => ?_)
  · rw [blk0 m c t (ix2 r k) (ix2 (i 0) k) h0 rfl, blk2 m c t (ix2 k q) (ix2 (⟨k.val, by omega⟩ : Fin 4096) (i 1)) rfl h1]
  · rw [blk1 m c t (ix2 r k) (ix2 (i 0) k) h0 rfl, blk3 m c t (ix2 k q) (ix2 (⟨2048 + k.val, by omega⟩ : Fin 4096) (i 1)) rfl h1]

set_option maxHeartbeats 1000000 in
theorem out4 (c : Dev nD) : (dats m 0 c).arrAt 4 cfg0.N
    = prod (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]; unfold outsAt0
  frame_out
  have e := emb4 t y
  canon_tiles x h <;> open_payloads <;> pointwise
  all_goals
    refine piece m c t (iblk m c 0 t) (iblk m c 1 t) (iblk m c 2 t) (iblk m c 3 t) rfl rfl rfl rfl _ _ _ ?_ ?_
    · rw [e.1, h0]
    · rw [e.2, h1]

/-- The reference's product over the joined halves is the two halves' products summed. -/
theorem ref_eq (a b : S16896x2048.Idx → EReal) (w : S4096x4096.Idx → EReal) :
    (Host.dotGeneral (F := Ideal) Reference4Ideal.dot_S16896x4096_S4096x4096_S16896x4096_1_0_0_1_n_n none
      (concatenate S16896x4096 1 [⟨S16896x2048, (extf .f32 (a : FVec Ideal S16896x2048 .bf16) Reference4Ideal.Facts₀.bitsLt_bf16_f32)⟩,
        ⟨S16896x2048, (extf .f32 (b : FVec Ideal S16896x2048 .bf16) Reference4Ideal.Facts₀.bitsLt_bf16_f32)⟩] Reference4Ideal.Facts₀.concatenates_S16896x2048_S16896x2048_S16896x4096_d1)
      (extf .f32 (w : FVec Ideal S4096x4096 .bf16) Reference4Ideal.Facts₀.bitsLt_bf16_f32)) = prod a b w := by
  funext i
  pointwise
  rfl

theorem value : Cert.algebraic_Kernel4Ideal_Reference4Ideal := by
  intro m g m' g' _ hargs
  refine ⟨fun c => prod (m ((c : Thread nD τ).loc main_arg0)) (m ((c : Thread nD τ).loc main_arg1)) (m ((c : Thread nD τ).loc main_arg2)), ?_, ?_⟩
  · refine (θ_run _ _ _).mono (fun r h c => ?_) (run_blocks m g)
    exact ⟨(h c).1.trans (out4 m c), (h c).2⟩
  · refine (θ_run _ _ _).mono (fun r h c => ?_) (Reference4Ideal.Value.run m' g')
    refine ⟨(h c).1.trans ?_, (h c).2⟩
    rw [(hargs c).1, (hargs c).2.1, (hargs c).2.2]
    exact ref_eq _ _ _

end Cert.Kernel4Ideal.Value

end
-- ==== Proof.Mm.Proj.lean ====
module

public import Idealize.ShloMosaic.Lib.Pointwise
public import Idealize.ShloMosaic.Lib.ValueIdx

@[expose] public section

/-! # Some columns of the combined input projection -/

noncomputable section

namespace Cert.Mm

open Idealize.ShloMosaic
open scoped BigOperators

/-- The layer's input. -/
abbrev Input : Type := (⟨2, ![16896, 4096]⟩ : Shape).Idx → EReal

/-- The combined projection's weight. -/
abbrev Weight : Type := (⟨2, ![4096, 8264]⟩ : Shape).Idx → EReal

/-- One element of the projection. -/
def at_ (u : Input) (w : Weight) (r : Fin 16896) (j : Fin 8264) : EReal := ∑ k : Fin 4096, u (ix2 r k) * w (ix2 k j)

/-- `n` columns of the projection, from column `off` on. -/
def proj (n off : ℕ) (h : off + n ≤ 8264) (u : Input) (w : Weight) : (⟨2, ![16896, n]⟩ : Shape).Idx → EReal := fun i =>
  at_ u w (i 0) ⟨off + (i 1).val, lt_of_lt_of_le (Nat.add_lt_add_left (i 1).isLt off) h⟩

/-- An element of a product of two blocks, one a block of rows of the input, the other of columns of the weight. -/
theorem at_of_blocks {b : ℕ} (u : Input) (w : Weight) (A : (⟨2, ![1536, 4096]⟩ : Shape).Idx → EReal) (C : (⟨2, ![4096, b]⟩ : Shape).Idx → EReal)
    (r : Fin 16896) (j : Fin 8264) (x : Fin 1536) (y : Fin b) (hA : ∀ k : Fin 4096, A (ix2 x k) = u (ix2 r k)) (hC : ∀ k : Fin 4096, C (ix2 k y) = w (ix2 k j)) :
    (∑ k : Fin 4096, A (ix2 x k) * C (ix2 k y)) = at_ u w r j :=
  Finset.sum_congr rfl fun k _ => by rw [hA k, hC k]

end Cert.Mm

end
-- ==== Proof.Mm.InQk.lean ====
module

public import proofs.«01_k».proof.Defs
public import proofs.«01_k».proof.Proof.Mm.Proj
public import proofs.«01_k».proof.Proof.Gen.Kernel5Ideal.Value
public import proofs.«01_k».proof.Proof.Gen.Reference5Ideal.Run
public import Idealize.ShloMosaic.Lib.Pipeline.Covers
public import Idealize.ShloMosaic.Lib.Pipeline.ReadBack
public import Idealize.ShloMosaic.Lib.Pointwise
public import Idealize.ShloMosaic.Lib.MatmulPlain
public import Idealize.ShloMosaic.Lib.Pipeline.ValueKit
public import Idealize.ShloMosaic.Lib.Claim

@[expose] public section

/-! # The input projection's columns for the mLSTM's queries and keys -/

noncomputable section

namespace Cert.Kernel5Ideal.Value

open Cert.Kernel5Ideal Cert.Kernel5Ideal.Gen Idealize.ShloMosaic Idealize.ShloMosaic.TcCoe Idealize.SL.Sem
open Idealize.ShloMosaic.Pipeline (Dat)
open Cert.Mm
open scoped BigOperators

variable (m : (ℓ : Loc nD τ sig) → Buf (Elt Ideal) ℓ)

/-- The block index of every window, by the grid's coordinates. -/
theorem index_eq : ∀ t : Fin cfg0.N,
    win0_0.index t 0 = (grid0.coords t 0).val ∧ win0_0.index t 1 = 0 ∧ win0_1.index t 0 = 0 ∧ win0_1.index t 1 = (grid0.coords t 1).val
    ∧ win0_2.index t 0 = (grid0.coords t 0).val ∧ win0_2.index t 1 = (grid0.coords t 1).val := by
  decide +kernel

theorem blk0 (c : Dev nD) (t : Fin cfg0.N) (x : S1536x4096.Idx) (i : S16896x4096.Idx)
    (h0 : (i 0).val = 1536 * (grid0.coords t 0).val + (x 0).val) (h1 : (i 1).val = (x 1).val) :
    iblk m c 0 t x = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 1536 + 1 * (x 0).val = (i 0).val; rw [(index_eq t).1]; omega
  | ⟨1, _⟩ => show win0_0.index t 1 * 4096 + 1 * (x 1).val = (i 1).val; rw [(index_eq t).2.1]; omega

theorem blk1 (c : Dev nD) (t : Fin cfg0.N) (x : S4096x512.Idx) (i : S4096x8264.Idx)
    (h0 : (i 0).val = (x 0).val) (h1 : (i 1).val = 512 * (grid0.coords t 1).val + (x 1).val) :
    X0_1 m c t x = m ((c : Thread nD τ).loc main_arg1) i := by
  unfold X0_1 Pipeline.Window.fill
  rw [dif_pos (moved0_1 t x)]
  unfold iblk
  rw [View.read_apply]
  show V m c main_arg1 _ = m (c.tc.loc main_arg1) _
  unfold V
  congr 1
  funext a
  apply Fin.ext
  match a with
  | ⟨0, _⟩ => show win0_1.index t 0 * 4096 + 1 * (x 0).val = (i 0).val; rw [(index_eq t).2.2.1]; omega
  | ⟨1, _⟩ => show win0_1.index t 1 * 512 + 1 * (x 1).val = (i 1).val; rw [(index_eq t).2.2.2.1]; omega

theorem emb2 (t : Fin cfg0.N) (y : S1536x512.Idx) :
    ((((View.whole main_v0).slice (win0_2.rect t)).emb y) 0).val = 1536 * (grid0.coords t 0).val + (y 0).val
    ∧ ((((View.whole main_v0).slice (win0_2.rect t)).emb y) 1).val = 512 * (grid0.coords t 1).val + (y 1).val := by
  constructor
  · show win0_2.index t 0 * 1536 + 1 * (y 0).val = _
    rw [(index_eq t).2.2.2.2.1]; omega
  · show win0_2.index t 1 * 512 + 1 * (y 1).val = _
    rw [(index_eq t).2.2.2.2.2]; omega

/-- The claim's array. -/
abbrev result (u : Input) (w : Weight) : S16896x2048.Idx → EReal := proj 2048 0 (by decide) u w

theorem piece (c : Dev nD) (t : Fin cfg0.N) (A : S1536x4096.Idx → EReal) (C : S4096x512.Idx → EReal)
    (hA : A = iblk m c 0 t) (hC : C = X0_1 m c t) (i : S16896x2048.Idx) (r : Fin 1536) (q : Fin 512)
    (h0 : (i 0).val = 1536 * (grid0.coords t 0).val + r.val) (h1 : (i 1).val = 512 * (grid0.coords t 1).val + q.val) :
    (∑ k : Fin 4096, A (ix2 r k) * C (ix2 k q)) = result (m ((c : Thread nD τ).loc main_arg0)) (m ((c : Thread nD τ).loc main_arg1)) i := by
  subst hA hC
  refine at_of_blocks _ _ _ _ _ _ r q (fun k => blk0 m c t _ _ h0 rfl) fun k => blk1 m c t _ _ rfl ?_
  show 0 + (i 1).val = _
  rw [h1]; exact Nat.zero_add _

set_option maxHeartbeats 1000000 in
theorem out2 (c : Dev nD) : (dats m 0 c).arrAt 2 cfg0.N
    = result (m ((c : Thread nD τ).loc main_arg0)) (m ((c : Thread nD τ).loc main_arg1)) := by
  refine (dats m 0 c).arrAt_eq_of_covers 2 _ (by decide +kernel) fun t hf y => ?_
  blk_simp
  rw [after0_2]; unfold outsAt0
  frame_out
  have e := emb2 t y
  canon_tiles x h <;> open_payloads <;> pointwise
  all_goals
    refine piece m c t (iblk m c 0 t) (X0_1 m c t) rfl rfl _ _ _ ?_ ?_
    · rw [e.1, h0]
    · rw [e.2, h1]

/-- The reference joins the queries' and the keys' columns of the whole product. -/
theorem ref_eq (u : Input) (w : Weight) :
    (concatenate S16896x2048 1 [⟨Reference5Ideal.S16896x1024, (extractStridedSlice Reference5Ideal.S16896x1024 ![0, 0] (Host.dotGeneral (F := Ideal) Reference5Ideal.dot_S16896x4096_S4096x8264_S16896x8264_1_0_0_1_n_n none (extf .f32 (u : FVec Ideal S16896x4096 .bf16) Reference5Ideal.Facts₀.bitsLt_bf16_f32) (extf .f32 (w : FVec Ideal S4096x8264 .bf16) Reference5Ideal.Facts₀.bitsLt_bf16_f32)) Reference5Ideal.Facts₀.slices_S16896x8264_S16896x1024_0_0)⟩,
      ⟨Reference5Ideal.S16896x1024, (extractStridedSlice Reference5Ideal.S16896x1024 ![0, 1024] (Host.dotGeneral (F := Ideal) Reference5Ideal.dot_S16896x4096_S4096x8264_S16896x8264_1_0_0_1_n_n none (extf .f32 (u : FVec Ideal S16896x4096 .bf16) Reference5Ideal.Facts₀.bitsLt_bf16_f32) (extf .f32 (w : FVec Ideal S4096x8264 .bf16) Reference5Ideal.Facts₀.bitsLt_bf16_f32)) Reference5Ideal.Facts₀.slices_S16896x8264_S16896x1024_0_1024)⟩]
      Reference5Ideal.Facts₀.concatenates_S16896x1024_S16896x1024_S16896x2048_d1 : FVec Ideal S16896x2048 .f32) = result u w := by
  funext i
  pointwise
  split
  · exact congrArg (at_ u w (i 0)) (Fin.ext (by show (i 1).val = 0 + (i 1).val; omega))
  · exact congrArg (at_ u w (i 0)) (Fin.ext (by show 1024 + ((i 1).val - 1024) = 0 + (i 1).val; omega))

theorem value : Cert.algebraic_Kernel5Ideal_Reference5Ideal := by
  intro m g m' g' _ hargs
  refine ⟨fun c => result (m ((c : Thread nD τ).loc main_arg0)) (m ((c : Thread nD τ).loc main_arg1)), ?_, ?_⟩
  · refine (θ_run _ _ _).mono (fun r h c => ?_) (run_blocks m g)
    exact ⟨(h c).1.trans (out2 m c), (h c).2⟩
  · refine (θ_run _ _ _).mono (fun r h c => ?_) (Reference5Ideal.Value.run m' g')
    refine ⟨(h c).1.trans ?_, (h c).2⟩
    rw [(hargs c).1, (hargs c).2]
    exact ref_eq _ _

end Cert.Kernel5Ideal.Value

end
-- ==== Proof.Mm.InV.lean ====
module

public import proofs.«01_k».proof.Defs
public import proofs.«01_k».proof.Proof.Mm.Proj
public import proofs.«01_k».proof.Proof.Gen.Kernel6Ideal.Value
public import proofs.«01_k».proof.Proof.Gen.Reference6Ideal.Run
public import Idealize.ShloMosaic.Lib.Pipeline.Covers
public import Idealize.ShloMosaic.Lib.Pipeline.ReadBack
public import Idealize.ShloMosaic.Lib.Pointwise
public import Idealize.ShloMosaic.Lib.MatmulPlain
public import Idealize.ShloMosaic.Lib.Pipeline.ValueKit
public import Idealize.ShloMosaic.Lib.Claim

@[expose] public section

/-! # The input projection's columns for the mLSTM's values -/

noncomputable section

namespace Cert.Kernel6Ideal.Value

open Cert.Kernel6Ideal Cert.Kernel6Ideal.Gen Idealize.ShloMosaic Idealize.ShloMosaic.TcCoe Idealize.SL.Sem
open Idealize.ShloMosaic.Pipeline (Dat)
open Cert.Mm
open scoped BigOperators

variable (m : (ℓ : Loc nD τ sig) → Buf (Elt Ideal) ℓ)

/-- The block index of every window, by the grid's coordinates. -/
theorem index_eq : ∀ t : Fin cfg0.N,
    win0_0.index t 0 = (grid0.coords t 0).val ∧ win0_0.index t 1 = 0 ∧ win0_1.index t 0 = 0 ∧ win0_1.index t 1 = (grid0.coords t 1).val + 4
    ∧ win0_2.index t 0 = (grid0.coords t 0).val ∧ win0_2.index t 1 = (grid0.coords t 1).val := by
  decide +kernel

theorem blk0 (c : Dev nD) (t : Fin cfg0.N) (x : S1536x4096.Idx) (i : S16896x4096.Idx)
    (h0 : (i 0).val = 1536 * (grid0.coords t 0).val + (x 0).val) (h1 : (i 1).val = (x 1).val) :
    iblk m c 0 t x = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 1536 + 1 * (x 0).val = (i 0).val; rw [(index_eq t).1]; omega
  | ⟨1, _⟩ => show win0_0.index t 1 * 4096 + 1 * (x 1).val = (i 1).val; rw [(index_eq t).2.1]; omega

theorem blk1 (c : Dev nD) (t : Fin cfg0.N) (x : S4096x512.Idx) (i : S4096x8264.Idx)
    (h0 : (i 0).val = (x 0).val) (h1 : (i 1).val = 2048 + 512 * (grid0.coords t 1).val + (x 1).val) :
    X0_1 m c t x = m ((c : Thread nD τ).loc main_arg1) i := by
  unfold X0_1 Pipeline.Window.fill
  rw [dif_pos (moved0_1 t x)]
  unfold iblk
  rw [View.read_apply]
  show V m c main_arg1 _ = m (c.tc.loc main_arg1) _
  unfold V
  congr 1
  funext a
  apply Fin.ext
  match a with
  | ⟨0, _⟩ => show win0_1.index t 0 * 4096 + 1 * (x 0).val = (i 0).val; rw [(index_eq t).2.2.1]; omega
  | ⟨1, _⟩ => show win0_1.index t 1 * 512 + 1 * (x 1).val = (i 1).val; rw [(index_eq t).2.2.2.1]; omega

theorem emb2 (t : Fin cfg0.N) (y : S1536x512.Idx) :
    ((((View.whole main_v0).slice (win0_2.rect t)).emb y) 0).val = 1536 * (grid0.coords t 0).val + (y 0).val
    ∧ ((((View.whole main_v0).slice (win0_2.rect t)).emb y) 1).val = 512 * (grid0.coords t 1).val + (y 1).val := by
  constructor
  · show win0_2.index t 0 * 1536 + 1 * (y 0).val = _
    rw [(index_eq t).2.2.2.2.1]; omega
  · show win0_2.index t 1 * 512 + 1 * (y 1).val = _
    rw [(index_eq t).2.2.2.2.2]; omega

/-- The claim's array. -/
abbrev result (u : Input) (w : Weight) : S16896x2048.Idx → EReal := proj 2048 2048 (by decide) u w

theorem piece (c : Dev nD) (t : Fin cfg0.N) (A : S1536x4096.Idx → EReal) (C : S4096x512.Idx → EReal)
    (hA : A = iblk m c 0 t) (hC : C = X0_1 m c t) (i : S16896x2048.Idx) (r : Fin 1536) (q : Fin 512)
    (h0 : (i 0).val = 1536 * (grid0.coords t 0).val + r.val) (h1 : (i 1).val = 512 * (grid0.coords t 1).val + q.val) :
    (∑ k : Fin 4096, A (ix2 r k) * C (ix2 k q)) = result (m ((c : Thread nD τ).loc main_arg0)) (m ((c : Thread nD τ).loc main_arg1)) i := by
  subst hA hC
  refine at_of_blocks _ _ _ _ _ _ r q (fun k => blk0 m c t _ _ h0 rfl) fun k => blk1 m c t _ _ rfl ?_
  show 2048 + (i 1).val = _
  rw [h1]; exact (Nat.add_assoc _ _ _).symm

set_option maxHeartbeats 1000000 in
theorem out2 (c : Dev nD) : (dats m 0 c).arrAt 2 cfg0.N
    = result (m ((c : Thread nD τ).loc main_arg0)) (m ((c : Thread nD τ).loc main_arg1)) := by
  refine (dats m 0 c).arrAt_eq_of_covers 2 _ (by decide +kernel) fun t hf y => ?_
  blk_simp
  rw [after0_2]; unfold outsAt0
  frame_out
  have e := emb2 t y
  canon_tiles x h <;> open_payloads <;> pointwise
  all_goals
    refine piece m c t (iblk m c 0 t) (X0_1 m c t) rfl rfl _ _ _ ?_ ?_
    · rw [e.1, h0]
    · rw [e.2, h1]

/-- The reference takes the values' columns of the whole product. -/
theorem ref_eq (u : Input) (w : Weight) :
    (truncf .bf16 (extractStridedSlice S16896x2048 ![0, 2048] (Host.dotGeneral (F := Ideal) Reference6Ideal.dot_S16896x4096_S4096x8264_S16896x8264_1_0_0_1_n_n none (extf .f32 (u : FVec Ideal S16896x4096 .bf16) Reference6Ideal.Facts₀.bitsLt_bf16_f32) (extf .f32 (w : FVec Ideal S4096x8264 .bf16) Reference6Ideal.Facts₀.bitsLt_bf16_f32)) Reference6Ideal.Facts₀.slices_S16896x8264_S16896x2048_0_2048) Reference6Ideal.Facts₀.bitsLt_bf16_f32 : FVec Ideal S16896x2048 .bf16) = result u w := by
  funext i
  pointwise
  rfl

theorem value : Cert.algebraic_Kernel6Ideal_Reference6Ideal := by
  intro m g m' g' _ hargs
  refine ⟨fun c => result (m ((c : Thread nD τ).loc main_arg0)) (m ((c : Thread nD τ).loc main_arg1)), ?_, ?_⟩
  · refine (θ_run _ _ _).mono (fun r h c => ?_) (run_blocks m g)
    exact ⟨(h c).1.trans (out2 m c), (h c).2⟩
  · refine (θ_run _ _ _).mono (fun r h c => ?_) (Reference6Ideal.Value.run m' g')
    refine ⟨(h c).1.trans ?_, (h c).2⟩
    rw [(hargs c).1, (hargs c).2]
    exact ref_eq _ _

end Cert.Kernel6Ideal.Value

end
-- ==== Proof.Mm.InO.lean ====
module

public import proofs.«01_k».proof.Defs
public import proofs.«01_k».proof.Proof.Mm.Proj
public import proofs.«01_k».proof.Proof.Gen.Kernel7Ideal.Value
public import proofs.«01_k».proof.Proof.Gen.Reference7Ideal.Run
public import Idealize.ShloMosaic.Lib.Pipeline.Covers
public import Idealize.ShloMosaic.Lib.Pipeline.ReadBack
public import Idealize.ShloMosaic.Lib.Pointwise
public import Idealize.ShloMosaic.Lib.MatmulPlain
public import Idealize.ShloMosaic.Lib.Pipeline.ValueKit
public import Idealize.ShloMosaic.Lib.Claim

@[expose] public section

/-! # The input projection's columns for the mLSTM's output gate -/

noncomputable section

namespace Cert.Kernel7Ideal.Value

open Cert.Kernel7Ideal Cert.Kernel7Ideal.Gen Idealize.ShloMosaic Idealize.ShloMosaic.TcCoe Idealize.SL.Sem
open Idealize.ShloMosaic.Pipeline (Dat)
open Cert.Mm
open scoped BigOperators

variable (m : (ℓ : Loc nD τ sig) → Buf (Elt Ideal) ℓ)

/-- The block index of every window, by the grid's coordinates. -/
theorem index_eq : ∀ t : Fin cfg0.N,
    win0_0.index t 0 = (grid0.coords t 0).val ∧ win0_0.index t 1 = 0 ∧ win0_1.index t 0 = 0 ∧ win0_1.index t 1 = (grid0.coords t 1).val + 8
    ∧ win0_2.index t 0 = (grid0.coords t 0).val ∧ win0_2.index t 1 = (grid0.coords t 1).val := by
  decide +kernel

theorem blk0 (c : Dev nD) (t : Fin cfg0.N) (x : S1536x4096.Idx) (i : S16896x4096.Idx)
    (h0 : (i 0).val = 1536 * (grid0.coords t 0).val + (x 0).val) (h1 : (i 1).val = (x 1).val) :
    iblk m c 0 t x = m ((c : Thread nD τ).loc main_arg0) i := by
  unfold iblk
  rw [View.read_apply]
  show V m c main_arg0 _ = m (c.tc.loc main_arg0) _
  unfold V
  congr 1
  funext a
  apply Fin.ext
  match a with
  | ⟨0, _⟩ => show win0_0.index t 0 * 1536 + 1 * (x 0).val = (i 0).val; rw [(index_eq t).1]; omega
  | ⟨1, _⟩ => show win0_0.index t 1 * 4096 + 1 * (x 1).val = (i 1).val; rw [(index_eq t).2.1]; omega

theorem blk1 (c : Dev nD) (t : Fin cfg0.N) (x : S4096x512.Idx) (i : S4096x8264.Idx)
    (h0 : (i 0).val = (x 0).val) (h1 : (i 1).val = 4096 + 512 * (grid0.coords t 1).val + (x 1).val) :
    X0_1 m c t x = m ((c : Thread nD τ).loc main_arg1) i := by
  unfold X0_1 Pipeline.Window.fill
  rw [dif_pos (moved0_1 t x)]
  unfold iblk
  rw [View.read_apply]
  show V m c main_arg1 _ = m (c.tc.loc main_arg1) _
  unfold V
  congr 1
  funext a
  apply Fin.ext
  match a with
  | ⟨0, _⟩ => show win0_1.index t 0 * 4096 + 1 * (x 0).val = (i 0).val; rw [(index_eq t).2.2.1]; omega
  | ⟨1, _⟩ => show win0_1.index t 1 * 512 + 1 * (x 1).val = (i 1).val; rw [(index_eq t).2.2.2.1]; omega

theorem emb2 (t : Fin cfg0.N) (y : S1536x512.Idx) :
    ((((View.whole main_v0).slice (win0_2.rect t)).emb y) 0).val = 1536 * (grid0.coords t 0).val + (y 0).val
    ∧ ((((View.whole main_v0).slice (win0_2.rect t)).emb y) 1).val = 512 * (grid0.coords t 1).val + (y 1).val := by
  constructor
  · show win0_2.index t 0 * 1536 + 1 * (y 0).val = _
    rw [(index_eq t).2.2.2.2.1]; omega
  · show win0_2.index t 1 * 512 + 1 * (y 1).val = _
    rw [(index_eq t).2.2.2.2.2]; omega

/-- The claim's array. -/
abbrev result (u : Input) (w : Weight) : S16896x2048.Idx → EReal := proj 2048 4096 (by decide) u w

theorem piece (c : Dev nD) (t : Fin cfg0.N) (A : S1536x4096.Idx → EReal) (C : S4096x512.Idx → EReal)
    (hA : A = iblk m c 0 t) (hC : C = X0_1 m c t) (i : S16896x2048.Idx) (r : Fin 1536) (q : Fin 512)
    (h0 : (i 0).val = 1536 * (grid0.coords t 0).val + r.val) (h1 : (i 1).val = 512 * (grid0.coords t 1).val + q.val) :
    (∑ k : Fin 4096, A (ix2 r k) * C (ix2 k q)) = result (m ((c : Thread nD τ).loc main_arg0)) (m ((c : Thread nD τ).loc main_arg1)) i := by
  subst hA hC
  refine at_of_blocks _ _ _ _ _ _ r q (fun k => blk0 m c t _ _ h0 rfl) fun k => blk1 m c t _ _ rfl ?_
  show 4096 + (i 1).val = _
  rw [h1]; exact (Nat.add_assoc _ _ _).symm

set_option maxHeartbeats 1000000 in
theorem out2 (c : Dev nD) : (dats m 0 c).arrAt 2 cfg0.N
    = result (m ((c : Thread nD τ).loc main_arg0)) (m ((c : Thread nD τ).loc main_arg1)) := by
  refine (dats m 0 c).arrAt_eq_of_covers 2 _ (by decide +kernel) fun t hf y => ?_
  blk_simp
  rw [after0_2]; unfold outsAt0
  frame_out
  have e := emb2 t y
  canon_tiles x h <;> open_payloads <;> pointwise
  all_goals
    refine piece m c t (iblk m c 0 t) (X0_1 m c t) rfl rfl _ _ _ ?_ ?_
    · rw [e.1, h0]
    · rw [e.2, h1]

/-- The reference takes the output gate's columns of the whole product. -/
theorem ref_eq (u : Input) (w : Weight) :
    (extractStridedSlice S16896x2048 ![0, 4096] (Host.dotGeneral (F := Ideal) Reference7Ideal.dot_S16896x4096_S4096x8264_S16896x8264_1_0_0_1_n_n none (extf .f32 (u : FVec Ideal S16896x4096 .bf16) Reference7Ideal.Facts₀.bitsLt_bf16_f32) (extf .f32 (w : FVec Ideal S4096x8264 .bf16) Reference7Ideal.Facts₀.bitsLt_bf16_f32)) Reference7Ideal.Facts₀.slices_S16896x8264_S16896x2048_0_4096 : FVec Ideal S16896x2048 .f32) = result u w := by
  funext i
  pointwise
  rfl

theorem value : Cert.algebraic_Kernel7Ideal_Reference7Ideal := by
  intro m g m' g' _ hargs
  refine ⟨fun c => result (m ((c : Thread nD τ).loc main_arg0)) (m ((c : Thread nD τ).loc main_arg1)), ?_, ?_⟩
  · refine (θ_run _ _ _).mono (fun r h c => ?_) (run_blocks m g)
    exact ⟨(h c).1.trans (out2 m c), (h c).2⟩
  · refine (θ_run _ _ _).mono (fun r h c => ?_) (Reference7Ideal.Value.run m' g')
    refine ⟨(h c).1.trans ?_, (h c).2⟩
    rw [(hargs c).1, (hargs c).2]
    exact ref_eq _ _

end Cert.Kernel7Ideal.Value

end
-- ==== Proof.Mm.InMisc.lean ====
module

public import proofs.«01_k».proof.Defs
public import proofs.«01_k».proof.Proof.Mm.Proj
public import proofs.«01_k».proof.Proof.Gen.Kernel8Ideal.Value
public import proofs.«01_k».proof.Proof.Gen.Reference8Ideal.Run
public import proofs.«01_k».proof.Proof.Gen.On_columns
public import Idealize.ShloMosaic.Lib.StableHlo.Run
public import Idealize.ShloMosaic.Lib.WordCmp
public import Idealize.ShloMosaic.Lib.Pipeline.Covers
public import Idealize.ShloMosaic.Lib.Pipeline.ReadBack
public import Idealize.ShloMosaic.Lib.Pointwise
public import Idealize.ShloMosaic.Lib.MatmulPlain
public import Idealize.ShloMosaic.Lib.Pipeline.ValueKit
public import Idealize.ShloMosaic.Lib.Claim

@[expose] public section

/-! # The input projection's columns for the attention and the gates -/

noncomputable section

namespace Cert.Kernel8Ideal.Value

open Cert.Kernel8Ideal Cert.Kernel8Ideal.Gen Idealize.ShloMosaic Idealize.ShloMosaic.TcCoe Idealize.SL.Sem
open Idealize.ShloMosaic.Pipeline (Dat)
open Cert.Mm
open scoped BigOperators

variable (m : (ℓ : Loc nD τ sig) → Buf (Elt Ideal) ℓ)

/-- The block index of every window, by the grid's coordinates. -/
theorem index_eq : ∀ t : Fin cfg0.N,
    win0_0.index t 0 = (grid0.coords t 0).val ∧ win0_0.index t 1 = 0 ∧ win0_1.index t 0 = 0 ∧ win0_1.index t 1 = (grid0.coords t 1).val
    ∧ win0_2.index t 0 = (grid0.coords t 0).val ∧ win0_2.index t 1 = (grid0.coords t 1).val := by
  decide +kernel

theorem blk0 (c : Dev nD) (t : Fin cfg0.N) (x : S1536x4096.Idx) (i : S16896x4096.Idx)
    (h0 : (i 0).val = 1536 * (grid0.coords t 0).val + (x 0).val) (h1 : (i 1).val = (x 1).val) :
    iblk m c 0 t x = m ((c : Thread nD τ).loc main_arg0) i := by
  unfold iblk
  rw [View.read_apply]
  rw [← V_main_arg0 m c]
  show V m c main_arg0 _ = V m c main_arg0 _
  congr 1
  funext a
  apply Fin.ext
  match a with
  | ⟨0, _⟩ => show win0_0.index t 0 * 1536 + 1 * (x 0).val = (i 0).val; rw [(index_eq t).1]; omega
  | ⟨1, _⟩ => show win0_0.index t 1 * 4096 + 1 * (x 1).val = (i 1).val; rw [(index_eq t).2.1]; omega

/-- The weight as the call gets it: the columns of the latents, of the gates, columns of zeros, the rotary key's, and its halves swapped. -/
def mixed (w : Weight) : S4096x2304.Idx → EReal :=
  let tail : FVec Ideal S4096x2120 .bf16 := extractStridedSlice S4096x2120 ![0, 6144] (w : FVec Ideal S4096x8264 .bf16) Facts₀.slices_S4096x8264_S4096x2120_0_6144
  let key : FVec Ideal S4096x64 .bf16 := extractStridedSlice S4096x64 ![0, 2056] tail Facts₀.slices_S4096x2120_S4096x64_0_2056
  (concatenate S4096x2304 1 [⟨S4096x2048, (extractStridedSlice S4096x2048 ![0, 8] tail Facts₀.slices_S4096x2120_S4096x2048_0_8 : FVec Ideal S4096x2048 .bf16)⟩,
      ⟨S4096x8, (extractStridedSlice S4096x8 ![0, 0] tail Facts₀.slices_S4096x2120_S4096x8_0_0 : FVec Ideal S4096x8 .bf16)⟩,
      ⟨S4096x120, (broadcastInDim S4096x120 ![] Facts₀.bcast_S_S4096x120 (constant S_ .bf16 0x0000#16) : FVec Ideal S4096x120 .bf16)⟩, ⟨S4096x64, key⟩,
      ⟨S4096x64, (concatenate S4096x64 1 [⟨S4096x32, (Host.negf (extractStridedSlice S4096x32 ![0, 32] key Facts₀.slices_S4096x64_S4096x32_0_32) : FVec Ideal S4096x32 .bf16)⟩,
        ⟨S4096x32, (extractStridedSlice S4096x32 ![0, 0] key Facts₀.slices_S4096x64_S4096x32_0_0 : FVec Ideal S4096x32 .bf16)⟩] Facts₀.concatenates_S4096x32_S4096x32_S4096x64_d1 : FVec Ideal S4096x64 .bf16)⟩]
    Facts₀.concatenates_S4096x2048_S4096x8_S4096x120_S4096x64_S4096x64_S4096x2304_d1 : FVec Ideal S4096x2304 .bf16)

theorem V_mixed (c : Dev nD) : V m c main_v9 = mixed (m ((c : Thread nD τ).loc main_arg1)) := by
  unfold V mixed
  after_results_simp <;> rfl

theorem blk1 (c : Dev nD) (t : Fin cfg0.N) (x : S4096x768.Idx) (i : S4096x2304.Idx)
    (h0 : (i 0).val = (x 0).val) (h1 : (i 1).val = 768 * (grid0.coords t 1).val + (x 1).val) :
    iblk m c 1 t x = V m c main_v9 i := by
  unfold iblk
  rw [View.read_apply]
  show V m c main_v9 _ = V m c main_v9 _
  congr 1
  funext a
  apply Fin.ext
  match a with
  | ⟨0, _⟩ => show win0_1.index t 0 * 4096 + 1 * (x 0).val = (i 0).val; rw [(index_eq t).2.2.1]; omega
  | ⟨1, _⟩ => show win0_1.index t 1 * 768 + 1 * (x 1).val = (i 1).val; rw [(index_eq t).2.2.2.1]; omega

theorem emb2 (t : Fin cfg0.N) (y : S1536x768.Idx) :
    ((((View.whole main_v10).slice (win0_2.rect t)).emb y) 0).val = 1536 * (grid0.coords t 0).val + (y 0).val
    ∧ ((((View.whole main_v10).slice (win0_2.rect t)).emb y) 1).val = 768 * (grid0.coords t 1).val + (y 1).val := by
  constructor
  · show win0_2.index t 0 * 1536 + 1 * (y 0).val = _
    rw [(index_eq t).2.2.2.2.1]; omega
  · show win0_2.index t 1 * 768 + 1 * (y 1).val = _
    rw [(index_eq t).2.2.2.2.2]; omega

/-- The product with the rearranged weight. -/
def prod (u : Input) (x : S4096x2304.Idx → EReal) : S16896x2304.Idx → EReal := fun i => ∑ k : Fin 4096, u (ix2 (i 0) k) * x (ix2 k (i 1))

theorem piece (c : Dev nD) (t : Fin cfg0.N) (W : S4096x2304.Idx → EReal) (hW : V m c main_v9 = W) (A : S1536x4096.Idx → EReal) (C : S4096x768.Idx → EReal)
    (hA : A = iblk m c 0 t) (hC : C = iblk m c 1 t) (i : S16896x2304.Idx) (r : Fin 1536) (q : Fin 768)
    (h0 : (i 0).val = 1536 * (grid0.coords t 0).val + r.val) (h1 : (i 1).val = 768 * (grid0.coords t 1).val + q.val) :
    (∑ k : Fin 4096, A (ix2 r k) * C (ix2 k q)) = prod (m ((c : Thread nD τ).loc main_arg0)) W i := by
  subst hA hC hW
  unfold prod
  refine Finset.sum_congr rfl fun k _ => ?_
  rw [blk0 m c t (ix2 r k) (ix2 (i 0) k) h0 rfl, blk1 m c t (ix2 k q) (ix2 k (i 1)) rfl h1]

set_option maxHeartbeats 1000000 in
theorem out2 (c : Dev nD) (W : S4096x2304.Idx → EReal) (hW : V m c main_v9 = W) : (dats m 0 c).arrAt 2 cfg0.N = prod (m ((c : Thread nD τ).loc main_arg0)) W := by
  refine (dats m 0 c).arrAt_eq_of_covers 2 _ (by decide +kernel) fun t hf y => ?_
  blk_simp
  rw [after0_2]; unfold outsAt0
  frame_out
  have e := emb2 t y
  obtain ⟨A, hA⟩ : ∃ A : S1536x4096.Idx → EReal, A = iblk m c 0 t := ⟨_, rfl⟩
  obtain ⟨C, hC⟩ : ∃ C : S4096x768.Idx → EReal, C = iblk m c 1 t := ⟨_, rfl⟩
  rw [← hA, ← hC]
  canon_tiles x h <;> open_payloads <;> pointwise
  all_goals
    refine piece m c t W hW A C hA hC _ _ _ ?_ ?_
    · rw [e.1, h0]
    · rw [e.2, h1]

/-! ## The columns -/

/-- The result by columns: the latents, the gates, zeros, the rotary key. -/
def result (u : Input) (w : Weight) : S16896x2304.Idx → EReal := fun i =>
  if h : (i 1).val < 2048 then at_ u w (i 0) ⟨6152 + (i 1).val, by omega⟩
  else if h : (i 1).val < 2056 then at_ u w (i 0) ⟨6144 + ((i 1).val - 2048), by omega⟩
  else if h : (i 1).val < 2176 then 0
  else if h : (i 1).val < 2240 then at_ u w (i 0) ⟨8200 + ((i 1).val - 2176), by omega⟩
  else 0

theorem result_latent (u : Input) (w : Weight) (i : S16896x2304.Idx) (h : (i 1).val < 2048) : result u w i = at_ u w (i 0) ⟨6152 + (i 1).val, by omega⟩ := by
  unfold result
  exact dif_pos h

theorem result_gate (u : Input) (w : Weight) (i : S16896x2304.Idx) (h : 2048 ≤ (i 1).val) (h' : (i 1).val < 2056) :
    result u w i = at_ u w (i 0) ⟨6144 + ((i 1).val - 2048), by omega⟩ := by
  unfold result
  exact (dif_neg (by omega)).trans (dif_pos h')

theorem result_rest (u : Input) (w : Weight) (i : S16896x2304.Idx) (h : 2056 ≤ (i 1).val) (h' : (i 1).val < 2176) : result u w i = 0 := by
  unfold result
  exact (dif_neg (by omega)).trans ((dif_neg (by omega)).trans (dif_pos h'))

theorem result_key (u : Input) (w : Weight) (i : S16896x2304.Idx) (h : 2176 ≤ (i 1).val) (h' : (i 1).val < 2240) :
    result u w i = at_ u w (i 0) ⟨8200 + ((i 1).val - 2176), by omega⟩ := by
  unfold result
  exact (dif_neg (by omega)).trans ((dif_neg (by omega)).trans ((dif_neg (by omega)).trans (dif_pos h')))

theorem mixed_latent (w : Weight) (k : Fin 4096) (j : Fin 2304) (h : j.val < 2048) : mixed w (ix2 k j) = w (ix2 k ⟨6152 + j.val, by omega⟩) := by
  unfold mixed
  pointwise
  refine (dif_pos h).trans (congrArg (fun y => w (ix2 k y)) (Fin.ext ?_))
  show 6144 + (8 + j.val) = 6152 + j.val
  omega

theorem mixed_gate (w : Weight) (k : Fin 4096) (j : Fin 2304) (h : 2048 ≤ j.val) (h' : j.val < 2056) : mixed w (ix2 k j) = w (ix2 k ⟨6144 + (j.val - 2048), by omega⟩) := by
  unfold mixed
  pointwise
  exact (dif_neg (by omega)).trans (dif_pos (by omega))

theorem mixed_rest (w : Weight) (k : Fin 4096) (j : Fin 2304) (h : 2056 ≤ j.val) (h' : j.val < 2176) : mixed w (ix2 k j) = 0 := by
  unfold mixed
  pointwise
  exact (dif_neg (by omega)).trans ((dif_neg (by omega)).trans (dif_pos (by omega)))

theorem mixed_key (w : Weight) (k : Fin 4096) (j : Fin 2304) (h : 2176 ≤ j.val) (h' : j.val < 2240) : mixed w (ix2 k j) = w (ix2 k ⟨8200 + (j.val - 2176), by omega⟩) := by
  unfold mixed
  pointwise
  refine (dif_neg (by omega)).trans ((dif_neg (by omega)).trans ((dif_neg (by omega)).trans ((dif_pos (by omega)).trans (congrArg (fun y => w (ix2 k y)) (Fin.ext ?_)))))
  show 6144 + (2056 + (j.val - 2048 - 8 - 120)) = 8200 + (j.val - 2176)
  omega

theorem prod_mixed (u : Input) (w : Weight) (i : S16896x2304.Idx) (h : (i 1).val < 2240) : prod u (mixed w) i = result u w i := by
  unfold prod
  obtain h1 | h1 := Nat.lt_or_ge (i 1).val 2048
  · rw [result_latent u w i h1]
    exact Finset.sum_congr rfl fun k _ => congrArg (u (ix2 (i 0) k) * ·) (mixed_latent w k (i 1) h1)
  obtain h2 | h2 := Nat.lt_or_ge (i 1).val 2056
  · rw [result_gate u w i h1 h2]
    exact Finset.sum_congr rfl fun k _ => congrArg (u (ix2 (i 0) k) * ·) (mixed_gate w k (i 1) h1 h2)
  obtain h3 | h3 := Nat.lt_or_ge (i 1).val 2176
  · rw [result_rest u w i h2 h3]
    exact Finset.sum_eq_zero fun k _ => (congrArg (u (ix2 (i 0) k) * ·) (mixed_rest w k (i 1) h2 h3)).trans (mul_zero _)
  · rw [result_key u w i h3 h]
    exact Finset.sum_congr rfl fun k _ => congrArg (u (ix2 (i 0) k) * ·) (mixed_key w k (i 1) h3 h)

/-- The reference joins the columns of the whole product. -/
theorem ref_eq (u : Input) (w : Weight) (z : FVec Ideal Reference8Ideal.S16896x8264 .f32)
    (hz : z = Host.dotGeneral (F := Ideal) Reference8Ideal.dot_S16896x4096_S4096x8264_S16896x8264_1_0_0_1_n_n none (extf .f32 (u : FVec Ideal S16896x4096 .bf16) Reference8Ideal.Facts₀.bitsLt_bf16_f32) (extf .f32 (w : FVec Ideal S4096x8264 .bf16) Reference8Ideal.Facts₀.bitsLt_bf16_f32)) :
    (concatenate Reference8Ideal.S16896x2304 1 [⟨Reference8Ideal.S16896x1536, ((extractStridedSlice Reference8Ideal.S16896x1536 ![0, 6152] z Reference8Ideal.Facts₀.slices_S16896x8264_S16896x1536_0_6152) : FVec Ideal Reference8Ideal.S16896x1536 .f32)⟩, ⟨Reference8Ideal.S16896x512, ((extractStridedSlice Reference8Ideal.S16896x512 ![0, 7688] z Reference8Ideal.Facts₀.slices_S16896x8264_S16896x512_0_7688) : FVec Ideal Reference8Ideal.S16896x512 .f32)⟩, ⟨Reference8Ideal.S16896x4, ((extractStridedSlice Reference8Ideal.S16896x4 ![0, 6144] z Reference8Ideal.Facts₀.slices_S16896x8264_S16896x4_0_6144) : FVec Ideal Reference8Ideal.S16896x4 .f32)⟩, ⟨Reference8Ideal.S16896x4, ((extractStridedSlice Reference8Ideal.S16896x4 ![0, 6148] z Reference8Ideal.Facts₀.slices_S16896x8264_S16896x4_0_6148) : FVec Ideal Reference8Ideal.S16896x4 .f32)⟩, ⟨Reference8Ideal.S16896x120, ((broadcastInDim Reference8Ideal.S16896x120 ![] Reference8Ideal.Facts₀.bcast_S_S16896x120 (constant Reference8Ideal.S_ .f32 0x00000000#32)) : FVec Ideal Reference8Ideal.S16896x120 .f32)⟩, ⟨Reference8Ideal.S16896x64, ((extractStridedSlice Reference8Ideal.S16896x64 ![0, 8200] z Reference8Ideal.Facts₀.slices_S16896x8264_S16896x64_0_8200) : FVec Ideal Reference8Ideal.S16896x64 .f32)⟩, ⟨Reference8Ideal.S16896x64, ((broadcastInDim Reference8Ideal.S16896x64 ![] Reference8Ideal.Facts₀.bcast_S_S16896x64 (constant Reference8Ideal.S_ .f32 0x00000000#32)) : FVec Ideal Reference8Ideal.S16896x64 .f32)⟩] Reference8Ideal.Facts₀.concatenates_S16896x1536_S16896x512_S16896x4_S16896x4_S16896x120_S16896x64_S16896x64_S16896x2304_d1 : FVec Ideal Reference8Ideal.S16896x2304 .f32) = result u w := by
  funext i
  unfold result
  subst hz
  pointwise
  by_cases h1 : (i 1).val < 2048
  · rw [dif_pos h1]
    by_cases h0 : (i 1).val < 1536
    · rw [dif_pos h0]
      rfl
    · rw [dif_neg h0, dif_pos (by omega)]
      exact congrArg (at_ u w (i 0)) (Fin.ext (by show 7688 + ((i 1).val - 1536) = 6152 + (i 1).val; omega))
  rw [dif_neg h1, dif_neg (by omega), dif_neg (by omega)]
  by_cases h2 : (i 1).val < 2056
  · rw [dif_pos h2]
    by_cases h0 : (i 1).val < 2052
    · rw [dif_pos (by omega)]
      exact congrArg (at_ u w (i 0)) (Fin.ext (by show 6144 + ((i 1).val - 1536 - 512) = 6144 + ((i 1).val - 2048); omega))
    · rw [dif_neg (by omega), dif_pos (by omega)]
      exact congrArg (at_ u w (i 0)) (Fin.ext (by show 6148 + ((i 1).val - 1536 - 512 - 4) = 6144 + ((i 1).val - 2048); omega))
  rw [dif_neg h2, dif_neg (by omega), dif_neg (by omega)]
  by_cases h3 : (i 1).val < 2176
  · rw [dif_pos h3, dif_pos (by omega)]
  rw [dif_neg h3, dif_neg (by omega)]
  by_cases h4 : (i 1).val < 2240
  · rw [dif_pos h4, dif_pos (by omega)]
    exact congrArg (at_ u w (i 0)) (Fin.ext (by show 8200 + ((i 1).val - 1536 - 512 - 4 - 4 - 120) = 8200 + ((i 1).val - 2176); omega))
  · rw [dif_neg h4, dif_neg (by omega)]

theorem column (u : Input) (w : Weight) (i : S16896x2304.Idx) (h : Cert.On_columns.fn (F := Ideal) u w i = 1#1) : (i 1).val < 2240 := by
  have hi : (i 1).val < 2304 := (i 1).isLt
  have h' : IntOp.cmpi .slt (BitVec.ofNat 32 (i 1).val) (BitVec.ofNat 32 2240) = 1#1 := h
  rw [WordCmp.cmpi_slt_ofNat (by omega) (by norm_num)] at h'
  exact (WordCmp.ofBool_decide_eq_one_iff _).1 h'

theorem value : Cert.algebraic_Kernel8Ideal_Reference8Ideal_on_columns := by
  intro m g m' g' _ hargs
  refine ⟨fun c => result (m ((c : Thread nD τ).loc main_arg0)) (m ((c : Thread nD τ).loc main_arg1)), ?_, ?_⟩
  · refine (θ_run _ _ _).mono (fun r h c => ?_) (run_blocks m g)
    refine ⟨fun i hi => ?_, (h c).2⟩
    rw [(h c).1, out2 m c _ (V_mixed m c)]
    exact prod_mixed _ _ i (column _ _ i hi)
  · refine (θ_run _ _ _).mono (fun r h c => ?_) (Reference8Ideal.Value.run m' g')
    refine ⟨fun i _ => ?_, (h c).2⟩
    rw [(h c).1, (hargs c).1, (hargs c).2]
    exact congrFun (ref_eq _ _ _ rfl) i

end Cert.Kernel8Ideal.Value

end
-- ==== Proof.Norm.Rms.lean ====
module

public import Idealize.ShloMosaic.Lib.Pointwise
public import Idealize.ShloMosaic.Lib.ValueIdx

@[expose] public section

/-! # The root mean square norm of a row -/

noncomputable section

namespace Cert.Norm

open Idealize.ShloMosaic
open scoped BigOperators

/-- A row of the layer, or a gain. -/
abbrev Row : Type := Fin 4096 → EReal

/-- An element of a row over the root of the mean of its squares and the small constant, times the gain. -/
def rms (x g : Row) (q : Fin 4096) : EReal :=
  x q * Ideal.rsqrt (Ideal.div (∑ k : Fin 4096, x k * x k) (Ideal.ofBits .f32 0x45800000#32) + Ideal.ofBits .f32 0x358637BD#32) * g q

/-- A row of an array. -/
def row {n : ℕ} (x : (⟨2, ![n, 4096]⟩ : Shape).Idx → EReal) (r : Fin n) : Row := fun k => x (ix2 r k)

/-- A gain as a row. -/
def gain (g : (⟨1, ![4096]⟩ : Shape).Idx → EReal) : Row := fun k => g (ix1 k)

theorem row_eq {n : ℕ} (x : (⟨2, ![n, 4096]⟩ : Shape).Idx → EReal) (i : (⟨2, ![n, 4096]⟩ : Shape).Idx) : x i = row x (i 0) (i 1) := by
  unfold row
  congr 1
  funext a
  match a with | ⟨0, _⟩ => rfl | ⟨1, _⟩ => rfl

/-- The norm of a row of an array, written at an index. -/
theorem rms_eq {n : ℕ} (x : (⟨2, ![n, 4096]⟩ : Shape).Idx → EReal) (g : (⟨2, ![1, 4096]⟩ : Shape).Idx → EReal) (i : (⟨2, ![n, 4096]⟩ : Shape).Idx) :
    x i * Ideal.rsqrt (Ideal.div (∑ k : Fin 4096, x (ix2 (i 0) k) * x (ix2 (i 0) k)) (Ideal.ofBits .f32 0x45800000#32) + Ideal.ofBits .f32 0x358637BD#32) * g (ix2 0 (i 1))
      = rms (row x (i 0)) (row g 0) (i 1) := by
  rw [row_eq x i]
  rfl

end Cert.Norm

end
-- ==== Proof.Norm.Final.lean ====
module

public import proofs.«01_k».proof.Defs
public import proofs.«01_k».proof.Proof.Norm.Rms
public import proofs.«01_k».proof.Proof.Gen.Kernel9Ideal.Value
public import proofs.«01_k».proof.Proof.Gen.Reference9Ideal.Run
public import Idealize.ShloMosaic.Lib.Pipeline.Covers
public import Idealize.ShloMosaic.Lib.Pipeline.ReadBack
public import Idealize.ShloMosaic.Lib.Pointwise
public import Idealize.ShloMosaic.Lib.Pipeline.ValueKit
public import Idealize.ShloMosaic.Lib.Claim

@[expose] public section

/-! # The layer's result: the residual and the norm of the feed-forward output, without the rows in front of the sequence -/

noncomputable section

namespace Cert.Kernel9Ideal.Value

open Cert.Kernel9Ideal Cert.Kernel9Ideal.Gen Idealize.ShloMosaic Idealize.ShloMosaic.TcCoe Idealize.SL.Sem
open Idealize.ShloMosaic.Pipeline (Dat)
open Cert.Norm
open scoped BigOperators

variable (m : (ℓ : Loc nD τ sig) → Buf (Elt Ideal) ℓ)

/-- The block index of every window, by the grid's coordinate. -/
theorem index_eq : ∀ t : Fin cfg0.N,
    win0_0.index t 0 = (grid0.coords t 0).val + 2 ∧ win0_0.index t 1 = 0 ∧ win0_1.index t 0 = (grid0.coords t 0).val + 2 ∧ win0_1.index t 1 = 0
    ∧ win0_2.index t 0 = 0 ∧ win0_2.index t 1 = 0 ∧ win0_3.index t 0 = (grid0.coords t 0).val ∧ win0_3.index t 1 = 0 := by
  decide +kernel

theorem blk0 (c : Dev nD) (t : Fin cfg0.N) (x : S256x4096.Idx) (i : S16896x4096.Idx)
    (h0 : (i 0).val = 512 + (256 * (grid0.coords t 0).val + (x 0).val)) (h1 : (i 1).val = (x 1).val) :
    iblk m c 0 t x = m ((c : Thread nD τ).loc main_arg0) i := by
  unfold iblk
  rw [View.read_apply]
  rw [← V_main_arg0 m c]
  show V m c main_arg0 _ = V m c main_arg0 _
  congr 1
  funext a
  apply Fin.ext
  match a with
  | ⟨0, _⟩ => show win0_0.index t 0 * 256 + 1 * (x 0).val = (i 0).val; rw [(index_eq t).1]; omega
  | ⟨1, _⟩ => show win0_0.index t 1 * 4096 + 1 * (x 1).val = (i 1).val; rw [(index_eq t).2.1]; omega

theorem blk1 (c : Dev nD) (t : Fin cfg0.N) (x : S256x4096.Idx) (i : S16896x4096.Idx)
    (h0 : (i 0).val = 512 + (256 * (grid0.coords t 0).val + (x 0).val)) (h1 : (i 1).val = (x 1).val) :
    iblk m c 1 t x = m ((c : Thread nD τ).loc main_arg1) i := by
  unfold iblk
  rw [View.read_apply]
  rw [← V_main_arg1 m c]
  show V m c main_arg1 _ = V m c main_arg1 _
  congr 1
  funext a
  apply Fin.ext
  match a with
  | ⟨0, _⟩ => show win0_1.index t 0 * 256 + 1 * (x 0).val = (i 0).val; rw [(index_eq t).2.2.1]; omega
  | ⟨1, _⟩ => show win0_1.index t 1 * 4096 + 1 * (x 1).val = (i 1).val; rw [(index_eq t).2.2.2.1]; omega

/-- The gain as the call gets it: a row. -/
theorem V_gain (c : Dev nD) (i : S1x4096.Idx) : V m c main_v0 i = m ((c : Thread nD τ).loc main_arg2) (ix1 (i 1)) := by
  have e : V m c main_v0 = (broadcastInDim S1x4096 ![1] bcast_S4096_S1x4096_1 (m ((c : Thread nD τ).loc main_arg2) : FVec Ideal S4096 .f32) : FVec Ideal S1x4096 .f32) := by
    unfold V
    after_results_simp <;> rfl
  rw [e]
  pointwise

theorem blk2 (c : Dev nD) (t : Fin cfg0.N) (x : S1x4096.Idx) :
    iblk m c 2 t x = m ((c : Thread nD τ).loc main_arg2) (ix1 (x 1)) := by
  unfold iblk
  rw [View.read_apply]
  show V m c main_v0 _ = _
  rw [V_gain]
  congr 2
  apply Fin.ext
  show win0_2.index t 1 * 4096 + 1 * (x 1).val = (x 1).val
  rw [(index_eq t).2.2.2.2.2.1]; omega

theorem emb3 (t : Fin cfg0.N) (y : S256x4096.Idx) :
    ((((View.whole main_v1).slice (win0_3.rect t)).emb y) 0).val = 256 * (grid0.coords t 0).val + (y 0).val
    ∧ ((((View.whole main_v1).slice (win0_3.rect t)).emb y) 1).val = (y 1).val := by
  constructor
  · show win0_3.index t 0 * 256 + 1 * (y 0).val = _
    rw [(index_eq t).2.2.2.2.2.2.1]; omega
  · show win0_3.index t 1 * 4096 + 1 * (y 1).val = _
    rw [(index_eq t).2.2.2.2.2.2.2]; omega

/-- The row of the padded sequence that a row of the result comes from. -/
def src (r : Fin 16384) : Fin 16896 := ⟨512 + r.val, by omega⟩

/-- The claim's array. -/
def result (x y : S16896x4096.Idx → EReal) (g : S4096.Idx → EReal) : S16384x4096.Idx → EReal := fun i =>
  row x (src (i 0)) (i 1) + rms (row y (src (i 0))) (gain g) (i 1)

/-- One block's value is the layer's, at the block's place. -/
theorem piece (c : Dev nD) (t : Fin cfg0.N) (A B : S256x4096.Idx → EReal) (G : S1x4096.Idx → EReal)
    (hA : A = iblk m c 0 t) (hB : B = iblk m c 1 t) (hG : G = iblk m c 2 t) (i : S16384x4096.Idx) (r : Fin 256) (q : Fin 4096)
    (h0 : (i 0).val = 256 * (grid0.coords t 0).val + r.val) (h1 : (i 1).val = q.val) :
    row A r q + rms (row B r) (row G 0) q
      = result (m ((c : Thread nD τ).loc main_arg0)) (m ((c : Thread nD τ).loc main_arg1)) (m ((c : Thread nD τ).loc main_arg2)) i := by
  subst hA hB hG
  have hs : (src (i 0)).val = 512 + (256 * (grid0.coords t 0).val + r.val) := by rw [← h0]; rfl
  obtain rfl : i 1 = q := Fin.ext h1
  have e1 : row (iblk m c 1 t) r = row (m ((c : Thread nD τ).loc main_arg1)) (src (i 0)) := funext fun k => blk1 m c t _ _ hs rfl
  have e2 : row (iblk m c 2 t) 0 = gain (m ((c : Thread nD τ).loc main_arg2)) := funext fun k => blk2 m c t _
  unfold result
  rw [e1, e2]
  congr 1
  exact blk0 m c t _ _ hs rfl

set_option maxHeartbeats 1000000 in
theorem out3 (c : Dev nD) : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have e := emb3 t y
  have p := piece m c t _ _ _ rfl rfl rfl _ (y 0) (y 1) e.1 e.2
  refine Eq.trans ?_ p
  generalize iblk m c 0 t = A
  generalize iblk m c 1 t = B
  generalize iblk m c 2 t = G
  unfold out0_3
  frame_out
  open_payloads
  pointwise
  exact congrArg₂ (· + ·) (row_eq A y) (rms_eq B G y)

theorem ref_eq (x y : S16896x4096.Idx → EReal) (g : S4096.Idx → EReal) :
    (extractStridedSlice S16384x4096 ![512, 0] (addf (x : FVec Ideal S16896x4096 .f32) (mulf (mulf (y : FVec Ideal S16896x4096 .f32) (broadcastInDim S16896x4096 ![0, 1] Reference9Ideal.Facts₀.bcast_S16896x1_S16896x4096_0_1 (Host.rsqrt (addf (Host.divf (broadcastInDim Reference9Ideal.S16896x1 ![0] Reference9Ideal.Facts₀.bcast_S16896_S16896x1_0 (Host.reduceAdd (mulf (y : FVec Ideal S16896x4096 .f32) (y : FVec Ideal S16896x4096 .f32)) (constant Reference9Ideal.S_ .f32 0x00000000#32) Reference9Ideal.Facts₀.reducesTo_S16896x4096_S16896_d1 Reference9Ideal.Facts₀.h_S_)) (broadcastInDim Reference9Ideal.S16896x1 ![] Reference9Ideal.Facts₀.bcast_S_S16896x1 (constant Reference9Ideal.S_ .f32 0x45800000#32))) (broadcastInDim Reference9Ideal.S16896x1 ![] Reference9Ideal.Facts₀.bcast_S_S16896x1 (constant Reference9Ideal.S_ .f32 0x358637BD#32)))))) (broadcastInDim S16896x4096 ![0, 1] Reference9Ideal.Facts₀.bcast_S1x4096_S16896x4096_0_1 (broadcastInDim Reference9Ideal.S1x4096 ![1] Reference9Ideal.Facts₀.bcast_S4096_S1x4096_1 (g : FVec Ideal S4096 .f32))))) Reference9Ideal.Facts₀.slices_S16896x4096_S16384x4096_512_0 : FVec Ideal S16384x4096 .f32) = result x y g := by
  funext i
  pointwise
  rfl

theorem value : Cert.algebraic_Kernel9Ideal_Reference9Ideal := by
  intro m g m' g' _ hargs
  refine ⟨fun c => result (m ((c : Thread nD τ).loc main_arg0)) (m ((c : Thread nD τ).loc main_arg1)) (m ((c : Thread nD τ).loc main_arg2)), ?_, ?_⟩
  · refine (θ_run _ _ _).mono (fun r h c => ?_) (run_blocks m g)
    exact ⟨(h c).1.trans (out3 m c), (h c).2⟩
  · refine (θ_run _ _ _).mono (fun r h c => ?_) (Reference9Ideal.Value.run m' g')
    refine ⟨(h c).1.trans ?_, (h c).2⟩
    rw [(hargs c).1, (hargs c).2.1, (hargs c).2.2]
    exact ref_eq _ _ _

end Cert.Kernel9Ideal.Value

end
-- ==== Proof.Norm.Mid.lean ====
module

public import proofs.«01_k».proof.Defs
public import proofs.«01_k».proof.Proof.Norm.Rms
public import proofs.«01_k».proof.Proof.Gen.Kernel10Ideal.Value
public import proofs.«01_k».proof.Proof.Gen.Reference10Ideal.Run
public import Idealize.ShloMosaic.Lib.Pipeline.Covers
public import Idealize.ShloMosaic.Lib.Pipeline.ReadBack
public import Idealize.ShloMosaic.Lib.Pointwise
public import Idealize.ShloMosaic.Lib.Pipeline.ValueKit
public import Idealize.ShloMosaic.Lib.Claim

@[expose] public section

/-! # The residual between two parts of a layer, and its norm for the next part -/

noncomputable section

namespace Cert.Kernel10Ideal.Value

open Cert.Kernel10Ideal Cert.Kernel10Ideal.Gen Idealize.ShloMosaic Idealize.ShloMosaic.TcCoe Idealize.SL.Sem
open Idealize.ShloMosaic.Pipeline (Dat)
open Cert.Norm
open scoped BigOperators

variable (m : (ℓ : Loc nD τ sig) → Buf (Elt Ideal) ℓ)

/-- The block index of every window, by the grid's coordinate. -/
theorem index_eq : ∀ t : Fin cfg0.N,
    win0_0.index t 0 = (grid0.coords t 0).val ∧ win0_0.index t 1 = 0 ∧ win0_1.index t 0 = (grid0.coords t 0).val ∧ win0_1.index t 1 = 0
    ∧ win0_2.index t 1 = 0 ∧ win0_3.index t 1 = 0 ∧ win0_4.index t 0 = (grid0.coords t 0).val ∧ win0_4.index t 1 = 0
    ∧ win0_5.index t 0 = (grid0.coords t 0).val ∧ win0_5.index t 1 = 0 := by
  decide +kernel

theorem blk0 (c : Dev nD) (t : Fin cfg0.N) (x : S256x4096.Idx) (i : S16896x4096.Idx)
    (h0 : (i 0).val = 256 * (grid0.coords t 0).val + (x 0).val) (h1 : (i 1).val = (x 1).val) :
    iblk m c 0 t x = m ((c : Thread nD τ).loc main_arg0) i := by
  unfold iblk
  rw [View.read_apply]
  rw [← V_main_arg0 m c]
  show V m c main_arg0 _ = V m c main_arg0 _
  congr 1
  funext a
  apply Fin.ext
  match a with
  | ⟨0, _⟩ => show win0_0.index t 0 * 256 + 1 * (x 0).val = (i 0).val; rw [(index_eq t).1]; omega
  | ⟨1, _⟩ => show win0_0.index t 1 * 4096 + 1 * (x 1).val = (i 1).val; rw [(index_eq t).2.1]; omega

theorem blk1 (c : Dev nD) (t : Fin cfg0.N) (x : S256x4096.Idx) (i : S16896x4096.Idx)
    (h0 : (i 0).val = 256 * (grid0.coords t 0).val + (x 0).val) (h1 : (i 1).val = (x 1).val) :
    iblk m c 1 t x = m ((c : Thread nD τ).loc main_arg1) i := by
  unfold iblk
  rw [View.read_apply]
  rw [← V_main_arg1 m c]
  show V m c main_arg1 _ = V m c main_arg1 _
  congr 1
  funext a
  apply Fin.ext
  match a with
  | ⟨0, _⟩ => show win0_1.index t 0 * 256 + 1 * (x 0).val = (i 0).val; rw [(index_eq t).2.2.1]; omega
  | ⟨1, _⟩ => show win0_1.index t 1 * 4096 + 1 * (x 1).val = (i 1).val; rw [(index_eq t).2.2.2.1]; omega

/-- The gains as the call gets them: rows. -/
theorem V_gain (c : Dev nD) (i : S1x4096.Idx) : V m c main_v0 i = m ((c : Thread nD τ).loc main_arg2) (ix1 (i 1)) := by
  have e : V m c main_v0 = (broadcastInDim S1x4096 ![1] bcast_S4096_S1x4096_1 (m ((c : Thread nD τ).loc main_arg2) : FVec Ideal S4096 .f32) : FVec Ideal S1x4096 .f32) := by
    unfold V
    after_results_simp <;> rfl
  rw [e]
  pointwise

theorem V_next (c : Dev nD) (i : S1x4096.Idx) : V m c main_v1 i = m ((c : Thread nD τ).loc main_arg3) (ix1 (i 1)) := by
  have e : V m c main_v1 = (broadcastInDim S1x4096 ![1] bcast_S4096_S1x4096_1 (m ((c : Thread nD τ).loc main_arg3) : FVec Ideal S4096 .f32) : FVec Ideal S1x4096 .f32) := by
    unfold V
    after_results_simp <;> rfl
  rw [e]
  pointwise

theorem blk2 (c : Dev nD) (t : Fin cfg0.N) (x : S1x4096.Idx) :
    iblk m c 2 t x = m ((c : Thread nD τ).loc main_arg2) (ix1 (x 1)) := by
  unfold iblk
  rw [View.read_apply]
  show V m c main_v0 _ = _
  rw [V_gain]
  congr 2
  apply Fin.ext
  show win0_2.index t 1 * 4096 + 1 * (x 1).val = (x 1).val
  rw [(index_eq t).2.2.2.2.1]; omega

theorem blk3 (c : Dev nD) (t : Fin cfg0.N) (x : S1x4096.Idx) :
    iblk m c 3 t x = m ((c : Thread nD τ).loc main_arg3) (ix1 (x 1)) := by
  unfold iblk
  rw [View.read_apply]
  show V m c main_v1 _ = _
  rw [V_next]
  congr 2
  apply Fin.ext
  show win0_3.index t 1 * 4096 + 1 * (x 1).val = (x 1).val
  rw [(index_eq t).2.2.2.2.2.1]; omega

theorem emb4 (t : Fin cfg0.N) (y : S256x4096.Idx) :
    ((((View.whole main_v2_0).slice (win0_4.rect t)).emb y) 0).val = 256 * (grid0.coords t 0).val + (y 0).val
    ∧ ((((View.whole main_v2_0).slice (win0_4.rect t)).emb y) 1).val = (y 1).val := by
  constructor
  · show win0_4.index t 0 * 256 + 1 * (y 0).val = _
    rw [(index_eq t).2.2.2.2.2.2.1]; omega
  · show win0_4.index t 1 * 4096 + 1 * (y 1).val = _
    rw [(index_eq t).2.2.2.2.2.2.2.1]; omega

theorem emb5 (t : Fin cfg0.N) (y : S256x4096.Idx) :
    ((((View.whole main_v2_1).slice (win0_5.rect t)).emb y) 0).val = 256 * (grid0.coords t 0).val + (y 0).val
    ∧ ((((View.whole main_v2_1).slice (win0_5.rect t)).emb y) 1).val = (y 1).val := by
  constructor
  · show win0_5.index t 0 * 256 + 1 * (y 0).val = _
    rw [(index_eq t).2.2.2.2.2.2.2.2.1]; omega
  · show win0_5.index t 1 * 4096 + 1 * (y 1).val = _
    rw [(index_eq t).2.2.2.2.2.2.2.2.2]; omega

/-- A row of the residual: zero in front of the meta tokens. -/
def kept (r : ℕ) (x y g : Row) : Row := fun q => if 496 ≤ r then x q + rms y g q else 0

/-- The residual. -/
def resid (x y : S16896x4096.Idx → EReal) (g : S4096.Idx → EReal) : S16896x4096.Idx → EReal := fun i =>
  kept (i 0).val (row x (i 0)) (row y (i 0)) (gain g) (i 1)

/-- Its norm. -/
def normed (h : S16896x4096.Idx → EReal) (g : S4096.Idx → EReal) : S16896x4096.Idx → EReal := fun i =>
  rms (row h (i 0)) (gain g) (i 1)

/-- The rows' numbers as words: small numbers compare as numbers. -/
theorem from_iff {a r : ℕ} (h : 256 * a + r < 2 ^ 31) :
    IntOp.cmpi CmpIPredicate.sge (IntOp.addi (Scalar.muli (BitVec.ofNat 32 a) 256#32) (BitVec.ofNat 32 r)) 496#32 = 1#1 ↔ 496 ≤ 256 * a + r := by
  have e : IntOp.addi (Scalar.muli (BitVec.ofNat 32 a) 256#32) (BitVec.ofNat 32 r) = BitVec.ofNat 32 (256 * a + r) := by
    rw [mul_comm, BitVec.ofNat_add, BitVec.ofNat_mul]
    rfl
  rw [e, WordCmp.cmpi_sge_ofNat h (by norm_num), WordCmp.ofBool_decide_eq_one_iff]

/-- What a block of the residual holds. -/
theorem pay2_eq (i : grid0.Coords) (A B : S256x4096.Idx → EReal) (G : S1x4096.Idx → EReal) (y : S256x4096.Idx) :
    k0_pay2 (F := Ideal) i A B G y = kept (256 * (i 0).val + (y 0).val) (row A (y 0)) (row B (y 0)) (row G 0) (y 1) := by
  have hi : (i 0).val < 66 := (i 0).isLt
  have hy : (y 0).val < 256 := (y 0).isLt
  open_payloads
  pointwise
  have key := from_iff (a := (i 0).val) (r := (y 0).val) (by omega)
  unfold kept
  by_cases h : 496 ≤ 256 * (i 0).val + (y 0).val
  · rw [if_pos h, key.mpr h]
    exact congrArg₂ (· + ·) (row_eq A y) (rms_eq B G y)
  · rw [if_neg h]
    exact if_neg fun hc => h (key.mp hc)

theorem pay1_eq (i : grid0.Coords) (A B : S256x4096.Idx → EReal) (G H : S1x4096.Idx → EReal) (y : S256x4096.Idx) :
    k0_pay1 (F := Ideal) (k0_pay2 i A B G) (k0_pay3 H) (k0_pay4 i A B G) y = rms (row (k0_pay2 (F := Ideal) i A B G) (y 0)) (row H 0) (y 1) := by
  unfold k0_pay4
  generalize k0_pay2 (F := Ideal) i A B G = P
  open_payloads
  pointwise
  exact rms_eq P H y

/-- A row of a block of the residual is the residual's, at the block's place. -/
theorem piece (c : Dev nD) (t : Fin cfg0.N) (A B : S256x4096.Idx → EReal) (G : S1x4096.Idx → EReal)
    (hA : A = iblk m c 0 t) (hB : B = iblk m c 1 t) (hG : G = iblk m c 2 t) (i : Fin 16896) (r : Fin 256)
    (h0 : i.val = 256 * (grid0.coords t 0).val + r.val) :
    row (k0_pay2 (F := Ideal) (grid0.coords t) A B G) r
      = row (resid (m ((c : Thread nD τ).loc main_arg0)) (m ((c : Thread nD τ).loc main_arg1)) (m ((c : Thread nD τ).loc main_arg2))) i := by
  subst hA hB hG
  have e0 : row (iblk m c 0 t) r = row (m ((c : Thread nD τ).loc main_arg0)) i := funext fun k => blk0 m c t _ _ h0 rfl
  have e1 : row (iblk m c 1 t) r = row (m ((c : Thread nD τ).loc main_arg1)) i := funext fun k => blk1 m c t _ _ h0 rfl
  have e2 : row (iblk m c 2 t) 0 = gain (m ((c : Thread nD τ).loc main_arg2)) := funext fun k => blk2 m c t _
  funext k
  refine (pay2_eq (grid0.coords t) (iblk m c 0 t) (iblk m c 1 t) (iblk m c 2 t) (ix2 r k)).trans ?_
  show kept (256 * (grid0.coords t 0).val + r.val) (row (iblk m c 0 t) r) (row (iblk m c 1 t) r) (row (iblk m c 2 t) 0) k
    = kept i.val (row _ i) (row _ i) _ k
  rw [e0, e1, e2, h0]

set_option maxHeartbeats 1000000 in
theorem out4 (c : Dev nD) : (dats m 0 c).arrAt 4 cfg0.N
    = resid (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  have e := emb4 t y
  have p := piece m c t _ _ _ rfl rfl rfl _ (y 0) e.1
  have q := congrFun p (y 1)
  refine Eq.trans ?_ (q.trans ?_)
  · generalize iblk m c 0 t = A
    generalize iblk m c 1 t = B
    generalize iblk m c 2 t = G
    unfold out0_4
    frame_out
    exact row_eq (n := 256) _ y
  · refine Eq.trans ?_ (row_eq (n := 16896) _ _).symm
    exact congrArg _ (Fin.ext e.2.symm)

set_option maxHeartbeats 1000000 in
theorem out5 (c : Dev nD) : (dats m 0 c).arrAt 5 cfg0.N
    = normed (resid (m ((c : Thread nD τ).loc main_arg0)) (m ((c : Thread nD τ).loc main_arg1)) (m ((c : Thread nD τ).loc main_arg2))) (m ((c : Thread nD τ).loc main_arg3)) := by
  refine (dats m 0 c).arrAt_eq_of_covers 5 _ (by decide +kernel) fun t hf y => ?_
  blk_simp
  rw [after0_5]
  have e := emb5 t y
  have p := piece m c t _ _ _ rfl rfl rfl _ (y 0) e.1
  have e3 : row (iblk m c 3 t) 0 = gain (m ((c : Thread nD τ).loc main_arg3)) := funext fun k => blk3 m c t _
  refine Eq.trans (b := rms (row (k0_pay2 (F := Ideal) (grid0.coords t) (iblk m c 0 t) (iblk m c 1 t) (iblk m c 2 t)) (y 0)) (row (iblk m c 3 t) 0) (y 1)) ?_ ?_
  · generalize iblk m c 0 t = A
    generalize iblk m c 1 t = B
    generalize iblk m c 2 t = G
    generalize iblk m c 3 t = H
    unfold out0_5
    frame_out
    exact pay1_eq _ A B G H y
  · unfold normed
    rw [p, e3]
    exact congrArg _ (Fin.ext e.2.symm)

/-- The reference's residual: zeros in front, then the rows from there on. -/
theorem ref_resid (x y : S16896x4096.Idx → EReal) (g : S4096.Idx → EReal) :
    (concatenate S16896x4096 0 [⟨Reference10Ideal.S496x4096, (broadcastInDim Reference10Ideal.S496x4096 ![] Reference10Ideal.Facts₀.bcast_S_S496x4096 (constant Reference10Ideal.S_ .f32 0x00000000#32) : FVec Ideal Reference10Ideal.S496x4096 .f32)⟩, ⟨Reference10Ideal.S16400x4096, (extractStridedSlice Reference10Ideal.S16400x4096 ![496, 0] (addf (x : FVec Ideal S16896x4096 .f32) (mulf (mulf (y : FVec Ideal S16896x4096 .f32) (broadcastInDim S16896x4096 ![0, 1] Reference10Ideal.Facts₀.bcast_S16896x1_S16896x4096_0_1 (Host.rsqrt (addf (Host.divf (broadcastInDim Reference10Ideal.S16896x1 ![0] Reference10Ideal.Facts₀.bcast_S16896_S16896x1_0 (Host.reduceAdd (mulf (y : FVec Ideal S16896x4096 .f32) (y : FVec Ideal S16896x4096 .f32)) (constant Reference10Ideal.S_ .f32 0x00000000#32) Reference10Ideal.Facts₀.reducesTo_S16896x4096_S16896_d1 Reference10Ideal.Facts₀.h_S_)) (broadcastInDim Reference10Ideal.S16896x1 ![] Reference10Ideal.Facts₀.bcast_S_S16896x1 (constant Reference10Ideal.S_ .f32 0x45800000#32))) (broadcastInDim Reference10Ideal.S16896x1 ![] Reference10Ideal.Facts₀.bcast_S_S16896x1 (constant Reference10Ideal.S_ .f32 0x358637BD#32)))))) (broadcastInDim S16896x4096 ![0, 1] Reference10Ideal.Facts₀.bcast_S1x4096_S16896x4096_0_1 (broadcastInDim Reference10Ideal.S1x4096 ![1] Reference10Ideal.Facts₀.bcast_S4096_S1x4096_1 (g : FVec Ideal S4096 .f32))))) Reference10Ideal.Facts₀.slices_S16896x4096_S16400x4096_496_0 : FVec Ideal Reference10Ideal.S16400x4096 .f32)⟩] Reference10Ideal.Facts₀.concatenates_S496x4096_S16400x4096_S16896x4096_d0 : FVec Ideal S16896x4096 .f32) = resid x y g := by
  funext i
  unfold resid kept
  pointwise
  by_cases h : (i 0).val < 496
  · rw [dif_pos h, if_neg (by omega)]
  · rw [dif_neg h]
    refine Eq.trans ?_ (if_pos (show 496 ≤ (i 0).val from Nat.le_of_not_lt h)).symm
    have e : (⟨496 + ((i 0).val - 496), by have : (i 0).val < 16896 := (i 0).isLt; omega⟩ : Fin 16896) = i 0 := Fin.ext (by show 496 + ((i 0).val - 496) = (i 0).val; omega)
    exact congrArg (fun r : Fin 16896 => row x r (i 1) + rms (row y r) (gain g) (i 1)) e

/-- The reference's norm. -/
def refNorm (h : FVec Ideal S16896x4096 .f32) (g : S4096.Idx → EReal) : S16896x4096.Idx → EReal :=
  (truncf .bf16 (mulf (mulf h (broadcastInDim S16896x4096 ![0, 1] Reference10Ideal.Facts₀.bcast_S16896x1_S16896x4096_0_1 (Host.rsqrt (addf (Host.divf (broadcastInDim Reference10Ideal.S16896x1 ![0] Reference10Ideal.Facts₀.bcast_S16896_S16896x1_0 (Host.reduceAdd (mulf h h) (constant Reference10Ideal.S_ .f32 0x00000000#32) Reference10Ideal.Facts₀.reducesTo_S16896x4096_S16896_d1 Reference10Ideal.Facts₀.h_S_)) (broadcastInDim Reference10Ideal.S16896x1 ![] Reference10Ideal.Facts₀.bcast_S_S16896x1 (constant Reference10Ideal.S_ .f32 0x45800000#32))) (broadcastInDim Reference10Ideal.S16896x1 ![] Reference10Ideal.Facts₀.bcast_S_S16896x1 (constant Reference10Ideal.S_ .f32 0x358637BD#32)))))) (broadcastInDim S16896x4096 ![0, 1] Reference10Ideal.Facts₀.bcast_S1x4096_S16896x4096_0_1 (broadcastInDim Reference10Ideal.S1x4096 ![1] Reference10Ideal.Facts₀.bcast_S4096_S1x4096_1 (g : FVec Ideal S4096 .f32)))) Reference10Ideal.Facts₀.bitsLt_bf16_f32 : FVec Ideal S16896x4096 .bf16)

theorem refNorm_eq (h : S16896x4096.Idx → EReal) (g : S4096.Idx → EReal) : refNorm h g = normed h g := by
  funext i
  unfold refNorm normed
  pointwise
  rw [row_eq h i]
  rfl

theorem value : Cert.algebraic_Kernel10Ideal_Reference10Ideal := by
  intro m g m' g' _ hargs
  refine ⟨fun c => resid (m ((c : Thread nD τ).loc main_arg0)) (m ((c : Thread nD τ).loc main_arg1)) (m ((c : Thread nD τ).loc main_arg2)),
    fun c => normed (resid (m ((c : Thread nD τ).loc main_arg0)) (m ((c : Thread nD τ).loc main_arg1)) (m ((c : Thread nD τ).loc main_arg2))) (m ((c : Thread nD τ).loc main_arg3)), ?_, ?_⟩
  · refine (θ_run _ _ _).mono (fun r h c => ?_) (run_blocks m g)
    exact ⟨(h c).1.trans (out4 m c), (h c).2.1.trans (out5 m c), (h c).2.2⟩
  · refine (θ_run _ _ _).mono (fun r h c => ?_) (Reference10Ideal.Value.run m' g')
    have e := ref_resid (m' ((c : Thread Reference10Ideal.nD Reference10Ideal.τ).loc Reference10Ideal.main_arg0)) (m' ((c : Thread Reference10Ideal.nD Reference10Ideal.τ).loc Reference10Ideal.main_arg1)) (m' ((c : Thread Reference10Ideal.nD Reference10Ideal.τ).loc Reference10Ideal.main_arg2))
    refine ⟨(h c).1.trans (e.trans ?_), (h c).2.1.trans ((congrArg (refNorm · _) e).trans ((refNorm_eq _ _).trans ?_)), (h c).2.2⟩
    · rw [(hargs c).1, (hargs c).2.1, (hargs c).2.2.1]
    · rw [(hargs c).1, (hargs c).2.1, (hargs c).2.2.1, (hargs c).2.2.2]

end Cert.Kernel10Ideal.Value

end
-- ==== Proof.Norm.Front.lean ====
module

public import proofs.«01_k».proof.Defs
public import proofs.«01_k».proof.Proof.Norm.Rms
public import proofs.«01_k».proof.Proof.Gen.Kernel11Ideal.Value
public import proofs.«01_k».proof.Proof.Gen.Reference11Ideal.Run
public import Idealize.ShloMosaic.Lib.Pipeline.Covers
public import Idealize.ShloMosaic.Lib.Pipeline.ReadBack
public import Idealize.ShloMosaic.Lib.Pointwise
public import Idealize.ShloMosaic.Lib.Pipeline.ValueKit
public import Idealize.ShloMosaic.Lib.Claim

@[expose] public section

/-! # The sequence with the meta tokens in front, and its norm -/

noncomputable section

namespace Cert.Kernel11Ideal.Value

open Cert.Kernel11Ideal Cert.Kernel11Ideal.Gen Idealize.ShloMosaic Idealize.ShloMosaic.TcCoe Idealize.SL.Sem
open Idealize.ShloMosaic.Pipeline (Dat)
open Cert.Norm
open scoped BigOperators

variable (m : (ℓ : Loc nD τ sig) → Buf (Elt Ideal) ℓ)

/-- The block index of every window, by the point: the sequence's block is the one before. -/
theorem index_eq : ∀ t : Fin cfg0.N,
    win0_0.index t 0 = t.val - 1 ∧ win0_0.index t 1 = 0 ∧ win0_1.index t 0 = 0 ∧ win0_1.index t 1 = 0
    ∧ win0_2.index t 1 = 0 ∧ win0_3.index t 0 = t.val ∧ win0_3.index t 1 = 0
    ∧ win0_4.index t 0 = t.val ∧ win0_4.index t 1 = 0 := by
  decide +kernel

/-- The sequence as the call gets it: without the axis of one. -/
theorem V_seq (c : Dev nD) (i : S16384x4096.Idx) : V m c main_v0 i = m ((c : Thread nD τ).loc main_arg0) (ix3 0 (i 0) (i 1)) := by
  have e : V m c main_v0 = (shapeCast _ (m ((c : Thread nD τ).loc main_arg0) : FVec Ideal S1x16384x4096 .f32) shapeCasts_S1x16384x4096_S16384x4096 : FVec Ideal S16384x4096 .f32) := by
    unfold V
    after_results <;> rfl
  rw [e]
  refine (shapeCast_dropUnit_apply ![16384, 4096] _ _ i).trans (congrArg _ ?_)
  funext a
  match a with | ⟨0, _⟩ => rfl | ⟨1, _⟩ => rfl | ⟨2, _⟩ => rfl

/-- The gain as the call gets it: a row. -/
theorem V_gain (c : Dev nD) (i : S1x4096.Idx) : V m c main_v1 i = m ((c : Thread nD τ).loc main_arg2) (ix1 (i 1)) := by
  have e : V m c main_v1 = (broadcastInDim S1x4096 ![1] bcast_S4096_S1x4096_1 (m ((c : Thread nD τ).loc main_arg2) : FVec Ideal S4096 .f32) : FVec Ideal S1x4096 .f32) := by
    unfold V
    after_results_simp <;> rfl
  rw [e]
  pointwise

theorem blk0 (c : Dev nD) (t : Fin cfg0.N) (x : S512x4096.Idx) (r : Fin 16384) (q : Fin 4096)
    (h0 : r.val = 512 * (t.val - 1) + (x 0).val) (h1 : q.val = (x 1).val) :
    iblk m c 0 t x = m ((c : Thread nD τ).loc main_arg0) (ix3 0 r q) := by
  refine Eq.trans ?_ (V_seq m c (ix2 r q))
  unfold iblk
  rw [View.read_apply]
  show V m c main_v0 _ = V m c main_v0 _
  congr 1
  funext a
  apply Fin.ext
  match a with
  | ⟨0, _⟩ => show win0_0.index t 0 * 512 + 1 * (x 0).val = r.val; rw [(index_eq t).1]; omega
  | ⟨1, _⟩ => show win0_0.index t 1 * 4096 + 1 * (x 1).val = q.val; rw [(index_eq t).2.1]; omega

theorem blk1 (c : Dev nD) (t : Fin cfg0.N) (x : S16x4096.Idx) : iblk m c 1 t x = m ((c : Thread nD τ).loc main_arg1) x := by
  unfold iblk
  rw [View.read_apply]
  rw [← V_main_arg1 m c]
  show V m c main_arg1 _ = V m c main_arg1 _
  congr 1
  funext a
  apply Fin.ext
  match a with
  | ⟨0, _⟩ => show win0_1.index t 0 * 16 + 1 * (x 0).val = (x 0).val; rw [(index_eq t).2.2.1]; omega
  | ⟨1, _⟩ => show win0_1.index t 1 * 4096 + 1 * (x 1).val = (x 1).val; rw [(index_eq t).2.2.2.1]; omega

theorem blk2 (c : Dev nD) (t : Fin cfg0.N) (x : S1x4096.Idx) :
    iblk m c 2 t x = m ((c : Thread nD τ).loc main_arg2) (ix1 (x 1)) := by
  unfold iblk
  rw [View.read_apply]
  show V m c main_v1 _ = _
  rw [V_gain]
  congr 2
  apply Fin.ext
  show win0_2.index t 1 * 4096 + 1 * (x 1).val = (x 1).val
  rw [(index_eq t).2.2.2.2.1]; omega

theorem emb3 (t : Fin cfg0.N) (y : S512x4096.Idx) :
    ((((View.whole main_v2_0).slice (win0_3.rect t)).emb y) 0).val = 512 * t.val + (y 0).val
    ∧ ((((View.whole main_v2_0).slice (win0_3.rect t)).emb y) 1).val = (y 1).val := by
  constructor
  · show win0_3.index t 0 * 512 + 1 * (y 0).val = _
    rw [(index_eq t).2.2.2.2.2.1]; omega
  · show win0_3.index t 1 * 4096 + 1 * (y 1).val = _
    rw [(index_eq t).2.2.2.2.2.2.1]; omega

theorem emb4 (t : Fin cfg0.N) (y : S512x4096.Idx) :
    ((((View.whole main_v2_1).slice (win0_4.rect t)).emb y) 0).val = 512 * t.val + (y 0).val
    ∧ ((((View.whole main_v2_1).slice (win0_4.rect t)).emb y) 1).val = (y 1).val := by
  constructor
  · show win0_4.index t 0 * 512 + 1 * (y 0).val = _
    rw [(index_eq t).2.2.2.2.2.2.2.1]; omega
  · show win0_4.index t 1 * 4096 + 1 * (y 1).val = _
    rw [(index_eq t).2.2.2.2.2.2.2.2]; omega

/-- The sequence with the meta tokens in front, and zeros in front of these. -/
def joined (x : S1x16384x4096.Idx → EReal) (p : S16x4096.Idx → EReal) : S16896x4096.Idx → EReal := fun i =>
  if h : (i 0).val < 496 then 0
  else if h' : (i 0).val < 512 then p (ix2 ⟨(i 0).val - 496, by omega⟩ (i 1))
  else x (ix3 0 ⟨(i 0).val - 512, by have : (i 0).val < 16896 := (i 0).isLt; omega⟩ (i 1))

/-- Its norm. -/
def normed (h : S16896x4096.Idx → EReal) (g : S4096.Idx → EReal) : S16896x4096.Idx → EReal := fun i =>
  rms (row h (i 0)) (gain g) (i 1)

theorem pay3_eq (P : S512x4096.Idx → EReal) (G : S1x4096.Idx → EReal) (y : S512x4096.Idx) :
    k0_pay3 (F := Ideal) P G y = rms (row P (y 0)) (row G 0) (y 1) := by
  open_payloads
  pointwise
  exact rms_eq P G y

set_option maxHeartbeats 1000000 in
/-- What the first point leaves of the sequence's block. -/
theorem first (c : Dev nD) (t : Fin cfg0.N) (p : t.val % 33 = 0) (q : ¬1 ≤ t.val) (y : S512x4096.Idx) (i : S16896x4096.Idx)
    (h0 : (i 0).val = 512 * t.val + (y 0).val) (h1 : (i 1).val = (y 1).val) :
    (outsAt0 m c t.val t.isLt).1 y = joined (m ((c : Thread nD τ).loc main_arg0)) (m ((c : Thread nD τ).loc main_arg1)) i := by
  rw [outsAt0_A m c t p q]
  frame_out
  have hy : (y 0).val < 512 := (y 0).isLt
  unfold joined
  by_cases h : (i 0).val < 496
  · rw [dif_pos h, View.canon_cons_of_not_mem]
    · refine (congrFun (View.canon_unit_zero (by funext a; match a with | ⟨0, _⟩ => rfl | ⟨1, _⟩ => rfl) _ _) y).trans ?_
      open_payloads
      pointwise
    · exact Rect.not_mem_set_of_axis _ y 0 496 16 rfl rfl rfl (Or.inl (by omega))
  · rw [dif_neg h, dif_pos (by omega)]
    have e : y = (Rect.unit (s := S512x4096) ![496, 0] S16x4096.size inb_S512x4096_S16x4096_496_0).emb (ix2 ⟨(i 0).val - 496, by omega⟩ (i 1)) := by
      funext a
      apply Fin.ext
      match a with
      | ⟨0, _⟩ => show (y 0).val = 496 + 1 * ((i 0).val - 496); omega
      | ⟨1, _⟩ => show (y 1).val = 0 + 1 * (i 1).val; omega
    refine (congrArg _ e).trans ((View.canon_cons_emb _ _ _ _).trans ?_)
    exact blk1 m c t _

set_option maxHeartbeats 1000000 in
/-- A later point copies the sequence's block. -/
theorem later (c : Dev nD) (t : Fin cfg0.N) (p : ¬t.val % 33 = 0) (q : 1 ≤ t.val) (y : S512x4096.Idx) (i : S16896x4096.Idx)
    (h0 : (i 0).val = 512 * t.val + (y 0).val) (h1 : (i 1).val = (y 1).val) :
    (outsAt0 m c t.val t.isLt).1 y = joined (m ((c : Thread nD τ).loc main_arg0)) (m ((c : Thread nD τ).loc main_arg1)) i := by
  rw [outsAt0_B m c t p q]
  frame_out
  have hi : (i 0).val < 16896 := (i 0).isLt
  unfold joined
  rw [dif_neg (by omega), dif_neg (by omega)]
  refine Eq.trans ?_ (blk0 m c t y _ (i 1) (by show (i 0).val - 512 = _; omega) h1)
  generalize iblk m c 0 t = A
  open_payloads
  pointwise

theorem held (c : Dev nD) (t : Fin cfg0.N) (y : S512x4096.Idx) (i : S16896x4096.Idx)
    (h0 : (i 0).val = 512 * t.val + (y 0).val) (h1 : (i 1).val = (y 1).val) :
    (outsAt0 m c t.val t.isLt).1 y = joined (m ((c : Thread nD τ).loc main_arg0)) (m ((c : Thread nD τ).loc main_arg1)) i := by
  have ht : t.val < 33 := lt_of_lt_of_eq t.isLt N_0
  by_cases p : t.val % 33 = 0
  · exact first m c t p (by omega) y i h0 h1
  · exact later m c t p (by omega) y i h0 h1

set_option maxHeartbeats 1000000 in
/-- The second result is the norm of what the first one holds by then. -/
theorem norm_of (c : Dev nD) (t : Fin cfg0.N) (y : S512x4096.Idx) :
    (outsAt0 m c t.val t.isLt).2 y = k0_pay3 (F := Ideal) (outsAt0 m c t.val t.isLt).1 (iblk m c 2 t) y := by
  have ht : t.val < 33 := lt_of_lt_of_eq t.isLt N_0
  by_cases p : t.val % 33 = 0
  · rw [outsAt0_A m c t p (by omega)]
    frame_out
    refine congrArg (fun P => k0_pay3 (F := Ideal) P (iblk m c 2 t) y) ?_
    rw [View.readCov_eq_canon']
    funext j
    refine congrArg _ (funext fun a => Fin.ext ?_)
    match a with
    | ⟨0, _⟩ => show 0 + 1 * (j 0).val = (j 0).val; omega
    | ⟨1, _⟩ => show 0 + 1 * (j 1).val = (j 1).val; omega
  · rw [outsAt0_B m c t p (by omega)]
    frame_out

theorem out3 (c : Dev nD) : (dats m 0 c).arrAt 3 cfg0.N
    = joined (m ((c : Thread nD τ).loc main_arg0)) (m ((c : Thread nD τ).loc main_arg1)) := by
  refine (dats m 0 c).arrAt_eq_of_covers 3 _ (by decide +kernel) fun t hf y => ?_
  blk_simp
  rw [after0_3]
  exact held m c t y _ (emb3 t y).1 (emb3 t y).2

theorem out4 (c : Dev nD) : (dats m 0 c).arrAt 4 cfg0.N
    = normed (joined (m ((c : Thread nD τ).loc main_arg0)) (m ((c : Thread nD τ).loc main_arg1))) (m ((c : Thread nD τ).loc main_arg2)) := by
  refine (dats m 0 c).arrAt_eq_of_covers 4 _ (by decide +kernel) fun t hf y => ?_
  blk_simp
  rw [after0_4]
  have e := emb4 t y
  refine (norm_of m c t y).trans ((pay3_eq _ _ y).trans ?_)
  have e2 : row (iblk m c 2 t) 0 = gain (m ((c : Thread nD τ).loc main_arg2)) := funext fun k => blk2 m c t _
  have e1 : row (outsAt0 m c t.val t.isLt).1 (y 0) = row (joined (m ((c : Thread nD τ).loc main_arg0)) (m ((c : Thread nD τ).loc main_arg1))) ((((View.whole main_v2_1).slice (win0_4.rect t)).emb y) 0) :=
    funext fun k => held m c t _ _ e.1 rfl
  unfold normed
  rw [e1, e2]
  exact congrArg _ (Fin.ext e.2.symm)

/-- The reference joins the three. -/
theorem ref_joined (x : S1x16384x4096.Idx → EReal) (p : S16x4096.Idx → EReal) :
    (concatenate S16896x4096 0 [⟨Reference11Ideal.S496x4096, (broadcastInDim Reference11Ideal.S496x4096 ![] Reference11Ideal.Facts₀.bcast_S_S496x4096 (constant Reference11Ideal.S_ .f32 0x00000000#32) : FVec Ideal Reference11Ideal.S496x4096 .f32)⟩, ⟨S16x4096, (p : FVec Ideal S16x4096 .f32)⟩, ⟨S16384x4096, (shapeCast _ (x : FVec Ideal S1x16384x4096 .f32) Reference11Ideal.Facts₀.shapeCasts_S1x16384x4096_S16384x4096 : FVec Ideal S16384x4096 .f32)⟩] Reference11Ideal.Facts₀.concatenates_S496x4096_S16x4096_S16384x4096_S16896x4096_d0 : FVec Ideal S16896x4096 .f32) = joined x p := by
  obtain ⟨z, hz⟩ : ∃ z : FVec Ideal S16384x4096 .f32, z = shapeCast _ (x : FVec Ideal S1x16384x4096 .f32) Reference11Ideal.Facts₀.shapeCasts_S1x16384x4096_S16384x4096 := ⟨_, rfl⟩
  have hx : ∀ j, z j = x (ix3 0 (j 0) (j 1)) := fun j => by
    rw [hz]
    refine (shapeCast_dropUnit_apply ![16384, 4096] _ _ j).trans (congrArg _ ?_)
    funext a
    match a with | ⟨0, _⟩ => rfl | ⟨1, _⟩ => rfl | ⟨2, _⟩ => rfl
  rw [← hz]
  funext i
  unfold joined
  pointwise
  by_cases h : (i 0).val < 496
  · rw [dif_pos h, dif_pos h]
  rw [dif_neg h, dif_neg h]
  by_cases h' : (i 0).val < 512
  · rw [dif_pos h', dif_pos (by omega)]
  · rw [dif_neg h', dif_neg (by omega)]
    rw [hx]
    exact congrArg (fun r => x (ix3 0 r (i 1))) (Fin.ext (by show (i 0).val - 496 - 16 = (i 0).val - 512; omega))

/-- The reference's norm. -/
def refNorm (h : FVec Ideal S16896x4096 .f32) (g : S4096.Idx → EReal) : S16896x4096.Idx → EReal :=
  (truncf .bf16 (mulf (mulf h (broadcastInDim S16896x4096 ![0, 1] Reference11Ideal.Facts₀.bcast_S16896x1_S16896x4096_0_1 (Host.rsqrt (addf (Host.divf (broadcastInDim Reference11Ideal.S16896x1 ![0] Reference11Ideal.Facts₀.bcast_S16896_S16896x1_0 (Host.reduceAdd (mulf h h) (constant Reference11Ideal.S_ .f32 0x00000000#32) Reference11Ideal.Facts₀.reducesTo_S16896x4096_S16896_d1 Reference11Ideal.Facts₀.h_S_)) (broadcastInDim Reference11Ideal.S16896x1 ![] Reference11Ideal.Facts₀.bcast_S_S16896x1 (constant Reference11Ideal.S_ .f32 0x45800000#32))) (broadcastInDim Reference11Ideal.S16896x1 ![] Reference11Ideal.Facts₀.bcast_S_S16896x1 (constant Reference11Ideal.S_ .f32 0x358637BD#32)))))) (broadcastInDim S16896x4096 ![0, 1] Reference11Ideal.Facts₀.bcast_S1x4096_S16896x4096_0_1 (broadcastInDim Reference11Ideal.S1x4096 ![1] Reference11Ideal.Facts₀.bcast_S4096_S1x4096_1 (g : FVec Ideal S4096 .f32)))) Reference11Ideal.Facts₀.bitsLt_bf16_f32 : FVec Ideal S16896x4096 .bf16)

theorem refNorm_eq (h : S16896x4096.Idx → EReal) (g : S4096.Idx → EReal) : refNorm h g = normed h g := by
  funext i
  unfold refNorm normed
  pointwise
  rw [row_eq h i]
  rfl

theorem value : Cert.algebraic_Kernel11Ideal_Reference11Ideal := by
  intro m g m' g' _ hargs
  refine ⟨fun c => joined (m ((c : Thread nD τ).loc main_arg0)) (m ((c : Thread nD τ).loc main_arg1)),
    fun c => normed (joined (m ((c : Thread nD τ).loc main_arg0)) (m ((c : Thread nD τ).loc main_arg1))) (m ((c : Thread nD τ).loc main_arg2)), ?_, ?_⟩
  · refine (θ_run _ _ _).mono (fun r h c => ?_) (run_blocks m g)
    exact ⟨(h c).1.trans (out3 m c), (h c).2.1.trans (out4 m c), (h c).2.2⟩
  · refine (θ_run _ _ _).mono (fun r h c => ?_) (Reference11Ideal.Value.run m' g')
    have e := ref_joined (m' ((c : Thread Reference11Ideal.nD Reference11Ideal.τ).loc Reference11Ideal.main_arg0)) (m' ((c : Thread Reference11Ideal.nD Reference11Ideal.τ).loc Reference11Ideal.main_arg1))
    refine ⟨(h c).1.trans (e.trans ?_), (h c).2.1.trans ((congrArg (refNorm · _) e).trans ((refNorm_eq _ _).trans ?_)), (h c).2.2⟩
    · rw [(hargs c).1, (hargs c).2.1]
    · rw [(hargs c).1, (hargs c).2.1, (hargs c).2.2]

end Cert.Kernel11Ideal.Value

end
-- ==== Proof.Latent.KvRef.lean ====
module

public import proofs.«01_k».proof.Defs
public import proofs.«01_k».proof.Proof.Gen.Reference12Ideal.Run
public import Idealize.ShloMosaic.Lib.Pointwise
public import Idealize.ShloMosaic.Lib.MatmulPlain

@[expose] public section

/-! # The keys and values of the latent attention, as the reference has them -/

noncomputable section

namespace Cert.Reference12Ideal.Latent

open Cert.Reference12Ideal Cert.Reference12Ideal.Gen
open Idealize.ShloMosaic Idealize.ShloMosaic.TcCoe
open scoped BigOperators

/-- An element of a latent over the root of the mean of its squares and the small constant, times the gain. -/
def rms (x g : Fin 512 → EReal) (q : Fin 512) : EReal :=
  x q * Ideal.rsqrt (Ideal.div (∑ k : Fin 512, x k * x k) (Ideal.ofBits .f32 0x44000000#32) + Ideal.ofBits .f32 0x358637BD#32) * g q

/-- The normed latents. -/
def latent (z : S16896x512.Idx → EReal) (g : S512.Idx → EReal) (r : Fin 16896) (k : Fin 512) : EReal :=
  rms (fun q => z (ix2 r q)) (fun q => g (ix1 q)) k

/-- Their product with the weight. -/
def kv (z : S16896x512.Idx → EReal) (g : S512.Idx → EReal) (w : S512x4096.Idx → EReal) (r : Fin 16896) (j : Fin 4096) : EReal :=
  ∑ k : Fin 512, latent z g r k * w (ix2 k j)

/-- The rotary key, turned by the row's angles. -/
def rope (kr : S16896x64.Idx → EReal) (cs sn : S16896x32.Idx → EReal) (r : Fin 16896) (j : Fin 64) : EReal :=
  if h : j.val < 32 then kr (ix2 r j) * cs (ix2 r ⟨j.val, h⟩) - kr (ix2 r ⟨j.val + 32, by omega⟩) * sn (ix2 r ⟨j.val, h⟩)
  else kr (ix2 r ⟨j.val - 32, by omega⟩) * sn (ix2 r ⟨j.val - 32, by omega⟩) + kr (ix2 r j) * cs (ix2 r ⟨j.val - 32, by omega⟩)

/-- The keys: in each head the product's first columns, the turned key, zeros. -/
def keys (z : S16896x512.Idx → EReal) (kr : S16896x64.Idx → EReal) (cs sn : S16896x32.Idx → EReal) (g : S512.Idx → EReal) (w : S512x4096.Idx → EReal) : S16896x4096.Idx → EReal := fun i =>
  if (i 1).val % 256 < 128 then kv z g w (i 0) (i 1)
  else if h : (i 1).val % 256 < 192 then rope kr cs sn (i 0) ⟨(i 1).val % 256 - 128, by omega⟩
  else 0

/-- The values: in each head the product's other columns, transposed, and rows of ones. -/
def vals (z : S16896x512.Idx → EReal) (g : S512.Idx → EReal) (w : S512x4096.Idx → EReal) : S16x22x144x768.Idx → EReal := fun i =>
  if h : (i 2).val < 128 then
    kv z g w ⟨768 * (i 1).val + (i 3).val, by have : (i 1).val < 22 := (i 1).isLt; have : (i 3).val < 768 := (i 3).isLt; omega⟩
      ⟨256 * (i 0).val + (128 + (i 2).val), by have : (i 0).val < 16 := (i 0).isLt; omega⟩
  else 1

/-! ## The reference -/

/-- The reference's normed latents. -/
def refLatent (z : S16896x512.Idx → EReal) (g : S512.Idx → EReal) : FVec Ideal S16896x512 .f32 :=
  mulf (mulf (z : FVec Ideal S16896x512 .f32) (broadcastInDim S16896x512 ![0, 1] bcast_S16896x1_S16896x512_0_1 (Host.rsqrt (addf (Host.divf (broadcastInDim S16896x1 ![0] bcast_S16896_S16896x1_0 (Host.reduceAdd (mulf (z : FVec Ideal S16896x512 .f32) (z : FVec Ideal S16896x512 .f32)) (constant S_ .f32 0x00000000#32) reducesTo_S16896x512_S16896_d1 h_S_)) (broadcastInDim S16896x1 ![] bcast_S_S16896x1 (constant S_ .f32 0x44000000#32))) (broadcastInDim S16896x1 ![] bcast_S_S16896x1 (constant S_ .f32 0x358637BD#32)))))) (broadcastInDim S16896x512 ![0, 1] bcast_S1x512_S16896x512_0_1 (broadcastInDim S1x512 ![1] bcast_S512_S1x512_1 (g : FVec Ideal S512 .f32)))

/-- Their product with the weight. -/
def refKv (z : S16896x512.Idx → EReal) (g : S512.Idx → EReal) (w : S512x4096.Idx → EReal) : FVec Ideal S16896x4096 .f32 :=
  Host.dotGeneral dot_S16896x512_S512x4096_S16896x4096_1_0_0_1_n_n none (refLatent z g) (extf .f32 (w : FVec Ideal S512x4096 .bf16) bitsLt_bf16_f32)

/-- The turned key. -/
def refRope (kr : S16896x64.Idx → EReal) (cs sn : S16896x32.Idx → EReal) : FVec Ideal S16896x64 .f32 :=
  concatenate S16896x64 1 [⟨S16896x32, (subf (mulf (extractStridedSlice S16896x32 ![0, 0] (kr : FVec Ideal S16896x64 .f32) slices_S16896x64_S16896x32_0_0) (cs : FVec Ideal S16896x32 .f32)) (mulf (extractStridedSlice S16896x32 ![0, 32] (kr : FVec Ideal S16896x64 .f32) slices_S16896x64_S16896x32_0_32) (sn : FVec Ideal S16896x32 .f32)) : FVec Ideal S16896x32 .f32)⟩, ⟨S16896x32, (addf (mulf (extractStridedSlice S16896x32 ![0, 0] (kr : FVec Ideal S16896x64 .f32) slices_S16896x64_S16896x32_0_0) (sn : FVec Ideal S16896x32 .f32)) (mulf (extractStridedSlice S16896x32 ![0, 32] (kr : FVec Ideal S16896x64 .f32) slices_S16896x64_S16896x32_0_32) (cs : FVec Ideal S16896x32 .f32)) : FVec Ideal S16896x32 .f32)⟩] concatenates_S16896x32_S16896x32_S16896x64_d1

/-- The heads' keys, from the product and the turned key. -/
def refKeys (u : FVec Ideal S16896x4096 .f32) (p : FVec Ideal S16896x64 .f32) : FVec Ideal S16896x4096 .bf16 :=
  truncf .bf16 (shapeCast _ ((concatenate S16896x16x256 2 [⟨S16896x16x128, ((extractStridedSlice S16896x16x128 ![0, 0, 0] (shapeCast _ u shapeCasts_S16896x4096_S16896x16x256) slices_S16896x16x256_S16896x16x128_0_0_0) : FVec Ideal S16896x16x128 .f32)⟩, ⟨S16896x16x64, ((broadcastInDim S16896x16x64 ![0, 1, 2] bcast_S16896x1x64_S16896x16x64_0_1_2 (broadcastInDim S16896x1x64 ![0, 2] bcast_S16896x64_S16896x1x64_0_2 p)) : FVec Ideal S16896x16x64 .f32)⟩, ⟨S16896x16x64, ((broadcastInDim S16896x16x64 ![] bcast_S_S16896x16x64 (constant S_ .f32 0x00000000#32)) : FVec Ideal S16896x16x64 .f32)⟩] concatenates_S16896x16x128_S16896x16x64_S16896x16x64_S16896x16x256_d2 : FVec Ideal S16896x16x256 .f32)) shapeCasts_S16896x16x256_S16896x4096) bitsLt_bf16_f32

theorem refKv_at (z : S16896x512.Idx → EReal) (g : S512.Idx → EReal) (w : S512x4096.Idx → EReal) (i : S16896x4096.Idx) : refKv z g w i = kv z g w (i 0) (i 1) := by
  have e : ∀ (r : Fin 16896) (k : Fin 512), refLatent z g (ix2 r k) = latent z g r k := fun r k => by
    unfold refLatent
    pointwise
    rfl
  unfold refKv
  generalize refLatent z g = u at e
  pointwise
  exact Finset.sum_congr rfl fun k _ => congrArg (· * _) (e _ k)

theorem refRope_at (kr : S16896x64.Idx → EReal) (cs sn : S16896x32.Idx → EReal) (r : Fin 16896) (j : Fin 64) : refRope kr cs sn (ix2 r j) = rope kr cs sn r j := by
  unfold refRope rope
  pointwise
  by_cases h : j.val < 32
  · rw [dif_pos h, dif_pos h]
    have e : (⟨32 + j.val, by omega⟩ : Fin 64) = ⟨j.val + 32, by omega⟩ := Fin.ext (Nat.add_comm _ _)
    rw [e]
  · rw [dif_neg h, dif_neg h]
    have e : (⟨32 + (j.val - 32), by omega⟩ : Fin 64) = j := Fin.ext (by show 32 + (j.val - 32) = j.val; omega)
    rw [e]

theorem refKeys_at (u : FVec Ideal S16896x4096 .f32) (p : FVec Ideal S16896x64 .f32) (i : S16896x4096.Idx) :
    refKeys u p i = if (i 1).val % 256 < 128 then u i else if h : (i 1).val % 256 < 192 then p (ix2 (i 0) ⟨(i 1).val % 256 - 128, by omega⟩) else 0 := by
  unfold refKeys
  pointwise
  by_cases h : (i 1).val % 256 < 128
  · rw [dif_pos h, if_pos h]
  rw [dif_neg h, if_neg h]
  by_cases h' : (i 1).val % 256 < 192
  · rw [dif_pos (by omega), dif_pos h']
  · rw [dif_neg (by omega), dif_neg h']

/-- The rows in blocks of 768. -/
theorem split_at (v : FVec Ideal S16896x16x144 .f32) (a : Fin 22) (b : Fin 768) (h : Fin 16) (f : Fin 144) :
    (shapeCast S22x768x16x144 v shapeCasts_S16896x16x144_S22x768x16x144 : FVec Ideal S22x768x16x144 .f32) (ix4 a b h f) = v (ix3 ⟨768 * a.val + b.val, by omega⟩ h f) := by
  pointwise
  have e : (⟨a.val * 768 + b.val, by omega⟩ : Fin 16896) = ⟨768 * a.val + b.val, by omega⟩ := Fin.ext (by show a.val * 768 + b.val = 768 * a.val + b.val; omega)
  rw [e]

/-- A row's values in its heads, and ones. -/
def cat (u : FVec Ideal S16896x4096 .f32) : FVec Ideal S16896x16x144 .f32 :=
  concatenate S16896x16x144 2 [⟨S16896x16x128, (extractStridedSlice S16896x16x128 ![0, 0, 128] (shapeCast _ u shapeCasts_S16896x4096_S16896x16x256) slices_S16896x16x256_S16896x16x128_0_0_128 : FVec Ideal S16896x16x128 .f32)⟩, ⟨S16896x16x16, (broadcastInDim S16896x16x16 ![] bcast_S_S16896x16x16 (constant S_ .f32 0x3F800000#32) : FVec Ideal S16896x16x16 .f32)⟩] concatenates_S16896x16x128_S16896x16x16_S16896x16x144_d2

theorem cat_at (u : FVec Ideal S16896x4096 .f32) (r : Fin 16896) (h : Fin 16) (f : Fin 144) :
    cat u (ix3 r h f) = if p : f.val < 128 then u (ix2 r ⟨256 * h.val + (128 + f.val), by omega⟩) else 1 := by
  unfold cat
  pointwise
  by_cases p : f.val < 128
  · rw [dif_pos p, dif_pos p]
    have e : (⟨h.val * 256 + (128 + f.val), by omega⟩ : Fin 4096) = ⟨256 * h.val + (128 + f.val), by omega⟩ := Fin.ext (by show h.val * 256 + (128 + f.val) = 256 * h.val + (128 + f.val); omega)
    rw [e]
  · rw [dif_neg p, dif_neg p]

/-- The heads' values, from the product. -/
def refVals (u : FVec Ideal S16896x4096 .f32) : FVec Ideal S16x22x144x768 .bf16 :=
  truncf .bf16 (transpose S16x22x144x768 [2, 0, 3, 1] (shapeCast _ (cat u) shapeCasts_S16896x16x144_S22x768x16x144) transposes_S22x768x16x144_S16x22x144x768_2_0_3_1) bitsLt_bf16_f32

theorem perm_at (v : FVec Ideal S22x768x16x144 .f32) (h : Fin 16) (a : Fin 22) (f : Fin 144) (b : Fin 768) :
    transpose S16x22x144x768 [2, 0, 3, 1] v transposes_S22x768x16x144_S16x22x144x768_2_0_3_1 (ix4 h a f b) = v (ix4 a b h f) := by
  refine transpose_apply _ v _ _ (ix4 a b h f) fun z => ?_
  match z with | ⟨0, _⟩ => rfl | ⟨1, _⟩ => rfl | ⟨2, _⟩ => rfl | ⟨3, _⟩ => rfl

theorem trunc_at (v : FVec Ideal S16x22x144x768 .f32) (i : S16x22x144x768.Idx) : (truncf .bf16 v bitsLt_bf16_f32 : FVec Ideal S16x22x144x768 .bf16) i = v i := rfl

theorem refVals_at (u : FVec Ideal S16896x4096 .f32) (h : Fin 16) (a : Fin 22) (f : Fin 144) (b : Fin 768) :
    refVals u (ix4 h a f b) = cat u (ix3 ⟨768 * a.val + b.val, by omega⟩ h f) := by
  unfold refVals
  exact (trunc_at _ _).trans ((perm_at _ h a f b).trans (split_at (cat u) a b h f))

theorem ref_keys (z : S16896x512.Idx → EReal) (kr : S16896x64.Idx → EReal) (cs sn : S16896x32.Idx → EReal) (g : S512.Idx → EReal) (w : S512x4096.Idx → EReal) :
    refKeys (refKv z g w) (refRope kr cs sn) = keys z kr cs sn g w := by
  funext i
  rw [refKeys_at, refKv_at]
  unfold keys
  refine if_congr Iff.rfl rfl ?_
  by_cases h : (i 1).val % 256 < 192
  · rw [dif_pos h, dif_pos h]
    exact refRope_at kr cs sn _ _
  · rw [dif_neg h, dif_neg h]

theorem ref_vals (z : S16896x512.Idx → EReal) (g : S512.Idx → EReal) (w : S512x4096.Idx → EReal) : refVals (refKv z g w) = vals z g w := by
  funext i
  have ei : i = ix4 (i 0) (i 1) (i 2) (i 3) := by funext a; match a with | ⟨0, _⟩ => rfl | ⟨1, _⟩ => rfl | ⟨2, _⟩ => rfl | ⟨3, _⟩ => rfl
  refine (congrArg _ ei).trans ((refVals_at _ (i 0) (i 1) (i 2) (i 3)).trans ((cat_at _ _ _ _).trans ?_))
  unfold vals
  by_cases p : (i 2).val < 128
  · rw [dif_pos p, dif_pos p]
    exact refKv_at z g w _
  · rw [dif_neg p, dif_neg p]

end Cert.Reference12Ideal.Latent

end
-- ==== Proof.Latent.Kv.lean ====
module

public import proofs.«01_k».proof.Defs
public import proofs.«01_k».proof.Proof.Gen.Kernel12Ideal.Value
public import proofs.«01_k».proof.Proof.Latent.KvRef
public import Idealize.ShloMosaic.Lib.Pipeline.Covers
public import Idealize.ShloMosaic.Lib.Pipeline.ReadBack
public import Idealize.ShloMosaic.Lib.Pointwise
public import Idealize.ShloMosaic.Lib.MatmulPlain
public import Idealize.ShloMosaic.Lib.Pipeline.ValueKit
public import Idealize.ShloMosaic.Lib.Claim
public import Idealize.ShloMosaic.Lib.WordCmp

@[expose] public section

/-! # The keys and values of the latent attention, from the normed latents and the rotary key -/

noncomputable section

namespace Cert.Kernel12Ideal.Value

open Cert.Kernel12Ideal Cert.Kernel12Ideal.Gen Idealize.ShloMosaic Idealize.ShloMosaic.TcCoe Idealize.SL.Sem
open Idealize.ShloMosaic.Pipeline (Dat)
open Cert.Reference12Ideal.Latent
open scoped BigOperators

variable (m : (ℓ : Loc nD τ sig) → Buf (Elt Ideal) ℓ)

/-! ## One block, from the normed latents, the weight's block, the key's and the tables' -/

/-- The block of the normed latents. -/
theorem pay5_eq (X : S768x512.Idx → EReal) (G : S1x512.Idx → EReal) (r : Fin 768) (k : Fin 512) :
    k0_pay5 (F := Ideal) X G (ix2 r k) = rms (fun q => X (ix2 r q)) (fun q => G (ix2 0 q)) k := by
  open_payloads
  pointwise
  rfl

/-- Columns of the product, in a block. -/
def acc (S : S768x512.Idx → EReal) (W : S512x1024.Idx → EReal) (r : Fin 768) (q : Fin 1024) : EReal :=
  ∑ k : Fin 512, S (ix2 r k) * W (ix2 k q)

/-- The turned key of a block: the key and its swapped half against the tables. -/
def turn (K T : S768x128.Idx → EReal) (r : Fin 768) (q : Fin 64) : EReal :=
  K (ix2 r ⟨q.val, by omega⟩) * T (ix2 r ⟨q.val, by omega⟩) + K (ix2 r ⟨q.val + 64, by omega⟩) * T (ix2 r ⟨q.val + 64, by omega⟩)

/-- A block of the keys: in each head the product's columns, the turned key, zeros. -/
def keysB (S : S768x512.Idx → EReal) (W : S512x1024.Idx → EReal) (K T : S768x128.Idx → EReal) : S768x1024.Idx → EReal := fun y =>
  if (y 1).val % 256 < 128 then acc S W (y 0) (y 1)
  else if h : (y 1).val % 256 < 192 then turn K T (y 0) ⟨(y 1).val % 256 - 128, by omega⟩
  else 0

/-- A block of the values: in each head the product's other columns, transposed, and rows of ones. -/
def valsB (S : S768x512.Idx → EReal) (W : S512x1024.Idx → EReal) : S4x1x144x768.Idx → EReal := fun y =>
  if h : (y 2).val < 128 then acc S W (y 3) ⟨256 * (y 0).val + (128 + (y 2).val), by have : (y 0).val < 4 := (y 0).isLt; omega⟩
  else 1

theorem pay7_eq (K T : S768x128.Idx → EReal) (x : S768x128.Idx) :
    k0_pay7 (F := Ideal) K T x = if h : (x 1).val < 64 then turn K T (x 0) ⟨(x 1).val, h⟩ else 0 := by
  have hx : (x 1).val < 128 := (x 1).isLt
  open_payloads
  pointwise
  by_cases h : (x 1).val < 64
  · rw [dif_pos h]
    refine (if_pos ((WordCmp.cmpi_slt_ofNat_eq_one_iff (b := 64) (by omega) (by norm_num)).mpr h)).trans ?_
    have e : (⟨((x 1).val + 128 - 64) % 128, Nat.mod_lt _ (by decide)⟩ : Fin 128) = ⟨(x 1).val + 64, by omega⟩ := Fin.ext (by show ((x 1).val + 128 - 64) % 128 = (x 1).val + 64; omega)
    have ex : x = ix2 (x 0) (x 1) := by funext a; match a with | ⟨0, _⟩ => rfl | ⟨1, _⟩ => rfl
    rw [e]
    unfold turn
    exact congrArg₂ (· + ·) (congrArg (fun z => K z * T z) ex) rfl
  · rw [dif_neg h]
    exact if_neg fun z => h ((WordCmp.cmpi_slt_ofNat_eq_one_iff (b := 64) (by omega) (by norm_num)).mp z)

theorem key_piece (S : S768x512.Idx → EReal) (W : S512x1024.Idx → EReal) (K T : S768x128.Idx → EReal) (y : S768x1024.Idx) (r : Fin 768) (q : Fin 1024)
    (h0 : (y 0).val = r.val) (h1 : (y 1).val = q.val) (hq : q.val % 256 < 128) :
    (∑ k : Fin 512, S (ix2 r k) * W (ix2 k q)) = keysB S W K T y := by
  have e0 : y 0 = r := Fin.ext h0
  have e1 : y 1 = q := Fin.ext h1
  unfold keysB
  rw [if_pos (by omega), e0, e1]
  rfl

theorem turn_piece (S : S768x512.Idx → EReal) (W : S512x1024.Idx → EReal) (K T : S768x128.Idx → EReal) (y : S768x1024.Idx) (x : S768x128.Idx) (o : ℕ)
    (h0 : (y 0).val = (x 0).val) (h1 : (y 1).val = o + (x 1).val) (ho : o % 256 = 128) :
    k0_pay7 (F := Ideal) K T x = keysB S W K T y := by
  have hx : (x 1).val < 128 := (x 1).isLt
  have e0 : y 0 = x 0 := Fin.ext h0
  rw [pay7_eq]
  unfold keysB
  rw [if_neg (by omega)]
  by_cases h : (x 1).val < 64
  · rw [dif_pos h, dif_pos (by omega), e0]
    exact congrArg _ (Fin.ext (by show (x 1).val = (y 1).val % 256 - 128; omega))
  · rw [dif_neg h, dif_neg (by omega)]

theorem val_piece (S : S768x512.Idx → EReal) (W : S512x1024.Idx → EReal) (y : S4x1x144x768.Idx) (r : Fin 768) (q : Fin 1024)
    (h : (y 2).val < 128) (h3 : (y 3).val = r.val) (hq : 256 * (y 0).val + (128 + (y 2).val) = q.val) :
    (∑ k : Fin 512, S (ix2 r k) * W (ix2 k q)) = valsB S W y := by
  have e3 : y 3 = r := Fin.ext h3
  unfold valsB
  rw [dif_pos h, e3]
  exact congrArg (acc S W r) (Fin.ext hq.symm)

theorem one_piece (S : S768x512.Idx → EReal) (W : S512x1024.Idx → EReal) (y : S4x1x144x768.Idx) (h : 128 ≤ (y 2).val) :
    (1 : EReal) = valsB S W y := by
  unfold valsB
  rw [dif_neg (Nat.not_lt.mpr h)]

set_option maxHeartbeats 1000000 in
/-- The first result's block at every point, from the normed latents the point leaves. -/
theorem keys_at (c : Dev nD) (t : Fin cfg0.N) (y : S768x1024.Idx) :
    (outsAt0 m c t.val t.isLt).1 y = keysB (outsAt0 m c t.val t.isLt).2.2 (iblk m c 2 t) (iblk m c 3 t) (iblk m c 4 t) y := by
  by_cases p : t.val % 4 = 0
  · rw [outsAt0_A m c t p]
    frame_out
    generalize k0_pay5 (F := Ideal) (X0_0 m c t) (iblk m c 1 t) = S
    generalize iblk m c 2 t = W
    generalize iblk m c 3 t = K
    generalize iblk m c 4 t = T
    canon_tiles x h using (View.cover_of_tiledL (s := S768x1024) _ ![768, 128] (by sl_kernel_rfl) y)
    all_goals first
      | exact turn_piece S W K T y x _ h0 h1 (by decide)
      | (open_payloads; pointwise; exact key_piece S W K T y _ _ h0 h1 (by dsimp only; omega))
  · rw [outsAt0_B m c t p]
    frame_out
    unfold sout0_B_0
    rw [read_unread_whole]
    generalize (outsAt0 m c (t.val - 1) _).2.2 = S
    generalize iblk m c 2 t = W
    generalize iblk m c 3 t = K
    generalize iblk m c 4 t = T
    canon_tiles x h using (View.cover_of_tiledL (s := S768x1024) _ ![768, 128] (by sl_kernel_rfl) y)
    all_goals first
      | exact turn_piece S W K T y x _ h0 h1 (by decide)
      | (open_payloads; pointwise; exact key_piece S W K T y _ _ h0 h1 (by dsimp only; omega))

set_option maxHeartbeats 1000000 in
/-- The second result's. -/
theorem vals_at (c : Dev nD) (t : Fin cfg0.N) (y : S4x1x144x768.Idx) :
    (outsAt0 m c t.val t.isLt).2.1 y = valsB (outsAt0 m c t.val t.isLt).2.2 (iblk m c 2 t) y := by
  by_cases p : t.val % 4 = 0
  · rw [outsAt0_A m c t p]
    frame_out
    generalize k0_pay5 (F := Ideal) (X0_0 m c t) (iblk m c 1 t) = S
    generalize iblk m c 2 t = W
    canon_tiles x h using (View.cover_of_tiledBy _ ![1, 1, 16, 768] (by sl_kernel_rfl) y)
    all_goals open_payloads
    all_goals pointwise
    all_goals first
      | exact val_piece S W y _ _ (by omega) h3 (by dsimp only; omega)
      | exact one_piece S W y (by omega)
  · rw [outsAt0_B m c t p]
    frame_out
    unfold sout0_B_0
    rw [read_unread_whole]
    generalize (outsAt0 m c (t.val - 1) _).2.2 = S
    generalize iblk m c 2 t = W
    canon_tiles x h using (View.cover_of_tiledBy _ ![1, 1, 16, 768] (by sl_kernel_rfl) y)
    all_goals open_payloads
    all_goals pointwise
    all_goals first
      | exact val_piece S W y _ _ (by omega) h3 (by dsimp only; omega)
      | exact one_piece S W y (by omega)

/-! ## The blocks, from the arguments -/

/-- The block index of every window, by the point: four blocks of columns to a block of rows. -/
theorem index_eq : ∀ t : Fin cfg0.N,
    win0_0.index t 0 = t.val / 4 ∧ win0_0.index t 1 = 3 ∧ win0_1.index t 1 = 0 ∧ win0_2.index t 0 = 0 ∧ win0_2.index t 1 = t.val % 4
    ∧ win0_3.index t 0 = t.val / 4 ∧ win0_3.index t 1 = 17 ∧ win0_4.index t 0 = t.val / 4 ∧ win0_4.index t 1 = 0
    ∧ win0_5.index t 0 = t.val / 4 ∧ win0_5.index t 1 = t.val % 4
    ∧ win0_6.index t 0 = t.val % 4 ∧ win0_6.index t 1 = t.val / 4 ∧ win0_6.index t 2 = 0 ∧ win0_6.index t 3 = 0 := by
  decide +kernel

/-- The call's row of latents and keys: zeros, the latents, zeros, the rotary key, and the key with its halves swapped and one of them negated. -/
def laid (z : S16896x512.Idx → EReal) (kr : S16896x64.Idx → EReal) : S16896x2304.Idx → EReal :=
  (concatenate S16896x2304 1 [⟨S16896x1536, (broadcastInDim S16896x1536 ![] bcast_S_S16896x1536 (constant S_ .f32 0x00000000#32) : FVec Ideal S16896x1536 .f32)⟩, ⟨S16896x512, (z : FVec Ideal S16896x512 .f32)⟩,
      ⟨S16896x128, (broadcastInDim S16896x128 ![] bcast_S_S16896x128 (constant S_ .f32 0x00000000#32) : FVec Ideal S16896x128 .f32)⟩, ⟨S16896x64, (kr : FVec Ideal S16896x64 .f32)⟩,
      ⟨S16896x64, (concatenate S16896x64 1 [⟨S16896x32, (Host.negf (extractStridedSlice S16896x32 ![0, 32] (kr : FVec Ideal S16896x64 .f32) slices_S16896x64_S16896x32_0_32) : FVec Ideal S16896x32 .f32)⟩,
        ⟨S16896x32, (extractStridedSlice S16896x32 ![0, 0] (kr : FVec Ideal S16896x64 .f32) slices_S16896x64_S16896x32_0_0 : FVec Ideal S16896x32 .f32)⟩] concatenates_S16896x32_S16896x32_S16896x64_d1 : FVec Ideal S16896x64 .f32)⟩]
    concatenates_S16896x1536_S16896x512_S16896x128_S16896x64_S16896x64_S16896x2304_d1 : FVec Ideal S16896x2304 .f32)

theorem V_laid (c : Dev nD) : V m c main_v6 = laid (m ((c : Thread nD τ).loc main_arg0)) (m ((c : Thread nD τ).loc main_arg1)) := by
  unfold V laid
  after_results_simp <;> (try dsimp only [Matrix.cons_val]) <;> (try after_results_simp) <;> rfl

theorem laid_latent (z : S16896x512.Idx → EReal) (kr : S16896x64.Idx → EReal) (r : Fin 16896) (q : Fin 512) :
    laid z kr (ix2 r ⟨1536 + q.val, by omega⟩) = z (ix2 r q) := by
  unfold laid
  pointwise

theorem laid_key (z : S16896x512.Idx → EReal) (kr : S16896x64.Idx → EReal) (r : Fin 16896) (q : Fin 64) :
    laid z kr (ix2 r ⟨2176 + q.val, by omega⟩) = kr (ix2 r q) := by
  unfold laid
  pointwise
  refine (dif_neg (by omega)).trans ((dif_neg (by omega)).trans ((dif_neg (by omega)).trans ((dif_pos (by omega)).trans (congrArg (fun y => kr (ix2 r y)) (Fin.ext ?_)))))
  show 2176 + q.val - 1536 - 512 - 128 = q.val
  omega

theorem laid_low (z : S16896x512.Idx → EReal) (kr : S16896x64.Idx → EReal) (r : Fin 16896) (q : Fin 32) :
    laid z kr (ix2 r ⟨2240 + q.val, by omega⟩) = -kr (ix2 r ⟨q.val + 32, by omega⟩) := by
  unfold laid
  pointwise
  refine (dif_neg (by omega)).trans ((dif_neg (by omega)).trans ((dif_neg (by omega)).trans ((dif_neg (by omega)).trans ((dif_pos (by omega)).trans (congrArg (fun y => -kr (ix2 r y)) (Fin.ext ?_))))))
  show 32 + (2240 + q.val - 1536 - 512 - 128 - 64) = q.val + 32
  omega

theorem laid_high (z : S16896x512.Idx → EReal) (kr : S16896x64.Idx → EReal) (r : Fin 16896) (q : Fin 32) :
    laid z kr (ix2 r ⟨2272 + q.val, by omega⟩) = kr (ix2 r ⟨q.val, by omega⟩) := by
  unfold laid
  pointwise
  refine (dif_neg (by omega)).trans ((dif_neg (by omega)).trans ((dif_neg (by omega)).trans ((dif_neg (by omega)).trans ((dif_neg (by omega)).trans (congrArg (fun y => kr (ix2 r y)) (Fin.ext ?_))))))
  show 2272 + q.val - 1536 - 512 - 128 - 64 - 32 = q.val
  omega

/-- The tables as the call gets them: each twice. -/
def tables (cs sn : S16896x32.Idx → EReal) : S16896x128.Idx → EReal :=
  (concatenate S16896x128 1 [⟨S16896x32, (cs : FVec Ideal S16896x32 .f32)⟩, ⟨S16896x32, (cs : FVec Ideal S16896x32 .f32)⟩, ⟨S16896x32, (sn : FVec Ideal S16896x32 .f32)⟩, ⟨S16896x32, (sn : FVec Ideal S16896x32 .f32)⟩]
    concatenates_S16896x32_S16896x32_S16896x32_S16896x32_S16896x128_d1 : FVec Ideal S16896x128 .f32)

theorem V_tables (c : Dev nD) : V m c main_v7 = tables (m ((c : Thread nD τ).loc main_arg2)) (m ((c : Thread nD τ).loc main_arg3)) := by
  unfold V tables
  after_results_simp <;> (try dsimp only [Matrix.cons_val]) <;> (try after_results_simp) <;> rfl

theorem tables_at (cs sn : S16896x32.Idx → EReal) (r : Fin 16896) (j : Fin 128) :
    tables cs sn (ix2 r j) = if j.val < 64 then cs (ix2 r ⟨j.val % 32, Nat.mod_lt _ (by decide)⟩) else sn (ix2 r ⟨j.val % 32, Nat.mod_lt _ (by decide)⟩) := by
  have hj := j.isLt
  unfold tables
  pointwise
  by_cases h : j.val < 64
  · rw [if_pos h]
    by_cases h' : j.val < 32
    · exact (dif_pos h').trans (congrArg (fun y => cs (ix2 r y)) (Fin.ext (by show j.val = j.val % 32; omega)))
    · exact (dif_neg h').trans ((dif_pos (by omega)).trans (congrArg (fun y => cs (ix2 r y)) (Fin.ext (by show j.val - 32 = j.val % 32; omega))))
  · rw [if_neg h]
    by_cases h' : j.val < 96
    · exact (dif_neg (by omega)).trans ((dif_neg (by omega)).trans ((dif_pos (by omega)).trans (congrArg (fun y => sn (ix2 r y)) (Fin.ext (by show j.val - 32 - 32 = j.val % 32; omega)))))
    · exact (dif_neg (by omega)).trans ((dif_neg (by omega)).trans ((dif_neg (by omega)).trans (congrArg (fun y => sn (ix2 r y)) (Fin.ext (by show j.val - 32 - 32 - 32 = j.val % 32; omega)))))

/-- The gain as the call gets it: a row. -/
theorem V_gain (c : Dev nD) (i : S1x512.Idx) : V m c main_v8 i = m ((c : Thread nD τ).loc main_arg4) (ix1 (i 1)) := by
  have e : V m c main_v8 = (broadcastInDim S1x512 ![1] bcast_S512_S1x512_1 (m ((c : Thread nD τ).loc main_arg4) : FVec Ideal S512 .f32) : FVec Ideal S1x512 .f32) := by
    unfold V
    after_results_simp <;> rfl
  rw [e]
  pointwise

theorem X_blk (c : Dev nD) (t : Fin cfg0.N) (r : Fin 768) (q : Fin 512) (R : Fin 16896) (h : R.val = 768 * (t.val / 4) + r.val) :
    X0_0 m c t (ix2 r q) = m ((c : Thread nD τ).loc main_arg0) (ix2 R q) := by
  refine Eq.trans ?_ (laid_latent _ (m ((c : Thread nD τ).loc main_arg1)) R q)
  rw [← V_laid]
  unfold X0_0 Pipeline.Window.fill
  rw [dif_pos (moved0_0 t _)]
  unfold iblk
  rw [View.read_apply]
  show V m c main_v6 _ = V m c main_v6 _
  congr 1
  funext a
  apply Fin.ext
  match a with
  | ⟨0, _⟩ => show win0_0.index t 0 * 768 + 1 * r.val = R.val; rw [(index_eq t).1]; omega
  | ⟨1, _⟩ => show win0_0.index t 1 * 512 + 1 * q.val = 1536 + q.val; rw [(index_eq t).2.1]; omega

theorem G_blk (c : Dev nD) (t : Fin cfg0.N) (q : Fin 512) : iblk m c 1 t (ix2 0 q) = m ((c : Thread nD τ).loc main_arg4) (ix1 q) := by
  unfold iblk
  rw [View.read_apply]
  show V m c main_v8 _ = _
  rw [V_gain]
  congr 2
  apply Fin.ext
  show win0_1.index t 1 * 512 + 1 * q.val = q.val
  rw [(index_eq t).2.2.1]; omega

theorem W_blk (c : Dev nD) (t : Fin cfg0.N) (k : Fin 512) (q : Fin 1024) (j : Fin 4096) (h : j.val = 1024 * (t.val % 4) + q.val) :
    iblk m c 2 t (ix2 k q) = m ((c : Thread nD τ).loc main_arg5) (ix2 k j) := by
  unfold iblk
  rw [View.read_apply]
  rw [← V_main_arg5 m c]
  show V m c main_arg5 _ = V m c main_arg5 _
  congr 1
  funext a
  apply Fin.ext
  match a with
  | ⟨0, _⟩ => show win0_2.index t 0 * 512 + 1 * k.val = k.val; rw [(index_eq t).2.2.2.1]; omega
  | ⟨1, _⟩ => show win0_2.index t 1 * 1024 + 1 * q.val = j.val; rw [(index_eq t).2.2.2.2.1]; omega

theorem K_blk (c : Dev nD) (t : Fin cfg0.N) (r : Fin 768) (q : Fin 128) (R : Fin 16896) (h : R.val = 768 * (t.val / 4) + r.val) :
    iblk m c 3 t (ix2 r q) = laid (m ((c : Thread nD τ).loc main_arg0)) (m ((c : Thread nD τ).loc main_arg1)) (ix2 R ⟨2176 + q.val, by omega⟩) := by
  rw [← V_laid]
  unfold iblk
  rw [View.read_apply]
  show V m c main_v6 _ = V m c main_v6 _
  congr 1
  funext a
  apply Fin.ext
  match a with
  | ⟨0, _⟩ => show win0_3.index t 0 * 768 + 1 * r.val = R.val; rw [(index_eq t).2.2.2.2.2.1]; omega
  | ⟨1, _⟩ => show win0_3.index t 1 * 128 + 1 * q.val = 2176 + q.val; rw [(index_eq t).2.2.2.2.2.2.1]; omega

theorem T_blk (c : Dev nD) (t : Fin cfg0.N) (r : Fin 768) (q : Fin 128) (R : Fin 16896) (h : R.val = 768 * (t.val / 4) + r.val) :
    iblk m c 4 t (ix2 r q) = tables (m ((c : Thread nD τ).loc main_arg2)) (m ((c : Thread nD τ).loc main_arg3)) (ix2 R q) := by
  rw [← V_tables]
  unfold iblk
  rw [View.read_apply]
  show V m c main_v7 _ = V m c main_v7 _
  congr 1
  funext a
  apply Fin.ext
  match a with
  | ⟨0, _⟩ => show win0_4.index t 0 * 768 + 1 * r.val = R.val; rw [(index_eq t).2.2.2.2.2.2.2.1]; omega
  | ⟨1, _⟩ => show win0_4.index t 1 * 128 + 1 * q.val = q.val; rw [(index_eq t).2.2.2.2.2.2.2.2.1]; omega

/-! ## The results -/

set_option maxHeartbeats 1000000 in
/-- The first point of a block of rows norms its latents; the others keep them. -/
theorem held (c : Dev nD) (n : ℕ) : ∀ (hn : n < cfg0.N) (r : Fin 768) (k : Fin 512) (R : Fin 16896), R.val = 768 * (n / 4) + r.val →
    (outsAt0 m c n hn).2.2 (ix2 r k) = latent (m ((c : Thread nD τ).loc main_arg0)) (m ((c : Thread nD τ).loc main_arg4)) R k := by
  induction n using Nat.strong_induction_on with
  | _ n ih =>
    intro hn r k R h
    by_cases p : n % 4 = 0
    · rw [show outsAt0 m c n hn = _ from outsAt0_A m c ⟨n, hn⟩ p]
      frame_out
      refine (pay5_eq _ _ r k).trans ?_
      unfold latent
      congr 1
      · exact funext fun q => X_blk m c ⟨n, hn⟩ r q R h
      · exact funext fun q => G_blk m c ⟨n, hn⟩ q
    · have hn' : n - 1 < cfg0.N := by omega
      rw [show outsAt0 m c n hn = _ from outsAt0_B m c ⟨n, hn⟩ p]
      exact ih (n - 1) (by omega) hn' r k R (by omega)

theorem acc_eq (c : Dev nD) (t : Fin cfg0.N) (r : Fin 768) (q : Fin 1024) (R : Fin 16896) (j : Fin 4096)
    (h : R.val = 768 * (t.val / 4) + r.val) (hj : j.val = 1024 * (t.val % 4) + q.val) :
    acc (outsAt0 m c t.val t.isLt).2.2 (iblk m c 2 t) r q
      = kv (m ((c : Thread nD τ).loc main_arg0)) (m ((c : Thread nD τ).loc main_arg4)) (m ((c : Thread nD τ).loc main_arg5)) R j :=
  Finset.sum_congr rfl fun k _ => congrArg₂ (· * ·) (held m c t.val t.isLt r k R h) (W_blk m c t k q j hj)

/-- The key against the tables, with its swapped half, is the key turned. -/
theorem turn_eq (c : Dev nD) (t : Fin cfg0.N) (r : Fin 768) (q : Fin 64) (R : Fin 16896) (h : R.val = 768 * (t.val / 4) + r.val) :
    turn (iblk m c 3 t) (iblk m c 4 t) r q
      = rope (m ((c : Thread nD τ).loc main_arg1)) (m ((c : Thread nD τ).loc main_arg2)) (m ((c : Thread nD τ).loc main_arg3)) R q := by
  have hq := q.isLt
  unfold turn rope
  rw [K_blk m c t r _ R h, K_blk m c t r _ R h, T_blk m c t r _ R h, T_blk m c t r _ R h, tables_at, tables_at, if_pos hq, if_neg (by dsimp only; omega), laid_key _ _ R q]
  by_cases p : q.val < 32
  · rw [dif_pos p, sub_eq_add_neg, ← EReal.neg_mul]
    have e : (⟨2176 + (q.val + 64), by omega⟩ : Fin 2304) = ⟨2240 + (⟨q.val, p⟩ : Fin 32).val, by dsimp only; omega⟩ := Fin.ext (by dsimp only; omega)
    have e1 : (⟨q.val % 32, Nat.mod_lt _ (by decide)⟩ : Fin 32) = ⟨q.val, p⟩ := Fin.ext (by dsimp only; omega)
    have e2 : (⟨(q.val + 64) % 32, Nat.mod_lt _ (by decide)⟩ : Fin 32) = ⟨q.val, p⟩ := Fin.ext (by dsimp only; omega)
    dsimp only
    rw [e, laid_low, e1, e2]
  · rw [dif_neg p, add_comm]
    have e : (⟨2176 + (q.val + 64), by omega⟩ : Fin 2304) = ⟨2272 + (⟨q.val - 32, by omega⟩ : Fin 32).val, by dsimp only; omega⟩ := Fin.ext (by dsimp only; omega)
    have e1 : (⟨q.val % 32, Nat.mod_lt _ (by decide)⟩ : Fin 32) = ⟨q.val - 32, by omega⟩ := Fin.ext (by dsimp only; omega)
    have e2 : (⟨(q.val + 64) % 32, Nat.mod_lt _ (by decide)⟩ : Fin 32) = ⟨q.val - 32, by omega⟩ := Fin.ext (by dsimp only; omega)
    dsimp only
    rw [e, laid_high, e1, e2]

theorem emb5 (t : Fin cfg0.N) (y : S768x1024.Idx) :
    ((((View.whole main_v9_0).slice (win0_5.rect t)).emb y) 0).val = 768 * (t.val / 4) + (y 0).val
    ∧ ((((View.whole main_v9_0).slice (win0_5.rect t)).emb y) 1).val = 1024 * (t.val % 4) + (y 1).val := by
  constructor
  · show win0_5.index t 0 * 768 + 1 * (y 0).val = _
    rw [(index_eq t).2.2.2.2.2.2.2.2.2.1]; omega
  · show win0_5.index t 1 * 1024 + 1 * (y 1).val = _
    rw [(index_eq t).2.2.2.2.2.2.2.2.2.2.1]; omega

theorem emb6 (t : Fin cfg0.N) (y : S4x1x144x768.Idx) :
    ((((View.whole main_v9_1).slice (win0_6.rect t)).emb y) 0).val = 4 * (t.val % 4) + (y 0).val
    ∧ ((((View.whole main_v9_1).slice (win0_6.rect t)).emb y) 1).val = t.val / 4
    ∧ ((((View.whole main_v9_1).slice (win0_6.rect t)).emb y) 2).val = (y 2).val
    ∧ ((((View.whole main_v9_1).slice (win0_6.rect t)).emb y) 3).val = (y 3).val := by
  have h1 : (y 1).val < 1 := (y 1).isLt
  refine ⟨?_, ?_, ?_, ?_⟩
  · show win0_6.index t 0 * 4 + 1 * (y 0).val = _
    rw [(index_eq t).2.2.2.2.2.2.2.2.2.2.2.1]; omega
  · show win0_6.index t 1 * 1 + 1 * (y 1).val = _
    rw [(index_eq t).2.2.2.2.2.2.2.2.2.2.2.2.1]; omega
  · show win0_6.index t 2 * 144 + 1 * (y 2).val = _
    rw [(index_eq t).2.2.2.2.2.2.2.2.2.2.2.2.2.1]; omega
  · show win0_6.index t 3 * 768 + 1 * (y 3).val = _
    rw [(index_eq t).2.2.2.2.2.2.2.2.2.2.2.2.2.2]; omega

theorem keysB_eq (c : Dev nD) (t : Fin cfg0.N) (y : S768x1024.Idx) (i : S16896x4096.Idx)
    (h0 : (i 0).val = 768 * (t.val / 4) + (y 0).val) (h1 : (i 1).val = 1024 * (t.val % 4) + (y 1).val) :
    keysB (outsAt0 m c t.val t.isLt).2.2 (iblk m c 2 t) (iblk m c 3 t) (iblk m c 4 t) y
      = keys (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) i := by
  have hm : (i 1).val % 256 = (y 1).val % 256 := by omega
  unfold keysB keys
  by_cases p : (y 1).val % 256 < 128
  · rw [if_pos p, if_pos (by omega)]
    exact acc_eq m c t _ _ _ _ h0 h1
  rw [if_neg p, if_neg (by omega)]
  by_cases q : (y 1).val % 256 < 192
  · rw [dif_pos q, dif_pos (by omega)]
    exact (turn_eq m c t _ _ _ h0).trans (congrArg _ (Fin.ext (by dsimp only; omega)))
  · rw [dif_neg q, dif_neg (by omega)]

theorem valsB_eq (c : Dev nD) (t : Fin cfg0.N) (y : S4x1x144x768.Idx) (i : S16x22x144x768.Idx)
    (h0 : (i 0).val = 4 * (t.val % 4) + (y 0).val) (h1 : (i 1).val = t.val / 4) (h2 : (i 2).val = (y 2).val) (h3 : (i 3).val = (y 3).val) :
    valsB (outsAt0 m c t.val t.isLt).2.2 (iblk m c 2 t) y
      = vals (m ((c : Thread nD τ).loc main_arg0)) (m ((c : Thread nD τ).loc main_arg4)) (m ((c : Thread nD τ).loc main_arg5)) i := by
  unfold valsB vals
  by_cases p : (y 2).val < 128
  · rw [dif_pos p, dif_pos (by omega)]
    exact acc_eq m c t _ _ _ _ (by dsimp only; omega) (by dsimp only; omega)
  · rw [dif_neg p, dif_neg (by omega)]

theorem out5 (c : Dev nD) : (dats m 0 c).arrAt 5 cfg0.N
    = keys (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) := by
  refine (dats m 0 c).arrAt_eq_of_covers 5 _ (by decide +kernel) fun t hf y => ?_
  blk_simp
  rw [after0_5]
  exact (keys_at m c t y).trans (keysB_eq m c t y _ (emb5 t y).1 (emb5 t y).2)

theorem out6 (c : Dev nD) : (dats m 0 c).arrAt 6 cfg0.N
    = vals (m ((c : Thread nD τ).loc main_arg0)) (m ((c : Thread nD τ).loc main_arg4)) (m ((c : Thread nD τ).loc main_arg5)) := by
  refine (dats m 0 c).arrAt_eq_of_covers 6 _ (by decide +kernel) fun t hf y => ?_
  blk_simp
  rw [after0_6]
  have e := emb6 t y
  exact (vals_at m c t y).trans (valsB_eq m c t y _ e.1 e.2.1 e.2.2.1 e.2.2.2)

theorem value : Cert.algebraic_Kernel12Ideal_Reference12Ideal := by
  intro m g m' g' _ hargs
  refine ⟨fun c => keys (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)), fun c => vals (m ((c : Thread nD τ).loc main_arg0)) (m ((c : Thread nD τ).loc main_arg4)) (m ((c : Thread nD τ).loc main_arg5)), ?_, ?_⟩
  · refine (θ_run _ _ _).mono (fun r h c => ?_) (run_blocks m g)
    exact ⟨(h c).1.trans (out5 m c), (h c).2.1.trans (out6 m c), (h c).2.2⟩
  · refine (θ_run _ _ _).mono (fun r h c => ?_) (Reference12Ideal.Value.run m' g')
    refine ⟨(h c).1.trans ?_, (h c).2.1.trans ?_, (h c).2.2⟩
    · rw [(hargs c).1, (hargs c).2.1, (hargs c).2.2.1, (hargs c).2.2.2.1, (hargs c).2.2.2.2.1, (hargs c).2.2.2.2.2]
      exact ref_keys _ _ _ _ _ _
    · rw [(hargs c).1, (hargs c).2.2.2.2.1, (hargs c).2.2.2.2.2]
      exact ref_vals _ _ _

end Cert.Kernel12Ideal.Value

end
-- ==== Proof.lean ====
/- The claims about calls of the layer: the causal attention, its keys and values, and the layer's products and norms. -/
module

public import proofs.«01_k».proof.Proof.Attn.Bits
public import proofs.«01_k».proof.Proof.Attn.Launch
public import proofs.«01_k».proof.Proof.Attn.Value
public import proofs.«01_k».proof.Proof.Mm.Up
public import proofs.«01_k».proof.Proof.Mm.Down
public import proofs.«01_k».proof.Proof.Mm.Out
public import proofs.«01_k».proof.Proof.Mm.InQk
public import proofs.«01_k».proof.Proof.Mm.InV
public import proofs.«01_k».proof.Proof.Mm.InO
public import proofs.«01_k».proof.Proof.Mm.InMisc
public import proofs.«01_k».proof.Proof.Norm.Final
public import proofs.«01_k».proof.Proof.Norm.Mid
public import proofs.«01_k».proof.Proof.Norm.Front
public import proofs.«01_k».proof.Proof.Latent.Kv
public import proofs.«01_k».proof.Defs
public import proofs.«01_k».proof.Proof.Gen.Pre_finite
public import proofs.«01_k».proof.Proof.Gen.On_positions
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.On_columns

@[expose] public section

noncomputable section

namespace Cert.Proof

open Idealize.ShloMosaic Idealize.SL.Sem

/-- The attention kernel over the reals: it ends, its arguments as launched, its counters at zero. -/
theorem frame1 : Cert.quiescent_KernelIdeal := fun m ρ _ => Cert.KernelIdeal.Attn.frame m ρ

/-- The attention reference likewise; it has no semaphore. -/
theorem frameRef1 : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem frameRef2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

theorem frameRef3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

theorem frameRef4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

theorem frameRef5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

theorem frameRef6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

theorem frameRef7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

theorem frameRef8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

theorem frameRef9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

theorem frameRef10 : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run m ρ)

theorem frameRef11 : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run m ρ)

theorem frameRef12 : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run m ρ)

/-- The mask's literal is the named mask, minus infinity. -/
theorem mask : Cert.preserves_Kernel_KernelIdeal :=
  ⟨rfl, fun s => IdealRules.named_const.ideal_named _ _ _ _ rfl, IdealRules.named_const.ideal_named_scalar _ _ _ _ rfl⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts,
    Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Pre_finite.Gen.facts, Cert.On_positions.Gen.facts, Cert.On_columns.Gen.facts,
    fun m g _ => Cert.KernelIdeal.Attn.frameBits m g, frame1, fun m g _ => Cert.KernelIdeal.Attn.frame m g, frameRef1, fun m g _ => frameRef1 m g trivial,
    fun m g _ => Cert.Kernel2.Gen.frame m g, fun m g _ => Cert.Kernel2Ideal.Gen.frame m g, frameRef2,
    fun m g _ => Cert.Kernel3.Gen.frame m g, fun m g _ => Cert.Kernel3Ideal.Gen.frame m g, frameRef3,
    fun m g _ => Cert.Kernel4.Gen.frame m g, fun m g _ => Cert.Kernel4Ideal.Gen.frame m g, frameRef4,
    fun m g _ => Cert.Kernel5.Gen.frame m g, fun m g _ => Cert.Kernel5Ideal.Gen.frame m g, frameRef5,
    fun m g _ => Cert.Kernel6.Gen.frame m g, fun m g _ => Cert.Kernel6Ideal.Gen.frame m g, frameRef6,
    fun m g _ => Cert.Kernel7.Gen.frame m g, fun m g _ => Cert.Kernel7Ideal.Gen.frame m g, frameRef7,
    fun m g _ => Cert.Kernel8.Gen.frame m g, fun m g _ => Cert.Kernel8Ideal.Gen.frame m g, frameRef8,
    fun m g _ => Cert.Kernel9.Gen.frame m g, fun m g _ => Cert.Kernel9Ideal.Gen.frame m g, frameRef9,
    fun m g _ => Cert.Kernel10.Gen.frame m g, fun m g _ => Cert.Kernel10Ideal.Gen.frame m g, frameRef10,
    fun m g _ => Cert.Kernel11.Gen.frame m g, fun m g _ => Cert.Kernel11Ideal.Gen.frame m g, frameRef11,
    fun m g _ => Cert.Kernel12.Gen.frame m g, fun m g _ => Cert.Kernel12Ideal.Gen.frame m g, frameRef12,
    mask, Cert.KernelIdeal.Attn.value, trivial, Cert.Kernel2Ideal.Value.value, trivial, Cert.Kernel3Ideal.Value.value, trivial, Cert.Kernel4Ideal.Value.value,
    trivial, Cert.Kernel5Ideal.Value.value, trivial, Cert.Kernel6Ideal.Value.value, trivial, Cert.Kernel7Ideal.Value.value, trivial, Cert.Kernel8Ideal.Value.value,
    trivial, Cert.Kernel9Ideal.Value.value, trivial, Cert.Kernel10Ideal.Value.value, trivial, Cert.Kernel11Ideal.Value.value, trivial, Cert.Kernel12Ideal.Value.value⟩

end Cert.Proof

end
